-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_combine_weights [hPre_combine_weights : Cert.Pre_combine_weights.Facts] (m : (ℓ : Loc Cert.MoeIdeal.nD Cert.MoeIdeal.τ Cert.MoeIdeal.sig) → Buf (Elt Ideal) ℓ) : Prop :=
  ∀ c : Dev Cert.MoeIdeal.nD,
    (Cert.Pre_combine_weights.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_combine_weights [hPre_combine_weights : Cert.Pre_combine_weights.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_combine_weights.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_router [hPre_finite_router : Cert.Pre_finite_router.Facts] (m : (ℓ : Loc Cert.MixIdeal.nD Cert.MixIdeal.τ Cert.MixIdeal.sig) → Buf (Elt Ideal) ℓ) : Prop :=
  ∀ c : Dev Cert.MixIdeal.nD,
    (Cert.Pre_finite_router.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17))).1 = (fun _ => 1#1)
    ∧ (Cert.Pre_finite_router.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17))).2.1 = (fun _ => 1#1)
    ∧ (Cert.Pre_finite_router.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17))).2.2.1 = (fun _ => 1#1)
    ∧ (Cert.Pre_finite_router.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17))).2.2.2.1 = (fun _ => 1#1)
    ∧ (Cert.Pre_finite_router.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17))).2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_router [hPre_finite_router : Cert.Pre_finite_router.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_router.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15)) (m ((c.tc : Thread Cert.MixRefIdeal.nD Cert.MixRefIdeal.τ).loc Cert.MixRefIdeal.main_arg16)) (m ((c.tc : Thread Cert.MixRefIdeal.nD Cert.MixRefIdeal.τ).loc Cert.MixRefIdeal.main_arg17))).1 = (fun _ => 1#1)
    ∧ (Cert.Pre_finite_router.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15)) (m ((c.tc : Thread Cert.MixRefIdeal.nD Cert.MixRefIdeal.τ).loc Cert.MixRefIdeal.main_arg16)) (m ((c.tc : Thread Cert.MixRefIdeal.nD Cert.MixRefIdeal.τ).loc Cert.MixRefIdeal.main_arg17))).2.1 = (fun _ => 1#1)
    ∧ (Cert.Pre_finite_router.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15)) (m ((c.tc : Thread Cert.MixRefIdeal.nD Cert.MixRefIdeal.τ).loc Cert.MixRefIdeal.main_arg16)) (m ((c.tc : Thread Cert.MixRefIdeal.nD Cert.MixRefIdeal.τ).loc Cert.MixRefIdeal.main_arg17))).2.2.1 = (fun _ => 1#1)
    ∧ (Cert.Pre_finite_router.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15)) (m ((c.tc : Thread Cert.MixRefIdeal.nD Cert.MixRefIdeal.τ).loc Cert.MixRefIdeal.main_arg16)) (m ((c.tc : Thread Cert.MixRefIdeal.nD Cert.MixRefIdeal.τ).loc Cert.MixRefIdeal.main_arg17))).2.2.2.1 = (fun _ => 1#1)
    ∧ (Cert.Pre_finite_router.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15)) (m ((c.tc : Thread Cert.MixRefIdeal.nD Cert.MixRefIdeal.τ).loc Cert.MixRefIdeal.main_arg16)) (m ((c.tc : Thread Cert.MixRefIdeal.nD Cert.MixRefIdeal.τ).loc Cert.MixRefIdeal.main_arg17))).2.2.2.2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeIdeal_pre_combine_weights [hMoeIdeal : Cert.MoeIdeal.Facts] [hPre_combine_weights : Cert.Pre_combine_weights.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_combine_weights m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_combine_weights [hMoeRefIdeal : Cert.MoeRefIdeal.Facts] [hPre_combine_weights : Cert.Pre_combine_weights.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_combine_weights m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16)
      ∧ r.2.mem ((c.tc : Thread Cert.Mix.nD Cert.Mix.τ).loc Cert.Mix.main_arg17) = m ((c.tc : Thread Cert.Mix.nD Cert.Mix.τ).loc Cert.Mix.main_arg17))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17))
      ∧ r.2.sem = fun _ => 0)

def quiescent_MixIdeal_pre_finite_router [hMixIdeal : Cert.MixIdeal.Facts] [hPre_finite_router : Cert.Pre_finite_router.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_router m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16)
      ∧ r.2.mem ((c.tc : Thread Cert.MixRefIdeal.nD Cert.MixRefIdeal.τ).loc Cert.MixRefIdeal.main_arg17) = m ((c.tc : Thread Cert.MixRefIdeal.nD Cert.MixRefIdeal.τ).loc Cert.MixRefIdeal.main_arg17))
      ∧ r.2.sem = fun _ => 0)

def quiescent_MixRefIdeal_pre_finite_router [hMixRefIdeal : Cert.MixRefIdeal.Facts] [hPre_finite_router : Cert.Pre_finite_router.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_router m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16)
      ∧ r.2.mem ((c.tc : Thread Cert.MixRefIdeal.nD Cert.MixRefIdeal.τ).loc Cert.MixRefIdeal.main_arg17) = m ((c.tc : Thread Cert.MixRefIdeal.nD Cert.MixRefIdeal.τ).loc Cert.MixRefIdeal.main_arg17))
      ∧ r.2.sem = fun _ => 0)

def preserves_Attn_AttnIdeal : Prop :=
  IdealRules.named_const.Statement Cert.AttnIdeal.κ "stay_exit" .f32 0x42D00000#32 ⊤

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v6)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v6) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v39) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Moe_MoeIdeal : Prop :=
  True

def algebraic_MoeIdeal_MoeRefIdeal_pre_combine_weights [hMoeIdeal : Cert.MoeIdeal.Facts] [hMoeRefIdeal : Cert.MoeRefIdeal.Facts] [hPre_combine_weights : Cert.Pre_combine_weights.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_combine_weights m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v4)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v4) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v25) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2_0)) (v1 : (c : Dev Cert.ProjIdeal.nD) → Buf (Elt Ideal) ((c.tc : Thread Cert.ProjIdeal.nD Cert.ProjIdeal.τ).loc Cert.ProjIdeal.main_v2_1)) (v2 : (c : Dev Cert.ProjIdeal.nD) → Buf (Elt Ideal) ((c.tc : Thread Cert.ProjIdeal.nD Cert.ProjIdeal.τ).loc Cert.ProjIdeal.main_v2_2)) (v3 : (c : Dev Cert.ProjIdeal.nD) → Buf (Elt Ideal) ((c.tc : Thread Cert.ProjIdeal.nD Cert.ProjIdeal.τ).loc Cert.ProjIdeal.main_v2_3)) (v4 : (c : Dev Cert.ProjIdeal.nD) → Buf (Elt Ideal) ((c.tc : Thread Cert.ProjIdeal.nD Cert.ProjIdeal.τ).loc Cert.ProjIdeal.main_v2_4)) (v5 : (c : Dev Cert.ProjIdeal.nD) → Buf (Elt Ideal) ((c.tc : Thread Cert.ProjIdeal.nD Cert.ProjIdeal.τ).loc Cert.ProjIdeal.main_v2_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2_0) = v0 c
          ∧ r.2.mem ((c.tc : Thread Cert.ProjIdeal.nD Cert.ProjIdeal.τ).loc Cert.ProjIdeal.main_v2_1) = v1 c
          ∧ r.2.mem ((c.tc : Thread Cert.ProjIdeal.nD Cert.ProjIdeal.τ).loc Cert.ProjIdeal.main_v2_2) = v2 c
          ∧ r.2.mem ((c.tc : Thread Cert.ProjIdeal.nD Cert.ProjIdeal.τ).loc Cert.ProjIdeal.main_v2_3) = v3 c
          ∧ r.2.mem ((c.tc : Thread Cert.ProjIdeal.nD Cert.ProjIdeal.τ).loc Cert.ProjIdeal.main_v2_4) = v4 c
          ∧ r.2.mem ((c.tc : Thread Cert.ProjIdeal.nD Cert.ProjIdeal.τ).loc Cert.ProjIdeal.main_v2_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v42) = v0 c
          ∧ r.2.mem ((c.tc : Thread Cert.ProjRefIdeal.nD Cert.ProjRefIdeal.τ).loc Cert.ProjRefIdeal.main_v43) = v1 c
          ∧ r.2.mem ((c.tc : Thread Cert.ProjRefIdeal.nD Cert.ProjRefIdeal.τ).loc Cert.ProjRefIdeal.main_v44) = v2 c
          ∧ r.2.mem ((c.tc : Thread Cert.ProjRefIdeal.nD Cert.ProjRefIdeal.τ).loc Cert.ProjRefIdeal.main_v45) = v3 c
          ∧ r.2.mem ((c.tc : Thread Cert.ProjRefIdeal.nD Cert.ProjRefIdeal.τ).loc Cert.ProjRefIdeal.main_v46) = v4 c
          ∧ r.2.mem ((c.tc : Thread Cert.ProjRefIdeal.nD Cert.ProjRefIdeal.τ).loc Cert.ProjRefIdeal.main_v47) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Mix_MixIdeal : Prop :=
  True

def algebraic_MixIdeal_MixRefIdeal_on_residual_and_norm [hMixIdeal : Cert.MixIdeal.Facts] [hMixRefIdeal : Cert.MixRefIdeal.Facts] [hOn_residual_and_norm : Cert.On_residual_and_norm.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)
      ∧ m' ((c.tc : Thread Cert.MixRefIdeal.nD Cert.MixRefIdeal.τ).loc Cert.MixRefIdeal.main_arg15) = m ((c.tc : Thread Cert.MixIdeal.nD Cert.MixIdeal.τ).loc Cert.MixIdeal.main_arg15)
      ∧ m' ((c.tc : Thread Cert.MixRefIdeal.nD Cert.MixRefIdeal.τ).loc Cert.MixRefIdeal.main_arg16) = m ((c.tc : Thread Cert.MixIdeal.nD Cert.MixIdeal.τ).loc Cert.MixIdeal.main_arg16)
      ∧ m' ((c.tc : Thread Cert.MixRefIdeal.nD Cert.MixRefIdeal.τ).loc Cert.MixRefIdeal.main_arg17) = m ((c.tc : Thread Cert.MixIdeal.nD Cert.MixIdeal.τ).loc Cert.MixIdeal.main_arg17)) →
    ∃ (v0 : (c : Dev Cert.MixIdeal.nD) → Buf (Elt Ideal) ((c.tc : Thread Cert.MixIdeal.nD Cert.MixIdeal.τ).loc Cert.MixIdeal.main_v15_0)) (v1 : (c : Dev Cert.MixIdeal.nD) → Buf (Elt Ideal) ((c.tc : Thread Cert.MixIdeal.nD Cert.MixIdeal.τ).loc Cert.MixIdeal.main_v15_1)) (v2 : (c : Dev Cert.MixIdeal.nD) → Buf (Elt Ideal) ((c.tc : Thread Cert.MixIdeal.nD Cert.MixIdeal.τ).loc Cert.MixIdeal.main_v15_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          (∀ i : (⟨2, ![65536, 1024]⟩ : Shape).Idx, (Cert.On_residual_and_norm.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17))).1 i = 1#1 → r.2.mem ((c.tc : Thread Cert.MixIdeal.nD Cert.MixIdeal.τ).loc Cert.MixIdeal.main_v15_0) i = v0 c i)
          ∧ (∀ i : (⟨2, ![65536, 1024]⟩ : Shape).Idx, (Cert.On_residual_and_norm.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17))).2.1 i = 1#1 → r.2.mem ((c.tc : Thread Cert.MixIdeal.nD Cert.MixIdeal.τ).loc Cert.MixIdeal.main_v15_1) i = v1 c i)
          ∧ (∀ i : (⟨2, ![65536, 128]⟩ : Shape).Idx, (Cert.On_residual_and_norm.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17))).2.2 i = 1#1 → r.2.mem ((c.tc : Thread Cert.MixIdeal.nD Cert.MixIdeal.τ).loc Cert.MixIdeal.main_v15_2) i = v2 c i)
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
          ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
          ∧ r.2.mem ((c.tc : Thread Cert.MixIdeal.nD Cert.MixIdeal.τ).loc Cert.MixIdeal.main_arg17) = m ((c.tc : Thread Cert.MixIdeal.nD Cert.MixIdeal.τ).loc Cert.MixIdeal.main_arg17))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          (∀ i : (⟨2, ![65536, 1024]⟩ : Shape).Idx, (Cert.On_residual_and_norm.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17))).1 i = 1#1 → r.2.mem ((c.tc : Thread Cert.MixRefIdeal.nD Cert.MixRefIdeal.τ).loc Cert.MixRefIdeal.main_v261) i = v0 c i)
          ∧ (∀ i : (⟨2, ![65536, 1024]⟩ : Shape).Idx, (Cert.On_residual_and_norm.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17))).2.1 i = 1#1 → r.2.mem ((c.tc : Thread Cert.MixRefIdeal.nD Cert.MixRefIdeal.τ).loc Cert.MixRefIdeal.main_v352) i = v1 c i)
          ∧ (∀ i : (⟨2, ![65536, 128]⟩ : Shape).Idx, (Cert.On_residual_and_norm.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17))).2.2 i = 1#1 → r.2.mem ((c.tc : Thread Cert.MixRefIdeal.nD Cert.MixRefIdeal.τ).loc Cert.MixRefIdeal.main_v353) i = v2 c i)
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15)
          ∧ r.2.mem ((c.tc : Thread Cert.MixRefIdeal.nD Cert.MixRefIdeal.τ).loc Cert.MixRefIdeal.main_arg16) = m' ((c.tc : Thread Cert.MixRefIdeal.nD Cert.MixRefIdeal.τ).loc Cert.MixRefIdeal.main_arg16)
          ∧ r.2.mem ((c.tc : Thread Cert.MixRefIdeal.nD Cert.MixRefIdeal.τ).loc Cert.MixRefIdeal.main_arg17) = m' ((c.tc : Thread Cert.MixRefIdeal.nD Cert.MixRefIdeal.τ).loc Cert.MixRefIdeal.main_arg17))

def algebraic_MixIdeal_MixRefIdeal_pre_finite_router [hMixIdeal : Cert.MixIdeal.Facts] [hMixRefIdeal : Cert.MixRefIdeal.Facts] [hPre_finite_router : Cert.Pre_finite_router.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_router m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)
      ∧ m' ((c.tc : Thread Cert.MixRefIdeal.nD Cert.MixRefIdeal.τ).loc Cert.MixRefIdeal.main_arg15) = m ((c.tc : Thread Cert.MixIdeal.nD Cert.MixIdeal.τ).loc Cert.MixIdeal.main_arg15)
      ∧ m' ((c.tc : Thread Cert.MixRefIdeal.nD Cert.MixRefIdeal.τ).loc Cert.MixRefIdeal.main_arg16) = m ((c.tc : Thread Cert.MixIdeal.nD Cert.MixIdeal.τ).loc Cert.MixIdeal.main_arg16)
      ∧ m' ((c.tc : Thread Cert.MixRefIdeal.nD Cert.MixRefIdeal.τ).loc Cert.MixRefIdeal.main_arg17) = m ((c.tc : Thread Cert.MixIdeal.nD Cert.MixIdeal.τ).loc Cert.MixIdeal.main_arg17)) →
    ∃ (v0 : (c : Dev Cert.MixIdeal.nD) → Buf (Elt Ideal) ((c.tc : Thread Cert.MixIdeal.nD Cert.MixIdeal.τ).loc Cert.MixIdeal.main_v15_0)) (v1 : (c : Dev Cert.MixIdeal.nD) → Buf (Elt Ideal) ((c.tc : Thread Cert.MixIdeal.nD Cert.MixIdeal.τ).loc Cert.MixIdeal.main_v15_1)) (v2 : (c : Dev Cert.MixIdeal.nD) → Buf (Elt Ideal) ((c.tc : Thread Cert.MixIdeal.nD Cert.MixIdeal.τ).loc Cert.MixIdeal.main_v15_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v15_0) = v0 c
          ∧ r.2.mem ((c.tc : Thread Cert.MixIdeal.nD Cert.MixIdeal.τ).loc Cert.MixIdeal.main_v15_1) = v1 c
          ∧ r.2.mem ((c.tc : Thread Cert.MixIdeal.nD Cert.MixIdeal.τ).loc Cert.MixIdeal.main_v15_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
          ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
          ∧ r.2.mem ((c.tc : Thread Cert.MixIdeal.nD Cert.MixIdeal.τ).loc Cert.MixIdeal.main_arg17) = m ((c.tc : Thread Cert.MixIdeal.nD Cert.MixIdeal.τ).loc Cert.MixIdeal.main_arg17))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v261) = v0 c
          ∧ r.2.mem ((c.tc : Thread Cert.MixRefIdeal.nD Cert.MixRefIdeal.τ).loc Cert.MixRefIdeal.main_v352) = v1 c
          ∧ r.2.mem ((c.tc : Thread Cert.MixRefIdeal.nD Cert.MixRefIdeal.τ).loc Cert.MixRefIdeal.main_v353) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15)
          ∧ r.2.mem ((c.tc : Thread Cert.MixRefIdeal.nD Cert.MixRefIdeal.τ).loc Cert.MixRefIdeal.main_arg16) = m' ((c.tc : Thread Cert.MixRefIdeal.nD Cert.MixRefIdeal.τ).loc Cert.MixRefIdeal.main_arg16)
          ∧ r.2.mem ((c.tc : Thread Cert.MixRefIdeal.nD Cert.MixRefIdeal.τ).loc Cert.MixRefIdeal.main_arg17) = m' ((c.tc : Thread Cert.MixRefIdeal.nD Cert.MixRefIdeal.τ).loc Cert.MixRefIdeal.main_arg17))

def Claim : Prop :=
  ∃ (hAttn : Cert.Attn.Facts) (hAttnIdeal : Cert.AttnIdeal.Facts) (hAttnRefIdeal : Cert.AttnRefIdeal.Facts) (hMoe : Cert.Moe.Facts) (hMoeIdeal : Cert.MoeIdeal.Facts) (hMoeRefIdeal : Cert.MoeRefIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hPre_combine_weights : Cert.Pre_combine_weights.Facts) (hPre_finite_router : Cert.Pre_finite_router.Facts) (hOn_residual_and_norm : Cert.On_residual_and_norm.Facts),
    quiescent_Attn (hAttn := hAttn)
    ∧ quiescent_AttnIdeal (hAttnIdeal := hAttnIdeal)
    ∧ quiescent_AttnRefIdeal (hAttnRefIdeal := hAttnRefIdeal)
    ∧ quiescent_Moe (hMoe := hMoe)
    ∧ quiescent_MoeIdeal (hMoeIdeal := hMoeIdeal)
    ∧ quiescent_MoeIdeal_pre_combine_weights (hMoeIdeal := hMoeIdeal) (hPre_combine_weights := hPre_combine_weights)
    ∧ quiescent_MoeRefIdeal (hMoeRefIdeal := hMoeRefIdeal)
    ∧ quiescent_MoeRefIdeal_pre_combine_weights (hMoeRefIdeal := hMoeRefIdeal) (hPre_combine_weights := hPre_combine_weights)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixIdeal_pre_finite_router (hMixIdeal := hMixIdeal) (hPre_finite_router := hPre_finite_router)
    ∧ quiescent_MixRefIdeal (hMixRefIdeal := hMixRefIdeal)
    ∧ quiescent_MixRefIdeal_pre_finite_router (hMixRefIdeal := hMixRefIdeal) (hPre_finite_router := hPre_finite_router)
    ∧ preserves_Attn_AttnIdeal
    ∧ algebraic_AttnIdeal_AttnRefIdeal (hAttnIdeal := hAttnIdeal) (hAttnRefIdeal := hAttnRefIdeal)
    ∧ preserves_Moe_MoeIdeal
    ∧ algebraic_MoeIdeal_MoeRefIdeal_pre_combine_weights (hMoeIdeal := hMoeIdeal) (hMoeRefIdeal := hMoeRefIdeal) (hPre_combine_weights := hPre_combine_weights)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal_on_residual_and_norm (hMixIdeal := hMixIdeal) (hMixRefIdeal := hMixRefIdeal) (hOn_residual_and_norm := hOn_residual_and_norm)
    ∧ algebraic_MixIdeal_MixRefIdeal_pre_finite_router (hMixIdeal := hMixIdeal) (hMixRefIdeal := hMixRefIdeal) (hPre_finite_router := hPre_finite_router)
-- ==== On_residual_and_norm.lean ====
abbrev S65536x512 : Shape := ⟨2, ![65536, 512]⟩
abbrev S16x512 : Shape := ⟨2, ![16, 512]⟩
abbrev S65536x1024 : Shape := ⟨2, ![65536, 1024]⟩
abbrev S512x1024 : Shape := ⟨2, ![512, 1024]⟩
abbrev S1024x1024 : Shape := ⟨2, ![1024, 1024]⟩
abbrev S31x512 : Shape := ⟨2, ![31, 512]⟩
abbrev S512 : Shape := ⟨1, ![512]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S65536x128 : Shape := ⟨2, ![65536, 128]⟩

class Facts : Prop where
  bcast_S_S65536x1024 : S_.BroadcastsInDim S65536x1024 (![] : Fin 0 → Fin S65536x1024.rank)
  bcast_S_S65536x128 : S_.BroadcastsInDim S65536x128 (![] : Fin 0 → Fin S65536x128.rank)

variable [Facts]

def fn {F : FTy → Type} [FloatOps F] (main_arg0 : FVec F S65536x512 .bf16) (main_arg1 : FVec F S65536x512 .bf16) (main_arg2 : FVec F S16x512 .bf16) (main_arg3 : FVec F S65536x1024 .bf16) (main_arg4 : FVec F S65536x1024 .bf16) (main_arg5 : FVec F S65536x1024 .f32) (main_arg6 : FVec F S512x1024 .f32) (main_arg7 : FVec F S512x1024 .f32) (main_arg8 : FVec F S1024x1024 .f32) (main_arg9 : FVec F S31x512 .f32) (main_arg10 : FVec F S512 .f32) (main_arg11 : FVec F S512 .f32) (main_arg12 : FVec F S512 .f32) (main_arg13 : FVec F S1024 .f32) (main_arg14 : FVec F S1024x4 .f32) (main_arg15 : FVec F S4 .f32) (main_arg16 : FVec F S1024x16 .f32) (main_arg17 : FVec F S16 .f32) : IVec S65536x1024 1 × IVec S65536x1024 1 × IVec S65536x128 1 :=
  let main_c : IVec S_ 1 := constantI S_ 1 1#1
  let main_v0 : IVec S65536x1024 1 := broadcastInDim S65536x1024 ![] bcast_S_S65536x1024 main_c
  let main_c_0 : IVec S_ 1 := constantI S_ 1 0#1
  let main_v1 : IVec S65536x128 1 := broadcastInDim S65536x128 ![] bcast_S_S65536x128 main_c_0
  (main_v0, main_v0, main_v1)
-- ==== Pre_combine_weights.lean ====
abbrev S65536x1024 : Shape := ⟨2, ![65536, 1024]⟩
abbrev S65536x128 : Shape := ⟨2, ![65536, 128]⟩
abbrev S16x1024x512 : Shape := ⟨3, ![16, 1024, 512]⟩
abbrev S16x512x1024 : Shape := ⟨3, ![16, 512, 1024]⟩
abbrev S1024 : Shape := ⟨1, ![1024]⟩
abbrev S65536x16 : Shape := ⟨2, ![65536, 16]⟩
abbrev S_ : Shape := ⟨0, ![]⟩

class Facts : Prop where
  slices_S65536x128_S65536x16_0_0 : S65536x128.Slices ![0, 0] S65536x16
  bcast_S_S65536x16 : S_.BroadcastsInDim S65536x16 (![] : Fin 0 → Fin S65536x16.rank)

variable [Facts]

def fn {F : FTy → Type} [FloatOps F] (main_arg0 : FVec F S65536x1024 .bf16) (main_arg1 : FVec F S65536x1024 .f32) (main_arg2 : FVec F S65536x128 .f32) (main_arg3 : FVec F S16x1024x512 .f32) (main_arg4 : FVec F S16x1024x512 .f32) (main_arg5 : FVec F S16x512x1024 .f32) (main_arg6 : FVec F S1024 .f32) : IVec S65536x16 1 :=
  let main_v0 : FVec F S65536x16 .f32 := (extractStridedSlice S65536x16 ![0, 0] · slices_S65536x128_S65536x16_0_0) main_arg2
  let main_cst : FVec F S_ .f32 := constant S_ .f32 0x00000000#32
  let main_v1 : FVec F S65536x16 .f32 := broadcastInDim S65536x16 ![] bcast_S_S65536x16 main_cst
  let main_v2 : IVec S65536x16 1 := cmpf .oge main_v0 main_v1
  let main_cst_0 : FVec F S_ .f32 := constant S_ .f32 0x7F800000#32
  let main_v3 : FVec F S65536x16 .f32 := broadcastInDim S65536x16 ![] bcast_S_S65536x16 main_cst_0
  let main_v4 : IVec S65536x16 1 := cmpf .olt main_v0 main_v3
  let main_v5 : IVec S65536x16 1 := andi main_v2 main_v4
  main_v5
-- ==== Pre_finite_router.lean ====
abbrev S65536x512 : Shape := ⟨2, ![65536, 512]⟩
abbrev S16x512 : Shape := ⟨2, ![16, 512]⟩
abbrev S65536x1024 : Shape := ⟨2, ![65536, 1024]⟩
abbrev S512x1024 : Shape := ⟨2, ![512, 1024]⟩
abbrev S1024x1024 : Shape := ⟨2, ![1024, 1024]⟩
abbrev S31x512 : Shape := ⟨2, ![31, 512]⟩
abbrev S512 : Shape := ⟨1, ![512]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩

class Facts : Prop where
  bcast_S_S1024 : S_.BroadcastsInDim S1024 (![] : Fin 0 → Fin S1024.rank)
  bcast_S_S1024x4 : S_.BroadcastsInDim S1024x4 (![] : Fin 0 → Fin S1024x4.rank)
  bcast_S_S4 : S_.BroadcastsInDim S4 (![] : Fin 0 → Fin S4.rank)
  bcast_S_S1024x16 : S_.BroadcastsInDim S1024x16 (![] : Fin 0 → Fin S1024x16.rank)
  bcast_S_S16 : S_.BroadcastsInDim S16 (![] : Fin 0 → Fin S16.rank)

variable [Facts]

def fn {F : FTy → Type} [FloatOps F] (main_arg0 : FVec F S65536x512 .bf16) (main_arg1 : FVec F S65536x512 .bf16) (main_arg2 : FVec F S16x512 .bf16) (main_arg3 : FVec F S65536x1024 .bf16) (main_arg4 : FVec F S65536x1024 .bf16) (main_arg5 : FVec F S65536x1024 .f32) (main_arg6 : FVec F S512x1024 .f32) (main_arg7 : FVec F S512x1024 .f32) (main_arg8 : FVec F S1024x1024 .f32) (main_arg9 : FVec F S31x512 .f32) (main_arg10 : FVec F S512 .f32) (main_arg11 : FVec F S512 .f32) (main_arg12 : FVec F S512 .f32) (main_arg13 : FVec F S1024 .f32) (main_arg14 : FVec F S1024x4 .f32) (main_arg15 : FVec F S4 .f32) (main_arg16 : FVec F S1024x16 .f32) (main_arg17 : FVec F S16 .f32) : IVec S1024 1 × IVec S1024x4 1 × IVec S4 1 × IVec S1024x16 1 × IVec S16 1 :=
  let main_v0 : FVec F S1024 .f32 := Host.absf main_arg13
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x4 .f32 := Host.absf main_arg14
  let main_cst_0 : FVec F S_ .f32 := constant S_ .f32 0x7F800000#32
  let main_v4 : FVec F S1024x4 .f32 := broadcastInDim S1024x4 ![] bcast_S_S1024x4 main_cst_0
  let main_v5 : IVec S1024x4 1 := cmpf .olt main_v3 main_v4
  let main_v6 : FVec F S4 .f32 := Host.absf main_arg15
  let main_cst_1 : FVec F S_ .f32 := constant S_ .f32 0x7F800000#32
  let main_v7 : FVec F S4 .f32 := broadcastInDim S4 ![] bcast_S_S4 main_cst_1
  let main_v8 : IVec S4 1 := cmpf .olt main_v6 main_v7
  let main_v9 : FVec F S1024x16 .f32 := Host.absf main_arg16
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  let main_v12 : FVec F S16 .f32 := Host.absf main_arg17
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  (main_v2, main_v5, main_v8, main_v11, main_v14)
-- ==== Attn.lean ====
abbrev S8x8192x512 : Shape := ⟨3, ![8, 8192, 512]⟩
abbrev S16x512 : Shape := ⟨2, ![16, 512]⟩
abbrev S_ : Shape := ⟨0, ![]⟩
abbrev S128x512 : Shape := ⟨2, ![128, 512]⟩
abbrev S256x256 : Shape := ⟨2, ![256, 256]⟩
abbrev S1x256x128 : Shape := ⟨3, ![1, 256, 128]⟩
abbrev S1x8192x128 : Shape := ⟨3, ![1, 8192, 128]⟩
abbrev S128x128 : Shape := ⟨2, ![128, 128]⟩
abbrev S256x128 : Shape := ⟨2, ![256, 128]⟩
abbrev S2x256x128 : Shape := ⟨3, ![2, 256, 128]⟩
abbrev S1x128 : Shape := ⟨2, ![1, 128]⟩
abbrev S1 : Shape := ⟨1, ![1]⟩
abbrev S1x1x1 : Shape := ⟨3, ![1, 1, 1]⟩

abbrev nBuf : Space → Nat
  | .hbm => 16
  | .vmem => 15
  | .smem => 0
  | _ => 0

abbrev bufTy : (tb : Table) → Fin (tcTables nBuf tb) → BufTy
  | .hbm, ⟨0, _⟩ => ⟨S8x8192x512, .bf16⟩
  | .hbm, ⟨1, _⟩ => ⟨S8x8192x512, .bf16⟩
  | .hbm, ⟨2, _⟩ => ⟨S8x8192x512, .bf16⟩
  | .hbm, ⟨3, _⟩ => ⟨S16x512, .bf16⟩
  | .hbm, ⟨4, _⟩ => ⟨S16x512, .bf16⟩
  | .hbm, ⟨5, _⟩ => ⟨S_, .i32⟩
  | .hbm, ⟨6, _⟩ => ⟨S_, .bf16⟩
  | .hbm, ⟨7, _⟩ => ⟨S128x512, .bf16⟩
  | .hbm, ⟨8, _⟩ => ⟨S_, .i32⟩
  | .hbm, ⟨9, _⟩ => ⟨S_, .bf16⟩
  | .hbm, ⟨10, _⟩ => ⟨S128x512, .bf16⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S256x256, .bf16⟩
  | .hbm, ⟨15, _⟩ => ⟨S8x8192x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S256x256, .bf16⟩
  | .local _ .vmem, ⟨11, _⟩ => ⟨S1x256x128, .bf16⟩
  | .local _ .vmem, ⟨12, _⟩ => ⟨S1x256x128, .bf16⟩
  | .local _ .vmem, ⟨13, _⟩ => ⟨S256x128, .f32⟩
  | .local _ .vmem, ⟨14, _⟩ => ⟨S2x256x128, .f32⟩
  | _, _ => ⟨S8x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 4, 32], ![false, false, false]⟩

def k0_mult1 (i : grid0.Coords) : BitVec 32 :=
  let arg2 : BitVec 32 := BitVec.ofNat 32 (i 2).val
  let c256_i32 : BitVec 32 := 256#32
  let v22 : BitVec 32 := Scalar.muli arg2 c256_i32
  v22
def k0_off1 (i : grid0.Coords) : Fin 3 → Nat :=
  let c0_9 : Index := 0#32
  let arg2 : BitVec 32 := BitVec.ofNat 32 (i 2).val
  let c256_i32 : BitVec 32 := 256#32
  let v22 : BitVec 32 := Scalar.muli arg2 c256_i32
  let v23 : BitVec 32 := v22
  let v24 : Index := Scalar.indexCast v23
  let c0_10 : Index := 0#32
  ![0, v24.toNat, 0]
def k0_mult2 (arg12 : BitVec 32) : BitVec 32 :=
  let c256_i32_62 : BitVec 32 := 256#32
  let v123 : BitVec 32 := Scalar.muli arg12 c256_i32_62
  v123

def k0_off2 (arg12 : BitVec 32) : Fin 3 → Nat :=
  let c0_63 : Index := 0#32
  let c256_i32_62 : BitVec 32 := 256#32
  let v123 : BitVec 32 := Scalar.muli arg12 c256_i32_62
  let v124 : BitVec 32 := v123
  let v125 : Index := Scalar.indexCast v124
  let c0_64 : Index := 0#32
  ![0, v125.toNat, 0]

def k0_chk1 (arg12 : BitVec 32) : Prop :=
  (256 ∣ (k0_mult2 arg12).toNat) ∧
  (∀ a, (k0_off2 arg12) a + S1x256x128.size a ≤ S1x8192x128.size a)
theorem k0_mult2_dvd : ∀ (arg12 : BitVec 32) (k0_hw1 : k0_chk1 arg12), 256 ∣ (k0_mult2 arg12).toNat := fun arg12 k0_hw1 => k0_hw1.1
theorem k0_off2_inb : ∀ (arg12 : BitVec 32) (k0_hw1 : k0_chk1 arg12), ∀ a, (k0_off2 arg12) a + S1x256x128.size a ≤ S1x8192x128.size a := fun arg12 k0_hw1 => k0_hw1.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttnIdeal.lean ====
variable {F : FTy → Type} [FloatOps F] [Named F]
def κ : String → Option EReal := fun
  | "stay_exit" => some ⊤
  | _ => none
-- ==== AttnRefIdeal.lean ====
abbrev S8x8192x512 : Shape := ⟨3, ![8, 8192, 512]⟩
abbrev S16x512 : Shape := ⟨2, ![16, 512]⟩
abbrev S8x8192x8x64 : Shape := ⟨4, ![8, 8192, 8, 64]⟩
abbrev S8x8x8192x64 : Shape := ⟨4, ![8, 8, 8192, 64]⟩
abbrev S1x16x512 : Shape := ⟨3, ![1, 16, 512]⟩
abbrev S8x16x512 : Shape := ⟨3, ![8, 16, 512]⟩
abbrev S8x8208x512 : Shape := ⟨3, ![8, 8208, 512]⟩
abbrev S8x8208x8x64 : Shape := ⟨4, ![8, 8208, 8, 64]⟩
abbrev S8x8x8208x64 : Shape := ⟨4, ![8, 8, 8208, 64]⟩
abbrev S8208 : Shape := ⟨1, ![8208]⟩
abbrev S8192 : Shape := ⟨1, ![8192]⟩
abbrev S_ : Shape := ⟨0, ![]⟩
abbrev S1x8208 : Shape := ⟨2, ![1, 8208]⟩
abbrev S8192x1 : Shape := ⟨2, ![8192, 1]⟩
abbrev S8192x8208 : Shape := ⟨2, ![8192, 8208]⟩
abbrev S8x8x8192x8208 : Shape := ⟨4, ![8, 8, 8192, 8208]⟩

abbrev nBuf : Space → Nat
  | .hbm => 86
  | .vmem => 0
  | .smem => 0
  | _ => 0

abbrev bufTy : (tb : Table) → Fin (tcTables nBuf tb) → BufTy
  | .hbm, ⟨0, _⟩ => ⟨S8x8192x512, .bf16⟩
  | .hbm, ⟨1, _⟩ => ⟨S8x8192x512, .bf16⟩
  | .hbm, ⟨2, _⟩ => ⟨S8x8192x512, .bf16⟩
  | .hbm, ⟨3, _⟩ => ⟨S16x512, .bf16⟩
  | .hbm, ⟨4, _⟩ => ⟨S16x512, .bf16⟩
  | .hbm, ⟨5, _⟩ => ⟨S8x8192x512, .f32⟩
  | .hbm, ⟨6, _⟩ => ⟨S8x8192x8x64, .f32⟩
  | .hbm, ⟨7, _⟩ => ⟨S8x8x8192x64, .f32⟩
  | .hbm, ⟨8, _⟩ => ⟨S1x16x512, .bf16⟩
  | .hbm, ⟨9, _⟩ => ⟨S8x16x512, .bf16⟩
  | .hbm, ⟨10, _⟩ => ⟨S8x16x512, .f32⟩
  | .hbm, ⟨11, _⟩ => ⟨S8x8192x512, .f32⟩
  | .hbm, ⟨12, _⟩ => ⟨S8x8208x512, .f32⟩
  | .hbm, ⟨13, _⟩ => ⟨S8x8208x8x64, .f32⟩
  | .hbm, ⟨14, _⟩ => ⟨S8x8x8208x64, .f32⟩
  | .hbm, ⟨15, _⟩ => ⟨S1x16x512, .bf16⟩
  | .hbm, ⟨16, _⟩ => ⟨S8x16x512, .bf16⟩
  | .hbm, ⟨17, _⟩ => ⟨S8x16x512, .f32⟩
  | .hbm, ⟨18, _⟩ => ⟨S8x8192x512, .f32⟩
  | .hbm, ⟨19, _⟩ => ⟨S8x8208x512, .f32⟩
  | .hbm, ⟨20, _⟩ => ⟨S8x8208x8x64, .f32⟩
  | .hbm, ⟨21, _⟩ => ⟨S8x8x8208x64, .f32⟩
  | .hbm, ⟨22, _⟩ => ⟨S8208, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S1x8208, .i32⟩
  | .hbm, ⟨28, _⟩ => ⟨S8192x1, .i32⟩
  | .hbm, ⟨29, _⟩ => ⟨S8192x8208, .i32⟩
  | .hbm, ⟨30, _⟩ => ⟨S8192x8208, .i32⟩
  | .hbm, ⟨31, _⟩ => ⟨S8192x8208, .i1⟩
  | .hbm, ⟨32, _⟩ => ⟨S8x8x8192x8208, .f32⟩
  | .hbm, ⟨33, _⟩ => ⟨S8x8x8192x8208, .f32⟩
  | .hbm, ⟨34, _⟩ => ⟨S8x8x8192x8208, .f32⟩
  | .hbm, ⟨35, _⟩ => ⟨S_, .f32⟩
  | .hbm, ⟨36, _⟩ => ⟨S8x8x8192x8208, .f32⟩
  | .hbm, ⟨37, _⟩ => ⟨S8x8x8192x8208, .f32⟩
  | .hbm, ⟨38, _⟩ => ⟨S8x8x8192x8208, .f32⟩
  | .hbm, ⟨39, _⟩ => ⟨S8x8x8192x8208, .f32⟩
  | .hbm, ⟨40, _⟩ => ⟨S8x8x8192x8208, .i1⟩
  | .hbm, ⟨41, _⟩ => ⟨S8x8x8192x8208, .f32⟩
  | .hbm, ⟨42, _⟩ => ⟨S8x8x8192x8208, .f32⟩
  | .hbm, ⟨43, _⟩ => ⟨S8x8x8192x8208, .f32⟩
  | .hbm, ⟨44, _⟩ => ⟨S8x8x8192x8208, .f32⟩
  | .hbm, ⟨45, _⟩ => ⟨S8x8x8192x8208, .f32⟩
  | .hbm, ⟨46, _⟩ => ⟨S8x8x8192x8208, .f32⟩
  | .hbm, ⟨47, _⟩ => ⟨S8x8x8192x8208, .f32⟩
  | .hbm, ⟨48, _⟩ => ⟨S8x8x8192x8208, .f32⟩
  | .hbm, ⟨49, _⟩ => ⟨S8x8x8192x8208, .f32⟩
  | .hbm, ⟨50, _⟩ => ⟨S_, .f32⟩
  | .hbm, ⟨51, _⟩ => ⟨S_, .f32⟩
  | .hbm, ⟨52, _⟩ => ⟨S8x8x8192x8208, .i1⟩
  | .hbm, ⟨53, _⟩ => ⟨S8x8x8192x8208, .f32⟩
  | .hbm, ⟨54, _⟩ => ⟨S8x8x8192x8208, .f32⟩
  | .hbm, ⟨55, _⟩ => ⟨S_, .f32⟩
  | .hbm, ⟨56, _⟩ => ⟨S_, .f32⟩
  | .hbm, ⟨57, _⟩ => ⟨S8x8x8192x8208, .f32⟩
  | .hbm, ⟨58, _⟩ => ⟨S8x8x8192x8208, .f32⟩
  | .hbm, ⟨59, _⟩ => ⟨S8x8x8192x8208, .f32⟩
  | .hbm, ⟨60, _⟩ => ⟨S_, .f32⟩
  | .hbm, ⟨61, _⟩ => ⟨S8x8x8192x8208, .f32⟩
  | .hbm, ⟨62, _⟩ => ⟨S8x8x8192x8208, .f32⟩
  | .hbm, ⟨63, _⟩ => ⟨S8x8x8192x8208, .f32⟩
  | .hbm, ⟨64, _⟩ => ⟨S8x8x8192x8208, .f32⟩
  | .hbm, ⟨65, _⟩ => ⟨S8x8x8192x8208, .i1⟩
  | .hbm, ⟨66, _⟩ => ⟨S8x8x8192x8208, .f32⟩
  | .hbm, ⟨67, _⟩ => ⟨S8x8x8192x8208, .f32⟩
  | .hbm, ⟨68, _⟩ => ⟨S8x8x8192x8208, .f32⟩
  | .hbm, ⟨69, _⟩ => ⟨S8x8x8192x8208, .f32⟩
  | .hbm, ⟨70, _⟩ => ⟨S8x8x8192x8208, .f32⟩
  | .hbm, ⟨71, _⟩ => ⟨S8x8x8192x8208, .f32⟩
  | .hbm, ⟨72, _⟩ => ⟨S8x8x8192x8208, .f32⟩
  | .hbm, ⟨73, _⟩ => ⟨S8x8x8192x8208, .f32⟩
  | .hbm, ⟨74, _⟩ => ⟨S8x8x8192x8208, .f32⟩
  | .hbm, ⟨75, _⟩ => ⟨S8x8x8192x8208, .f32⟩
  | .hbm, ⟨76, _⟩ => ⟨S8x8x8192x8208, .f32⟩
  | .hbm, ⟨77, _⟩ => ⟨S_, .f32⟩
  | .hbm, ⟨78, _⟩ => ⟨S_, .f32⟩
  | .hbm, ⟨79, _⟩ => ⟨S8x8x8192x8208, .i1⟩
  | .hbm, ⟨80, _⟩ => ⟨S8x8x8192x8208, .f32⟩
  | .hbm, ⟨81, _⟩ => ⟨S8x8x8192x8208, .f32⟩
  | .hbm, ⟨82, _⟩ => ⟨S8x8x8192x64, .f32⟩
  | .hbm, ⟨83, _⟩ => ⟨S8x8192x8x64, .f32⟩
  | .hbm, ⟨84, _⟩ => ⟨S8x8192x512, .f32⟩
  | .hbm, ⟨85, _⟩ => ⟨S8x8192x512, .bf16⟩
  | _, _ => ⟨S8x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call0_v0 : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_v1 : Ref sig .tc := ⟨.hbm, 48, rfl⟩
abbrev main_v28 : Ref sig .tc := ⟨.hbm, 49, rfl⟩
abbrev main_cst : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v29 : Ref sig .tc := ⟨.hbm, 54, rfl⟩
abbrev main_call2_cst : Ref sig .tc := ⟨.hbm, 55, rfl⟩
abbrev main_call2_v0 : Ref sig .tc := ⟨.hbm, 56, rfl⟩
abbrev main_v30 : Ref sig .tc := ⟨.hbm, 57, rfl⟩
abbrev main_v31 : Ref sig .tc := ⟨.hbm, 58, rfl⟩
abbrev main_call3_v0 : Ref sig .tc := ⟨.hbm, 59, rfl⟩
abbrev main_call3_call0_cst : Ref sig .tc := ⟨.hbm, 60, rfl⟩
abbrev main_call3_call0_v0 : Ref sig .tc := ⟨.hbm, 61, rfl⟩
abbrev main_call3_call0_v1 : Ref sig .tc := ⟨.hbm, 62, rfl⟩
abbrev main_call3_call0_v2 : Ref sig .tc := ⟨.hbm, 63, rfl⟩
abbrev main_call3_call0_v3 : Ref sig .tc := ⟨.hbm, 64, rfl⟩
abbrev main_call3_call0_v4 : Ref sig .tc := ⟨.hbm, 65, rfl⟩
abbrev main_call3_call0_v5 : Ref sig .tc := ⟨.hbm, 66, rfl⟩
abbrev main_call3_call0_v6 : Ref sig .tc := ⟨.hbm, 67, rfl⟩
abbrev main_call3_call0_v7 : Ref sig .tc := ⟨.hbm, 68, rfl⟩
abbrev main_call3_call0_v8 : Ref sig .tc := ⟨.hbm, 69, rfl⟩
abbrev main_call3_call0_v9 : Ref sig .tc := ⟨.hbm, 70, rfl⟩
abbrev main_call3_call0_v10 : Ref sig .tc := ⟨.hbm, 71, rfl⟩
abbrev main_call3_call0_v11 : Ref sig .tc := ⟨.hbm, 72, rfl⟩
abbrev main_call3_v1 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_0 : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩

abbrev nD : Nat := 1
abbrev τ : Topo := Topo.v7x

variable {F : FTy → Type} [FloatOps F]
-- ==== Moe.lean ====
abbrev S65536x1024 : Shape := ⟨2, ![65536, 1024]⟩
abbrev S65536x128 : Shape := ⟨2, ![65536, 128]⟩
abbrev S16x1024x512 : Shape := ⟨3, ![16, 1024, 512]⟩
abbrev S16x512x1024 : Shape := ⟨3, ![16, 512, 1024]⟩
abbrev S1024 : Shape := ⟨1, ![1024]⟩
abbrev S16x1024x1024 : Shape := ⟨3, ![16, 1024, 1024]⟩
abbrev S1x1024 : Shape := ⟨2, ![1, 1024]⟩
abbrev S1024x1024 : Shape := ⟨2, ![1024, 1024]⟩
abbrev S1024x128 : Shape := ⟨2, ![1024, 128]⟩
abbrev S1x1024x1024 : Shape := ⟨3, ![1, 1024, 1024]⟩
abbrev S1x512x1024 : Shape := ⟨3, ![1, 512, 1024]⟩
abbrev S1024x512 : Shape := ⟨2, ![1024, 512]⟩
abbrev S1024x1 : Shape := ⟨2, ![1024, 1]⟩
abbrev S512x1024 : Shape := ⟨2, ![512, 1024]⟩

abbrev nBuf : Space → Nat
  | .hbm => 12
  | .vmem => 14
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S65536x128, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S1024, .f32⟩
  | .hbm, ⟨7, _⟩ => ⟨S16x1024x1024, .f32⟩
  | .hbm, ⟨8, _⟩ => ⟨S16x1024x1024, .bf16⟩
  | .hbm, ⟨9, _⟩ => ⟨S16x512x1024, .bf16⟩
  | .hbm, ⟨10, _⟩ => ⟨S1x1024, .f32⟩
  | .hbm, ⟨11, _⟩ => ⟨S65536x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x128, .f32⟩
  | .local _ .vmem, ⟨5, _⟩ => ⟨S1024x128, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 16], ![false, false]⟩

def k0_cond2 (i : grid0.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_20 : BitVec 32 := 0#32
  let v39 : BitVec 1 := Scalar.cmpi .ne v38 c0_i32_20
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MoeRefIdeal.lean ====
abbrev S65536x1024 : Shape := ⟨2, ![65536, 1024]⟩
abbrev S65536x128 : Shape := ⟨2, ![65536, 128]⟩
abbrev S16x1024x512 : Shape := ⟨3, ![16, 1024, 512]⟩
abbrev S16x512x1024 : Shape := ⟨3, ![16, 512, 1024]⟩
abbrev S1024 : Shape := ⟨1, ![1024]⟩
abbrev S65536x16x512 : Shape := ⟨3, ![65536, 16, 512]⟩
abbrev S_ : Shape := ⟨0, ![]⟩
abbrev S16x1024x65536 : Shape := ⟨3, ![16, 1024, 65536]⟩
abbrev S65536x16x1024 : Shape := ⟨3, ![65536, 16, 1024]⟩
abbrev S65536x16 : Shape := ⟨2, ![65536, 16]⟩
abbrev S65536x16x1 : Shape := ⟨3, ![65536, 16, 1]⟩
abbrev S65536 : Shape := ⟨1, ![65536]⟩
abbrev S65536x1 : Shape := ⟨2, ![65536, 1]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S65536x128, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S1024, .f32⟩
  | .hbm, ⟨7, _⟩ => ⟨S65536x1024, .f32⟩
  | .hbm, ⟨8, _⟩ => ⟨S65536x16x512, .f32⟩
  | .hbm, ⟨9, _⟩ => ⟨S65536x16x512, .f32⟩
  | .hbm, ⟨10, _⟩ => ⟨S65536x16x512, .f32⟩
  | .hbm, ⟨11, _⟩ => ⟨S65536x16x512, .f32⟩
  | .hbm, ⟨12, _⟩ => ⟨S_, .f32⟩
  | .hbm, ⟨13, _⟩ => ⟨S65536x16x512, .f32⟩
  | .hbm, ⟨14, _⟩ => ⟨S65536x16x512, .f32⟩
  | .hbm, ⟨15, _⟩ => ⟨S_, .f32⟩
  | .hbm, ⟨16, _⟩ => ⟨S65536x16x512, .f32⟩
  | .hbm, ⟨17, _⟩ => ⟨S65536x16x512, .f32⟩
  | .hbm, ⟨18, _⟩ => ⟨S65536x16x512, .f32⟩
  | .hbm, ⟨19, _⟩ => ⟨S65536x16x512, .f32⟩
  | .hbm, ⟨20, _⟩ => ⟨S16x1024x65536, .f32⟩
  | .hbm, ⟨21, _⟩ => ⟨S65536x16x1024, .f32⟩
  | .hbm, ⟨22, _⟩ => ⟨S65536x16, .f32⟩
  | .hbm, ⟨23, _⟩ => ⟨S65536x16x1, .f32⟩
  | .hbm, ⟨24, _⟩ => ⟨S65536x16x1024, .f32⟩
  | .hbm, ⟨25, _⟩ => ⟨S65536x16x1024, .f32⟩
  | .hbm, ⟨26, _⟩ => ⟨S_, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536, .f32⟩
  | .hbm, ⟨32, _⟩ => ⟨S65536x1, .f32⟩
  | .hbm, ⟨33, _⟩ => ⟨S_, .f32⟩
  | .hbm, ⟨34, _⟩ => ⟨S65536x1, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S65536x1, .f32⟩
  | .hbm, ⟨40, _⟩ => ⟨S65536x1024, .f32⟩
  | .hbm, ⟨41, _⟩ => ⟨S65536x1024, .f32⟩
  | .hbm, ⟨42, _⟩ => ⟨S1x1024, .f32⟩
  | .hbm, ⟨43, _⟩ => ⟨S65536x1024, .f32⟩
  | .hbm, ⟨44, _⟩ => ⟨S65536x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== Proj.lean ====
abbrev S65536x1024 : Shape := ⟨2, ![65536, 1024]⟩
abbrev S1024 : Shape := ⟨1, ![1024]⟩
abbrev S1024x4608 : Shape := ⟨2, ![1024, 4608]⟩
abbrev S1x1024 : Shape := ⟨2, ![1, 1024]⟩
abbrev S65536x512 : Shape := ⟨2, ![65536, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩

abbrev nBuf : Space → Nat
  | .hbm => 11
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4608, .f32⟩
  | .hbm, ⟨3, _⟩ => ⟨S1x1024, .f32⟩
  | .hbm, ⟨4, _⟩ => ⟨S1024x4608, .bf16⟩
  | .hbm, ⟨5, _⟩ => ⟨S65536x512, .bf16⟩
  | .hbm, ⟨6, _⟩ => ⟨S65536x512, .bf16⟩
  | .hbm, ⟨7, _⟩ => ⟨S65536x512, .bf16⟩
  | .hbm, ⟨8, _⟩ => ⟨S65536x512, .bf16⟩
  | .hbm, ⟨9, _⟩ => ⟨S65536x1024, .bf16⟩
  | .hbm, ⟨10, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4608, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ProjRefIdeal.lean ====
abbrev S65536x1024 : Shape := ⟨2, ![65536, 1024]⟩
abbrev S1024 : Shape := ⟨1, ![1024]⟩
abbrev S1024x4608 : Shape := ⟨2, ![1024, 4608]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4608 : Shape := ⟨2, ![65536, 4608]⟩
abbrev S65536x512 : Shape := ⟨2, ![65536, 512]⟩

abbrev nBuf : Space → Nat
  | .hbm => 61
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4608, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x4608, .f32⟩
  | .hbm, ⟨20, _⟩ => ⟨S65536x512, .f32⟩
  | .hbm, ⟨21, _⟩ => ⟨S65536x512, .f32⟩
  | .hbm, ⟨22, _⟩ => ⟨S65536x512, .f32⟩
  | .hbm, ⟨23, _⟩ => ⟨S65536x512, .f32⟩
  | .hbm, ⟨24, _⟩ => ⟨S65536x512, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536x512, .f32⟩
  | .hbm, ⟨29, _⟩ => ⟨S65536x512, .f32⟩
  | .hbm, ⟨30, _⟩ => ⟨S65536x512, .f32⟩
  | .hbm, ⟨31, _⟩ => ⟨S65536x512, .f32⟩
  | .hbm, ⟨32, _⟩ => ⟨S_, .f32⟩
  | .hbm, ⟨33, _⟩ => ⟨S65536x512, .f32⟩
  | .hbm, ⟨34, _⟩ => ⟨S65536x512, .f32⟩
  | .hbm, ⟨35, _⟩ => ⟨S_, .f32⟩
  | .hbm, ⟨36, _⟩ => ⟨S65536x512, .f32⟩
  | .hbm, ⟨37, _⟩ => ⟨S65536x512, .f32⟩
  | .hbm, ⟨38, _⟩ => ⟨S65536x512, .f32⟩
  | .hbm, ⟨39, _⟩ => ⟨S65536x1024, .f32⟩
  | .hbm, ⟨40, _⟩ => ⟨S65536x1024, .f32⟩
  | .hbm, ⟨41, _⟩ => ⟨S_, .f32⟩
  | .hbm, ⟨42, _⟩ => ⟨S65536x1024, .f32⟩
  | .hbm, ⟨43, _⟩ => ⟨S65536x1024, .f32⟩
  | .hbm, ⟨44, _⟩ => ⟨S_, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S65536x1024, .f32⟩
  | .hbm, ⟨49, _⟩ => ⟨S_, .f32⟩
  | .hbm, ⟨50, _⟩ => ⟨S65536x1024, .f32⟩
  | .hbm, ⟨51, _⟩ => ⟨S65536x1024, .f32⟩
  | .hbm, ⟨52, _⟩ => ⟨S_, .f32⟩
  | .hbm, ⟨53, _⟩ => ⟨S65536x1024, .f32⟩
  | .hbm, ⟨54, _⟩ => ⟨S65536x1024, .f32⟩
  | .hbm, ⟨55, _⟩ => ⟨S65536x512, .bf16⟩
  | .hbm, ⟨56, _⟩ => ⟨S65536x512, .bf16⟩
  | .hbm, ⟨57, _⟩ => ⟨S65536x512, .bf16⟩
  | .hbm, ⟨58, _⟩ => ⟨S65536x512, .bf16⟩
  | .hbm, ⟨59, _⟩ => ⟨S65536x1024, .bf16⟩
  | .hbm, ⟨60, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Mix.lean ====
abbrev S65536x512 : Shape := ⟨2, ![65536, 512]⟩
abbrev S16x512 : Shape := ⟨2, ![16, 512]⟩
abbrev S65536x1024 : Shape := ⟨2, ![65536, 1024]⟩
abbrev S512x1024 : Shape := ⟨2, ![512, 1024]⟩
abbrev S1024x1024 : Shape := ⟨2, ![1024, 1024]⟩
abbrev S31x512 : Shape := ⟨2, ![31, 512]⟩
abbrev S512 : Shape := ⟨1, ![512]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S32x512 : Shape := ⟨2, ![32, 512]⟩
abbrev S1024x20 : Shape := ⟨2, ![1024, 20]⟩
abbrev S20x1024 : Shape := ⟨2, ![20, 1024]⟩
abbrev S32x1024 : Shape := ⟨2, ![32, 1024]⟩
abbrev S20 : Shape := ⟨1, ![20]⟩
abbrev S20x1 : Shape := ⟨2, ![20, 1]⟩
abbrev S32x1 : Shape := ⟨2, ![32, 1]⟩
abbrev S1x512 : Shape := ⟨2, ![1, 512]⟩
abbrev S1x1024 : Shape := ⟨2, ![1, 1024]⟩
abbrev S65536x128 : Shape := ⟨2, ![65536, 128]⟩
abbrev S512x512 : Shape := ⟨2, ![512, 512]⟩
abbrev S512x128 : Shape := ⟨2, ![512, 128]⟩
abbrev S544x512 : Shape := ⟨2, ![544, 512]⟩
abbrev S64x512 : Shape := ⟨2, ![64, 512]⟩
abbrev S64 : Shape := ⟨1, ![64]⟩
abbrev S64x1 : Shape := ⟨2, ![64, 1]⟩
abbrev S512x1 : Shape := ⟨2, ![512, 1]⟩
abbrev S128x512 : Shape := ⟨2, ![128, 512]⟩

abbrev nBuf : Space → Nat
  | .hbm => 42
  | .vmem => 31
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S16x512, .bf16⟩
  | .hbm, ⟨3, _⟩ => ⟨S65536x1024, .bf16⟩
  | .hbm, ⟨4, _⟩ => ⟨S65536x1024, .bf16⟩
  | .hbm, ⟨5, _⟩ => ⟨S65536x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S31x512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S1024, .f32⟩
  | .hbm, ⟨14, _⟩ => ⟨S1024x4, .f32⟩
  | .hbm, ⟨15, _⟩ => ⟨S4, .f32⟩
  | .hbm, ⟨16, _⟩ => ⟨S1024x16, .f32⟩
  | .hbm, ⟨17, _⟩ => ⟨S16, .f32⟩
  | .hbm, ⟨18, _⟩ => ⟨S_, .i32⟩
  | .hbm, ⟨19, _⟩ => ⟨S_, .bf16⟩
  | .hbm, ⟨20, _⟩ => ⟨S32x512, .bf16⟩
  | .hbm, ⟨21, _⟩ => ⟨S1024x20, .f32⟩
  | .hbm, ⟨22, _⟩ => ⟨S20x1024, .f32⟩
  | .hbm, ⟨23, _⟩ => ⟨S_, .i32⟩
  | .hbm, ⟨24, _⟩ => ⟨S_, .f32⟩
  | .hbm, ⟨25, _⟩ => ⟨S32x1024, .f32⟩
  | .hbm, ⟨26, _⟩ => ⟨S32x1024, .bf16⟩
  | .hbm, ⟨27, _⟩ => ⟨S20, .f32⟩
  | .hbm, ⟨28, _⟩ => ⟨S20x1, .f32⟩
  | .hbm, ⟨29, _⟩ => ⟨S_, .i32⟩
  | .hbm, ⟨30, _⟩ => ⟨S_, .f32⟩
  | .hbm, ⟨31, _⟩ => ⟨S32x1, .f32⟩
  | .hbm, ⟨32, _⟩ => ⟨S512x1024, .bf16⟩
  | .hbm, ⟨33, _⟩ => ⟨S512x1024, .bf16⟩
  | .hbm, ⟨34, _⟩ => ⟨S1024x1024, .bf16⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x1024, .f32⟩
  | .hbm, ⟨39, _⟩ => ⟨S65536x1024, .f32⟩
  | .hbm, ⟨40, _⟩ => ⟨S65536x1024, .bf16⟩
  | .hbm, ⟨41, _⟩ => ⟨S65536x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S32x512, .bf16⟩
  | .local _ .vmem, ⟨5, _⟩ => ⟨S32x512, .bf16⟩
  | .local _ .vmem, ⟨6, _⟩ => ⟨S32x512, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S31x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x1024, .f32⟩
  | .local _ .vmem, ⟨21, _⟩ => ⟨S32x1024, .bf16⟩
  | .local _ .vmem, ⟨22, _⟩ => ⟨S32x1, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | .local _ .vmem, ⟨27, _⟩ => ⟨S512x128, .f32⟩
  | .local _ .vmem, ⟨28, _⟩ => ⟨S512x128, .f32⟩
  | .local _ .vmem, ⟨29, _⟩ => ⟨S544x512, .f32⟩
  | .local _ .vmem, ⟨30, _⟩ => ⟨S512x512, .bf16⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_call0_v0 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_call2_v0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15_0 : Ref sig .tc := ⟨.hbm, 39, rfl⟩
abbrev main_v15_1 : Ref sig .tc := ⟨.hbm, 40, rfl⟩
abbrev main_v15_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S31x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MixRefIdeal.lean ====
abbrev S65536x512 : Shape := ⟨2, ![65536, 512]⟩
abbrev S16x512 : Shape := ⟨2, ![16, 512]⟩
abbrev S65536x1024 : Shape := ⟨2, ![65536, 1024]⟩
abbrev S512x1024 : Shape := ⟨2, ![512, 1024]⟩
abbrev S1024x1024 : Shape := ⟨2, ![1024, 1024]⟩
abbrev S31x512 : Shape := ⟨2, ![31, 512]⟩
abbrev S512 : Shape := ⟨1, ![512]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S1x16x512 : Shape := ⟨3, ![1, 16, 512]⟩
abbrev S8x16x512 : Shape := ⟨3, ![8, 16, 512]⟩
abbrev S8x8192x512 : Shape := ⟨3, ![8, 8192, 512]⟩
abbrev S8x8208x512 : Shape := ⟨3, ![8, 8208, 512]⟩
abbrev S_ : Shape := ⟨0, ![]⟩
abbrev S8x8238x512 : Shape := ⟨3, ![8, 8238, 512]⟩
abbrev S1x512 : Shape := ⟨2, ![1, 512]⟩
abbrev S1x1x512 : Shape := ⟨3, ![1, 1, 512]⟩
abbrev S8x8192 : Shape := ⟨2, ![8, 8192]⟩
abbrev S8x8192x1 : Shape := ⟨3, ![8, 8192, 1]⟩
abbrev S65536 : Shape := ⟨1, ![65536]⟩
abbrev S65536x1 : Shape := ⟨2, ![65536, 1]⟩
abbrev S1x1024 : Shape := ⟨2, ![1, 1024]⟩
abbrev S65536x4 : Shape := ⟨2, ![65536, 4]⟩
abbrev S1x4 : Shape := ⟨2, ![1, 4]⟩
abbrev S65536x4x1 : Shape := ⟨3, ![65536, 4, 1]⟩
abbrev S65536x1x4 : Shape := ⟨3, ![65536, 1, 4]⟩
abbrev S4x1 : Shape := ⟨2, ![4, 1]⟩
abbrev S4x4 : Shape := ⟨2, ![4, 4]⟩
abbrev S65536x4x4 : Shape := ⟨3, ![65536, 4, 4]⟩
abbrev S1x4x4 : Shape := ⟨3, ![1, 4, 4]⟩
abbrev S65536x16 : Shape := ⟨2, ![65536, 16]⟩
abbrev S1x16 : Shape := ⟨2, ![1, 16]⟩
abbrev S65536x4x4x1 : Shape := ⟨4, ![65536, 4, 4, 1]⟩
abbrev S65536x4x1x4 : Shape := ⟨4, ![65536, 4, 1, 4]⟩
abbrev S65536x4x4x4 : Shape := ⟨4, ![65536, 4, 4, 4]⟩
abbrev S1x1x4x4 : Shape := ⟨4, ![1, 1, 4, 4]⟩
abbrev S65536x128 : Shape := ⟨2, ![65536, 128]⟩

abbrev nBuf : Space → Nat
  | .hbm => 414
  | .vmem => 0
  | .smem => 0
  | _ => 0

abbrev hbmTy0_0 (i : Nat) : BufTy := match i % 128 with
  | 0 => ⟨S65536x512, .bf16⟩
  | 1 => ⟨S65536x512, .bf16⟩
  | 2 => ⟨S16x512, .bf16⟩
  | 3 => ⟨S65536x1024, .bf16⟩
  | 4 => ⟨S65536x1024, .bf16⟩
  | 5 => ⟨S65536x1024, .f32⟩
  | 6 => ⟨S512x1024, .f32⟩
  | 7 => ⟨S512x1024, .f32⟩
  | 8 => ⟨S1024x1024, .f32⟩
  | 9 => ⟨S31x512, .f32⟩
  | 10 => ⟨S512, .f32⟩
  | 11 => ⟨S512, .f32⟩
  | 12 => ⟨S512, .f32⟩
  | 13 => ⟨S1024, .f32⟩
  | 14 => ⟨S1024x4, .f32⟩
  | 15 => ⟨S4, .f32⟩
  | 16 => ⟨S1024x16, .f32⟩
  | 17 => ⟨S16, .f32⟩
  | 18 => ⟨S16x512, .f32⟩
  | 19 => ⟨S1x16x512, .f32⟩
  | 20 => ⟨S8x16x512, .f32⟩
  | 21 => ⟨S65536x512, .f32⟩
  | 22 => ⟨S8x8192x512, .f32⟩
  | 23 => ⟨S8x8208x512, .f32⟩
  | 24 => ⟨S_, .i32⟩
  | 25 => ⟨S_, .f32⟩
  | 26 => ⟨S8x8238x512, .f32⟩
  | 27 => ⟨S1x512, .f32⟩
  | 28 => ⟨S512, .f32⟩
  | 29 => ⟨S8x8192x512, .f32⟩
  | 30 => ⟨S1x1x512, .f32⟩
  | 31 => ⟨S8x8192x512, .f32⟩
  | 32 => ⟨S8x8192x512, .f32⟩
  | 33 => ⟨S_, .f32⟩
  | 34 => ⟨S8x8192x512, .f32⟩
  | 35 => ⟨S8x8192x512, .f32⟩
  | 36 => ⟨S1x512, .f32⟩
  | 37 => ⟨S512, .f32⟩
  | 38 => ⟨S8x8192x512, .f32⟩
  | 39 => ⟨S1x1x512, .f32⟩
  | 40 => ⟨S8x8192x512, .f32⟩
  | 41 => ⟨S8x8192x512, .f32⟩
  | 42 => ⟨S8x8192x512, .f32⟩
  | 43 => ⟨S1x512, .f32⟩
  | 44 => ⟨S512, .f32⟩
  | 45 => ⟨S8x8192x512, .f32⟩
  | 46 => ⟨S1x1x512, .f32⟩
  | 47 => ⟨S8x8192x512, .f32⟩
  | 48 => ⟨S8x8192x512, .f32⟩
  | 49 => ⟨S8x8192x512, .f32⟩
  | 50 => ⟨S1x512, .f32⟩
  | 51 => ⟨S512, .f32⟩
  | 52 => ⟨S8x8192x512, .f32⟩
  | 53 => ⟨S1x1x512, .f32⟩
  | 54 => ⟨S8x8192x512, .f32⟩
  | 55 => ⟨S8x8192x512, .f32⟩
  | 56 => ⟨S8x8192x512, .f32⟩
  | 57 => ⟨S1x512, .f32⟩
  | 58 => ⟨S512, .f32⟩
  | 59 => ⟨S8x8192x512, .f32⟩
  | 60 => ⟨S1x1x512, .f32⟩
  | 61 => ⟨S8x8192x512, .f32⟩
  | 62 => ⟨S8x8192x512, .f32⟩
  | 63 => ⟨S8x8192x512, .f32⟩
  | 64 => ⟨S1x512, .f32⟩
  | 65 => ⟨S512, .f32⟩
  | 66 => ⟨S8x8192x512, .f32⟩
  | 67 => ⟨S1x1x512, .f32⟩
  | 68 => ⟨S8x8192x512, .f32⟩
  | 69 => ⟨S8x8192x512, .f32⟩
  | 70 => ⟨S8x8192x512, .f32⟩
  | 71 => ⟨S1x512, .f32⟩
  | 72 => ⟨S512, .f32⟩
  | 73 => ⟨S8x8192x512, .f32⟩
  | 74 => ⟨S1x1x512, .f32⟩
  | 75 => ⟨S8x8192x512, .f32⟩
  | 76 => ⟨S8x8192x512, .f32⟩
  | 77 => ⟨S8x8192x512, .f32⟩
  | 78 => ⟨S1x512, .f32⟩
  | 79 => ⟨S512, .f32⟩
  | 80 => ⟨S8x8192x512, .f32⟩
  | 81 => ⟨S1x1x512, .f32⟩
  | 82 => ⟨S8x8192x512, .f32⟩
  | 83 => ⟨S8x8192x512, .f32⟩
  | 84 => ⟨S8x8192x512, .f32⟩
  | 85 => ⟨S1x512, .f32⟩
  | 86 => ⟨S512, .f32⟩
  | 87 => ⟨S8x8192x512, .f32⟩
  | 88 => ⟨S1x1x512, .f32⟩
  | 89 => ⟨S8x8192x512, .f32⟩
  | 90 => ⟨S8x8192x512, .f32⟩
  | 91 => ⟨S8x8192x512, .f32⟩
  | 92 => ⟨S1x512, .f32⟩
  | 93 => ⟨S512, .f32⟩
  | 94 => ⟨S8x8192x512, .f32⟩
  | 95 => ⟨S1x1x512, .f32⟩
  | 96 => ⟨S8x8192x512, .f32⟩
  | 97 => ⟨S8x8192x512, .f32⟩
  | 98 => ⟨S8x8192x512, .f32⟩
  | 99 => ⟨S1x512, .f32⟩
  | 100 => ⟨S512, .f32⟩
  | 101 => ⟨S8x8192x512, .f32⟩
  | 102 => ⟨S1x1x512, .f32⟩
  | 103 => ⟨S8x8192x512, .f32⟩
  | 104 => ⟨S8x8192x512, .f32⟩
  | 105 => ⟨S8x8192x512, .f32⟩
  | 106 => ⟨S1x512, .f32⟩
  | 107 => ⟨S512, .f32⟩
  | 108 => ⟨S8x8192x512, .f32⟩
  | 109 => ⟨S1x1x512, .f32⟩
  | 110 => ⟨S8x8192x512, .f32⟩
  | 111 => ⟨S8x8192x512, .f32⟩
  | 112 => ⟨S8x8192x512, .f32⟩
  | 113 => ⟨S1x512, .f32⟩
  | 114 => ⟨S512, .f32⟩
  | 115 => ⟨S8x8192x512, .f32⟩
  | 116 => ⟨S1x1x512, .f32⟩
  | 117 => ⟨S8x8192x512, .f32⟩
  | 118 => ⟨S8x8192x512, .f32⟩
  | 119 => ⟨S8x8192x512, .f32⟩
  | 120 => ⟨S1x512, .f32⟩
  | 121 => ⟨S512, .f32⟩
  | 122 => ⟨S8x8192x512, .f32⟩
  | 123 => ⟨S1x1x512, .f32⟩
  | 124 => ⟨S8x8192x512, .f32⟩
  | 125 => ⟨S8x8192x512, .f32⟩
  | 126 => ⟨S8x8192x512, .f32⟩
  | 127 => ⟨S1x512, .f32⟩
  | _ => ⟨S65536x512, .bf16⟩

abbrev hbmTy0_1 (i : Nat) : BufTy := match i % 128 with
  | 0 => ⟨S512, .f32⟩
  | 1 => ⟨S8x8192x512, .f32⟩
  | 2 => ⟨S1x1x512, .f32⟩
  | 3 => ⟨S8x8192x512, .f32⟩
  | 4 => ⟨S8x8192x512, .f32⟩
  | 5 => ⟨S8x8192x512, .f32⟩
  | 6 => ⟨S1x512, .f32⟩
  | 7 => ⟨S512, .f32⟩
  | 8 => ⟨S8x8192x512, .f32⟩
  | 9 => ⟨S1x1x512, .f32⟩
  | 10 => ⟨S8x8192x512, .f32⟩
  | 11 => ⟨S8x8192x512, .f32⟩
  | 12 => ⟨S8x8192x512, .f32⟩
  | 13 => ⟨S1x512, .f32⟩
  | 14 => ⟨S512, .f32⟩
  | 15 => ⟨S8x8192x512, .f32⟩
  | 16 => ⟨S1x1x512, .f32⟩
  | 17 => ⟨S8x8192x512, .f32⟩
  | 18 => ⟨S8x8192x512, .f32⟩
  | 19 => ⟨S8x8192x512, .f32⟩
  | 20 => ⟨S1x512, .f32⟩
  | 21 => ⟨S512, .f32⟩
  | 22 => ⟨S8x8192x512, .f32⟩
  | 23 => ⟨S1x1x512, .f32⟩
  | 24 => ⟨S8x8192x512, .f32⟩
  | 25 => ⟨S8x8192x512, .f32⟩
  | 26 => ⟨S8x8192x512, .f32⟩
  | 27 => ⟨S1x512, .f32⟩
  | 28 => ⟨S512, .f32⟩
  | 29 => ⟨S8x8192x512, .f32⟩
  | 30 => ⟨S1x1x512, .f32⟩
  | 31 => ⟨S8x8192x512, .f32⟩
  | 32 => ⟨S8x8192x512, .f32⟩
  | 33 => ⟨S8x8192x512, .f32⟩
  | 34 => ⟨S1x512, .f32⟩
  | 35 => ⟨S512, .f32⟩
  | 36 => ⟨S8x8192x512, .f32⟩
  | 37 => ⟨S1x1x512, .f32⟩
  | 38 => ⟨S8x8192x512, .f32⟩
  | 39 => ⟨S8x8192x512, .f32⟩
  | 40 => ⟨S8x8192x512, .f32⟩
  | 41 => ⟨S1x512, .f32⟩
  | 42 => ⟨S512, .f32⟩
  | 43 => ⟨S8x8192x512, .f32⟩
  | 44 => ⟨S1x1x512, .f32⟩
  | 45 => ⟨S8x8192x512, .f32⟩
  | 46 => ⟨S8x8192x512, .f32⟩
  | 47 => ⟨S8x8192x512, .f32⟩
  | 48 => ⟨S1x512, .f32⟩
  | 49 => ⟨S512, .f32⟩
  | 50 => ⟨S8x8192x512, .f32⟩
  | 51 => ⟨S1x1x512, .f32⟩
  | 52 => ⟨S8x8192x512, .f32⟩
  | 53 => ⟨S8x8192x512, .f32⟩
  | 54 => ⟨S8x8192x512, .f32⟩
  | 55 => ⟨S1x512, .f32⟩
  | 56 => ⟨S512, .f32⟩
  | 57 => ⟨S8x8192x512, .f32⟩
  | 58 => ⟨S1x1x512, .f32⟩
  | 59 => ⟨S8x8192x512, .f32⟩
  | 60 => ⟨S8x8192x512, .f32⟩
  | 61 => ⟨S8x8192x512, .f32⟩
  | 62 => ⟨S1x512, .f32⟩
  | 63 => ⟨S512, .f32⟩
  | 64 => ⟨S8x8192x512, .f32⟩
  | 65 => ⟨S1x1x512, .f32⟩
  | 66 => ⟨S8x8192x512, .f32⟩
  | 67 => ⟨S8x8192x512, .f32⟩
  | 68 => ⟨S8x8192x512, .f32⟩
  | 69 => ⟨S1x512, .f32⟩
  | 70 => ⟨S512, .f32⟩
  | 71 => ⟨S8x8192x512, .f32⟩
  | 72 => ⟨S1x1x512, .f32⟩
  | 73 => ⟨S8x8192x512, .f32⟩
  | 74 => ⟨S8x8192x512, .f32⟩
  | 75 => ⟨S8x8192x512, .f32⟩
  | 76 => ⟨S1x512, .f32⟩
  | 77 => ⟨S512, .f32⟩
  | 78 => ⟨S8x8192x512, .f32⟩
  | 79 => ⟨S1x1x512, .f32⟩
  | 80 => ⟨S8x8192x512, .f32⟩
  | 81 => ⟨S8x8192x512, .f32⟩
  | 82 => ⟨S8x8192x512, .f32⟩
  | 83 => ⟨S1x512, .f32⟩
  | 84 => ⟨S512, .f32⟩
  | 85 => ⟨S8x8192x512, .f32⟩
  | 86 => ⟨S1x1x512, .f32⟩
  | 87 => ⟨S8x8192x512, .f32⟩
  | 88 => ⟨S8x8192x512, .f32⟩
  | 89 => ⟨S8x8192x512, .f32⟩
  | 90 => ⟨S1x512, .f32⟩
  | 91 => ⟨S512, .f32⟩
  | 92 => ⟨S8x8192x512, .f32⟩
  | 93 => ⟨S1x1x512, .f32⟩
  | 94 => ⟨S8x8192x512, .f32⟩
  | 95 => ⟨S8x8192x512, .f32⟩
  | 96 => ⟨S8x8192x512, .f32⟩
  | 97 => ⟨S1x512, .f32⟩
  | 98 => ⟨S512, .f32⟩
  | 99 => ⟨S8x8192x512, .f32⟩
  | 100 => ⟨S1x1x512, .f32⟩
  | 101 => ⟨S8x8192x512, .f32⟩
  | 102 => ⟨S8x8192x512, .f32⟩
  | 103 => ⟨S8x8192x512, .f32⟩
  | 104 => ⟨S1x512, .f32⟩
  | 105 => ⟨S512, .f32⟩
  | 106 => ⟨S8x8192x512, .f32⟩
  | 107 => ⟨S1x1x512, .f32⟩
  | 108 => ⟨S8x8192x512, .f32⟩
  | 109 => ⟨S8x8192x512, .f32⟩
  | 110 => ⟨S8x8192x512, .f32⟩
  | 111 => ⟨S1x512, .f32⟩
  | 112 => ⟨S512, .f32⟩
  | 113 => ⟨S8x8192x512, .f32⟩
  | 114 => ⟨S1x1x512, .f32⟩
  | 115 => ⟨S8x8192x512, .f32⟩
  | 116 => ⟨S8x8192x512, .f32⟩
  | 117 => ⟨S8x8192x512, .f32⟩
  | 118 => ⟨S1x1x512, .f32⟩
  | 119 => ⟨S8x8192x512, .f32⟩
  | 120 => ⟨S8x8192x512, .f32⟩
  | 121 => ⟨S_, .f32⟩
  | 122 => ⟨S8x8192, .f32⟩
  | 123 => ⟨S8x8192x1, .f32⟩
  | 124 => ⟨S_, .f32⟩
  | 125 => ⟨S8x8192x1, .f32⟩
  | 126 => ⟨S8x8192x1, .f32⟩
  | 127 => ⟨S8x8192x512, .f32⟩
  | _ => ⟨S65536x512, .bf16⟩

abbrev hbmTy0_2 (i : Nat) : BufTy := match i % 128 with
  | 0 => ⟨S8x8192x512, .f32⟩
  | 1 => ⟨S8x8192x512, .f32⟩
  | 2 => ⟨S_, .f32⟩
  | 3 => ⟨S8x8192, .f32⟩
  | 4 => ⟨S8x8192x1, .f32⟩
  | 5 => ⟨S_, .f32⟩
  | 6 => ⟨S8x8192x1, .f32⟩
  | 7 => ⟨S8x8192x1, .f32⟩
  | 8 => ⟨S_, .f32⟩
  | 9 => ⟨S8x8192x1, .f32⟩
  | 10 => ⟨S8x8192x1, .f32⟩
  | 11 => ⟨S8x8192x1, .f32⟩
  | 12 => ⟨S8x8192x512, .f32⟩
  | 13 => ⟨S8x8192x512, .f32⟩
  | 14 => ⟨S1x1x512, .f32⟩
  | 15 => ⟨S8x8192x512, .f32⟩
  | 16 => ⟨S8x8192x512, .f32⟩
  | 17 => ⟨S1x1x512, .f32⟩
  | 18 => ⟨S8x8192x512, .f32⟩
  | 19 => ⟨S8x8192x512, .f32⟩
  | 20 => ⟨S8x8192x512, .f32⟩
  | 21 => ⟨S8x8192x512, .f32⟩
  | 22 => ⟨S_, .f32⟩
  | 23 => ⟨S8x8192x512, .f32⟩
  | 24 => ⟨S8x8192x512, .f32⟩
  | 25 => ⟨S_, .f32⟩
  | 26 => ⟨S8x8192x512, .f32⟩
  | 27 => ⟨S8x8192x512, .f32⟩
  | 28 => ⟨S8x8192x512, .f32⟩
  | 29 => ⟨S65536x512, .f32⟩
  | 30 => ⟨S65536x1024, .f32⟩
  | 31 => ⟨S65536x512, .f32⟩
  | 32 => ⟨S65536x1024, .f32⟩
  | 33 => ⟨S65536x1024, .f32⟩
  | 34 => ⟨S65536x1024, .f32⟩
  | 35 => ⟨S65536x1024, .f32⟩
  | 36 => ⟨S65536x1024, .f32⟩
  | 37 => ⟨S65536x1024, .f32⟩
  | 38 => ⟨S65536x1024, .f32⟩
  | 39 => ⟨S65536x1024, .f32⟩
  | 40 => ⟨S65536x1024, .f32⟩
  | 41 => ⟨S_, .f32⟩
  | 42 => ⟨S65536, .f32⟩
  | 43 => ⟨S65536x1, .f32⟩
  | 44 => ⟨S_, .f32⟩
  | 45 => ⟨S65536x1, .f32⟩
  | 46 => ⟨S65536x1, .f32⟩
  | 47 => ⟨S_, .f32⟩
  | 48 => ⟨S65536x1, .f32⟩
  | 49 => ⟨S65536x1, .f32⟩
  | 50 => ⟨S65536x1, .f32⟩
  | 51 => ⟨S65536x1024, .f32⟩
  | 52 => ⟨S65536x1024, .f32⟩
  | 53 => ⟨S1x1024, .f32⟩
  | 54 => ⟨S65536x1024, .f32⟩
  | 55 => ⟨S65536x1024, .f32⟩
  | 56 => ⟨S65536x4, .f32⟩
  | 57 => ⟨S1x4, .f32⟩
  | 58 => ⟨S65536x4, .f32⟩
  | 59 => ⟨S65536x4, .f32⟩
  | 60 => ⟨S65536x4, .f32⟩
  | 61 => ⟨S_, .f32⟩
  | 62 => ⟨S65536, .f32⟩
  | 63 => ⟨S65536x1, .f32⟩
  | 64 => ⟨S65536x4, .f32⟩
  | 65 => ⟨S65536x4, .f32⟩
  | 66 => ⟨S65536x4x1, .f32⟩
  | 67 => ⟨S65536x1x4, .f32⟩
  | 68 => ⟨S4, .i32⟩
  | 69 => ⟨S1x4, .i32⟩
  | 70 => ⟨S4, .i32⟩
  | 71 => ⟨S4x1, .i32⟩
  | 72 => ⟨S4x4, .i32⟩
  | 73 => ⟨S4x4, .i32⟩
  | 74 => ⟨S4x4, .i1⟩
  | 75 => ⟨S65536x4x4, .f32⟩
  | 76 => ⟨S65536x4x4, .f32⟩
  | 77 => ⟨S65536x4x4, .i1⟩
  | 78 => ⟨S65536x4x4, .f32⟩
  | 79 => ⟨S65536x4x4, .f32⟩
  | 80 => ⟨S65536x4x4, .i1⟩
  | 81 => ⟨S1x4x4, .i1⟩
  | 82 => ⟨S65536x4x4, .i1⟩
  | 83 => ⟨S65536x4x4, .i1⟩
  | 84 => ⟨S65536x4x4, .i1⟩
  | 85 => ⟨S_, .f32⟩
  | 86 => ⟨S_, .f32⟩
  | 87 => ⟨S65536x4x4, .f32⟩
  | 88 => ⟨S65536x4x4, .f32⟩
  | 89 => ⟨S65536x4x4, .f32⟩
  | 90 => ⟨S65536x4x4, .f32⟩
  | 91 => ⟨S_, .f32⟩
  | 92 => ⟨S65536x4, .f32⟩
  | 93 => ⟨S_, .f32⟩
  | 94 => ⟨S65536x4, .f32⟩
  | 95 => ⟨S65536x4, .i1⟩
  | 96 => ⟨S_, .f32⟩
  | 97 => ⟨S_, .f32⟩
  | 98 => ⟨S65536x4, .f32⟩
  | 99 => ⟨S65536x4, .f32⟩
  | 100 => ⟨S65536x16, .f32⟩
  | 101 => ⟨S1x16, .f32⟩
  | 102 => ⟨S65536x16, .f32⟩
  | 103 => ⟨S65536x16, .f32⟩
  | 104 => ⟨S65536x4x4, .f32⟩
  | 105 => ⟨S65536x4x4, .f32⟩
  | 106 => ⟨S_, .f32⟩
  | 107 => ⟨S65536x4, .f32⟩
  | 108 => ⟨S65536x4x1, .f32⟩
  | 109 => ⟨S65536x4x4, .f32⟩
  | 110 => ⟨S65536x4x4, .f32⟩
  | 111 => ⟨S65536x4x4x1, .f32⟩
  | 112 => ⟨S65536x4x1x4, .f32⟩
  | 113 => ⟨S4, .i32⟩
  | 114 => ⟨S1x4, .i32⟩
  | 115 => ⟨S4, .i32⟩
  | 116 => ⟨S4x1, .i32⟩
  | 117 => ⟨S4x4, .i32⟩
  | 118 => ⟨S4x4, .i32⟩
  | 119 => ⟨S4x4, .i1⟩
  | 120 => ⟨S65536x4x4x4, .f32⟩
  | 121 => ⟨S65536x4x4x4, .f32⟩
  | 122 => ⟨S65536x4x4x4, .i1⟩
  | 123 => ⟨S65536x4x4x4, .f32⟩
  | 124 => ⟨S65536x4x4x4, .f32⟩
  | 125 => ⟨S65536x4x4x4, .i1⟩
  | 126 => ⟨S1x1x4x4, .i1⟩
  | 127 => ⟨S65536x4x4x4, .i1⟩
  | _ => ⟨S65536x512, .bf16⟩

abbrev hbmTy0_3 (i : Nat) : BufTy := match i % 128 with
  | 0 => ⟨S65536x4x4x4, .i1⟩
  | 1 => ⟨S65536x4x4x4, .i1⟩
  | 2 => ⟨S_, .f32⟩
  | 3 => ⟨S_, .f32⟩
  | 4 => ⟨S65536x4x4x4, .f32⟩
  | 5 => ⟨S65536x4x4x4, .f32⟩
  | 6 => ⟨S65536x4x4x4, .f32⟩
  | 7 => ⟨S65536x4x4x4, .f32⟩
  | 8 => ⟨S_, .f32⟩
  | 9 => ⟨S65536x4x4, .f32⟩
  | 10 => ⟨S_, .f32⟩
  | 11 => ⟨S65536x4x4, .f32⟩
  | 12 => ⟨S65536x4x4, .i1⟩
  | 13 => ⟨S_, .f32⟩
  | 14 => ⟨S_, .f32⟩
  | 15 => ⟨S65536x4x4, .f32⟩
  | 16 => ⟨S65536x4x4, .f32⟩
  | 17 => ⟨S_, .f32⟩
  | 18 => ⟨S65536x4, .f32⟩
  | 19 => ⟨S65536x4x1, .f32⟩
  | 20 => ⟨S65536x4x4, .f32⟩
  | 21 => ⟨S65536x4x4, .f32⟩
  | 22 => ⟨S65536x4x1, .f32⟩
  | 23 => ⟨S65536x4x4, .f32⟩
  | 24 => ⟨S65536x4x4, .f32⟩
  | 25 => ⟨S65536x16, .f32⟩
  | 26 => ⟨S65536x1024, .bf16⟩
  | 27 => ⟨S_, .i32⟩
  | 28 => ⟨S_, .f32⟩
  | 29 => ⟨S65536x128, .f32⟩
  | _ => ⟨S65536x512, .bf16⟩

abbrev hbmTy (i : Nat) : BufTy := match i / 128 with
  | 0 => hbmTy0_0 i
  | 1 => hbmTy0_1 i
  | 2 => hbmTy0_2 i
  | 3 => hbmTy0_3 i
  | _ => ⟨S65536x512, .bf16⟩

abbrev bufTy : (tb : Table) → Fin (tcTables nBuf tb) → BufTy
  | .hbm, ⟨i, _⟩ => hbmTy i
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_call0_v0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_cst_0 : Ref sig .tc := ⟨.hbm, 249, rfl⟩
abbrev main_v228 : Ref sig .tc := ⟨.hbm, 250, rfl⟩
abbrev main_v229 : Ref sig .tc := ⟨.hbm, 251, rfl⟩
abbrev main_cst_1 : Ref sig .tc := ⟨.hbm, 252, rfl⟩
abbrev main_v230 : Ref sig .tc := ⟨.hbm, 253, rfl⟩
abbrev main_v231 : Ref sig .tc := ⟨.hbm, 254, rfl⟩
abbrev main_v232 : Ref sig .tc := ⟨.hbm, 255, rfl⟩
abbrev main_v233 : Ref sig .tc := ⟨.hbm, 256, rfl⟩
abbrev main_v234 : Ref sig .tc := ⟨.hbm, 257, rfl⟩
abbrev main_cst_2 : Ref sig .tc := ⟨.hbm, 258, rfl⟩
abbrev main_v235 : Ref sig .tc := ⟨.hbm, 259, rfl⟩
abbrev main_v236 : Ref sig .tc := ⟨.hbm, 260, rfl⟩
abbrev main_cst_3 : Ref sig .tc := ⟨.hbm, 261, rfl⟩
abbrev main_v237 : Ref sig .tc := ⟨.hbm, 262, rfl⟩
abbrev main_v238 : Ref sig .tc := ⟨.hbm, 263, rfl⟩
abbrev main_cst_4 : Ref sig .tc := ⟨.hbm, 264, rfl⟩
abbrev main_v239 : Ref sig .tc := ⟨.hbm, 265, rfl⟩
abbrev main_v240 : Ref sig .tc := ⟨.hbm, 266, rfl⟩
abbrev main_v241 : Ref sig .tc := ⟨.hbm, 267, rfl⟩
abbrev main_v242 : Ref sig .tc := ⟨.hbm, 268, rfl⟩
abbrev main_v243 : Ref sig .tc := ⟨.hbm, 269, rfl⟩
abbrev main_v244 : Ref sig .tc := ⟨.hbm, 270, rfl⟩
abbrev main_v245 : Ref sig .tc := ⟨.hbm, 271, rfl⟩
abbrev main_v246 : Ref sig .tc := ⟨.hbm, 272, rfl⟩
abbrev main_v247 : Ref sig .tc := ⟨.hbm, 273, rfl⟩
abbrev main_v248 : Ref sig .tc := ⟨.hbm, 274, rfl⟩
abbrev main_v249 : Ref sig .tc := ⟨.hbm, 275, rfl⟩
abbrev main_call1_v0 : Ref sig .tc := ⟨.hbm, 276, rfl⟩
abbrev main_call1_v1 : Ref sig .tc := ⟨.hbm, 277, rfl⟩
abbrev main_call1_cst : Ref sig .tc := ⟨.hbm, 278, rfl⟩
abbrev main_call1_v2 : Ref sig .tc := ⟨.hbm, 279, rfl⟩
abbrev main_call1_v3 : Ref sig .tc := ⟨.hbm, 280, rfl⟩
abbrev main_call1_cst_0 : Ref sig .tc := ⟨.hbm, 281, rfl⟩
abbrev main_call1_v4 : Ref sig .tc := ⟨.hbm, 282, rfl⟩
abbrev main_call1_v5 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_cst_5 : Ref sig .tc := ⟨.hbm, 297, rfl⟩
abbrev main_v263 : Ref sig .tc := ⟨.hbm, 298, rfl⟩
abbrev main_v264 : Ref sig .tc := ⟨.hbm, 299, rfl⟩
abbrev main_cst_6 : Ref sig .tc := ⟨.hbm, 300, rfl⟩
abbrev main_v265 : Ref sig .tc := ⟨.hbm, 301, rfl⟩
abbrev main_v266 : Ref sig .tc := ⟨.hbm, 302, rfl⟩
abbrev main_cst_7 : Ref sig .tc := ⟨.hbm, 303, rfl⟩
abbrev main_v267 : Ref sig .tc := ⟨.hbm, 304, rfl⟩
abbrev main_v268 : Ref sig .tc := ⟨.hbm, 305, rfl⟩
abbrev main_v269 : Ref sig .tc := ⟨.hbm, 306, rfl⟩
abbrev main_v270 : Ref sig .tc := ⟨.hbm, 307, rfl⟩
abbrev main_v271 : Ref sig .tc := ⟨.hbm, 308, rfl⟩
abbrev main_v272 : Ref sig .tc := ⟨.hbm, 309, rfl⟩
abbrev main_v273 : Ref sig .tc := ⟨.hbm, 310, rfl⟩
abbrev main_v274 : Ref sig .tc := ⟨.hbm, 311, rfl⟩
abbrev main_v275 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_v279 : Ref sig .tc := ⟨.hbm, 316, rfl⟩
abbrev main_cst_8 : Ref sig .tc := ⟨.hbm, 317, rfl⟩
abbrev main_v280 : Ref sig .tc := ⟨.hbm, 318, rfl⟩
abbrev main_v281 : Ref sig .tc := ⟨.hbm, 319, rfl⟩
abbrev main_v282 : Ref sig .tc := ⟨.hbm, 320, rfl⟩
abbrev main_v283 : Ref sig .tc := ⟨.hbm, 321, rfl⟩
abbrev main_v284 : Ref sig .tc := ⟨.hbm, 322, rfl⟩
abbrev main_v285 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_v290 : Ref sig .tc := ⟨.hbm, 328, rfl⟩
abbrev main_v291 : Ref sig .tc := ⟨.hbm, 329, rfl⟩
abbrev main_v292 : Ref sig .tc := ⟨.hbm, 330, rfl⟩
abbrev main_v293 : Ref sig .tc := ⟨.hbm, 331, rfl⟩
abbrev main_v294 : Ref sig .tc := ⟨.hbm, 332, rfl⟩
abbrev main_v295 : Ref sig .tc := ⟨.hbm, 333, rfl⟩
abbrev main_v296 : Ref sig .tc := ⟨.hbm, 334, rfl⟩
abbrev main_v297 : Ref sig .tc := ⟨.hbm, 335, rfl⟩
abbrev main_v298 : Ref sig .tc := ⟨.hbm, 336, rfl⟩
abbrev main_v299 : Ref sig .tc := ⟨.hbm, 337, rfl⟩
abbrev main_v300 : Ref sig .tc := ⟨.hbm, 338, rfl⟩
abbrev main_v301 : Ref sig .tc := ⟨.hbm, 339, rfl⟩
abbrev main_v302 : Ref sig .tc := ⟨.hbm, 340, rfl⟩
abbrev main_cst_9 : Ref sig .tc := ⟨.hbm, 341, rfl⟩
abbrev main_cst_10 : Ref sig .tc := ⟨.hbm, 342, rfl⟩
abbrev main_call2_v0 : Ref sig .tc := ⟨.hbm, 343, rfl⟩
abbrev main_call2_v1 : Ref sig .tc := ⟨.hbm, 344, rfl⟩
abbrev main_v303 : Ref sig .tc := ⟨.hbm, 345, rfl⟩
abbrev main_v304 : Ref sig .tc := ⟨.hbm, 346, rfl⟩
abbrev main_cst_11 : Ref sig .tc := ⟨.hbm, 347, rfl⟩
abbrev main_v305 : Ref sig .tc := ⟨.hbm, 348, rfl⟩
abbrev main_cst_12 : Ref sig .tc := ⟨.hbm, 349, rfl⟩
abbrev main_v306 : Ref sig .tc := ⟨.hbm, 350, rfl⟩
abbrev main_v307 : Ref sig .tc := ⟨.hbm, 351, rfl⟩
abbrev main_cst_13 : Ref sig .tc := ⟨.hbm, 352, rfl⟩
abbrev main_call3_v0 : Ref sig .tc := ⟨.hbm, 353, rfl⟩
abbrev main_call3_v1 : Ref sig .tc := ⟨.hbm, 354, rfl⟩
abbrev main_v308 : Ref sig .tc := ⟨.hbm, 355, rfl⟩
abbrev main_v309 : Ref sig .tc := ⟨.hbm, 356, rfl⟩
abbrev main_v310 : Ref sig .tc := ⟨.hbm, 357, rfl⟩
abbrev main_v311 : Ref sig .tc := ⟨.hbm, 358, rfl⟩
abbrev main_v312 : Ref sig .tc := ⟨.hbm, 359, rfl⟩
abbrev main_v313 : Ref sig .tc := ⟨.hbm, 360, rfl⟩
abbrev main_v314 : Ref sig .tc := ⟨.hbm, 361, rfl⟩
abbrev main_cst_14 : Ref sig .tc := ⟨.hbm, 362, rfl⟩
abbrev main_v315 : Ref sig .tc := ⟨.hbm, 363, rfl⟩
abbrev main_v316 : Ref sig .tc := ⟨.hbm, 364, rfl⟩
abbrev main_v317 : Ref sig .tc := ⟨.hbm, 365, rfl⟩
abbrev main_v318 : Ref sig .tc := ⟨.hbm, 366, rfl⟩
abbrev main_v319 : Ref sig .tc := ⟨.hbm, 367, rfl⟩
abbrev main_v320 : Ref sig .tc := ⟨.hbm, 368, rfl⟩
abbrev main_v321 : Ref sig .tc := ⟨.hbm, 369, rfl⟩
abbrev main_v322 : Ref sig .tc := ⟨.hbm, 370, rfl⟩
abbrev main_v323 : Ref sig .tc := ⟨.hbm, 371, rfl⟩
abbrev main_v324 : Ref sig .tc := ⟨.hbm, 372, rfl⟩
abbrev main_v325 : Ref sig .tc := ⟨.hbm, 373, rfl⟩
abbrev main_v326 : Ref sig .tc := ⟨.hbm, 374, rfl⟩
abbrev main_v327 : Ref sig .tc := ⟨.hbm, 375, rfl⟩
abbrev main_v328 : Ref sig .tc := ⟨.hbm, 376, rfl⟩
abbrev main_v329 : Ref sig .tc := ⟨.hbm, 377, rfl⟩
abbrev main_v330 : Ref sig .tc := ⟨.hbm, 378, rfl⟩
abbrev main_v331 : Ref sig .tc := ⟨.hbm, 379, rfl⟩
abbrev main_v332 : Ref sig .tc := ⟨.hbm, 380, rfl⟩
abbrev main_v333 : Ref sig .tc := ⟨.hbm, 381, rfl⟩
abbrev main_v334 : Ref sig .tc := ⟨.hbm, 382, rfl⟩
abbrev main_v335 : Ref sig .tc := ⟨.hbm, 383, rfl⟩
abbrev main_v336 : Ref sig .tc := ⟨.hbm, 384, rfl⟩
abbrev main_v337 : Ref sig .tc := ⟨.hbm, 385, rfl⟩
abbrev main_cst_15 : Ref sig .tc := ⟨.hbm, 386, rfl⟩
abbrev main_cst_16 : Ref sig .tc := ⟨.hbm, 387, rfl⟩
abbrev main_call4_v0 : Ref sig .tc := ⟨.hbm, 388, rfl⟩
abbrev main_call4_v1 : Ref sig .tc := ⟨.hbm, 389, rfl⟩
abbrev main_v338 : Ref sig .tc := ⟨.hbm, 390, rfl⟩
abbrev main_v339 : Ref sig .tc := ⟨.hbm, 391, rfl⟩
abbrev main_cst_17 : Ref sig .tc := ⟨.hbm, 392, rfl⟩
abbrev main_v340 : Ref sig .tc := ⟨.hbm, 393, rfl⟩
abbrev main_cst_18 : Ref sig .tc := ⟨.hbm, 394, rfl⟩
abbrev main_v341 : Ref sig .tc := ⟨.hbm, 395, rfl⟩
abbrev main_v342 : Ref sig .tc := ⟨.hbm, 396, rfl⟩
abbrev main_cst_19 : Ref sig .tc := ⟨.hbm, 397, rfl⟩
abbrev main_call5_v0 : Ref sig .tc := ⟨.hbm, 398, rfl⟩
abbrev main_call5_v1 : Ref sig .tc := ⟨.hbm, 399, rfl⟩
abbrev main_v343 : Ref sig .tc := ⟨.hbm, 400, rfl⟩
abbrev main_cst_20 : Ref sig .tc := ⟨.hbm, 401, rfl⟩
abbrev main_v344 : Ref sig .tc := ⟨.hbm, 402, rfl⟩
abbrev main_v345 : Ref sig .tc := ⟨.hbm, 403, rfl⟩
abbrev main_v346 : Ref sig .tc := ⟨.hbm, 404, rfl⟩
abbrev main_v347 : Ref sig .tc := ⟨.hbm, 405, rfl⟩
abbrev main_v348 : Ref sig .tc := ⟨.hbm, 406, rfl⟩
abbrev main_v349 : Ref sig .tc := ⟨.hbm, 407, rfl⟩
abbrev main_v350 : Ref sig .tc := ⟨.hbm, 408, rfl⟩
abbrev main_v351 : Ref sig .tc := ⟨.hbm, 409, rfl⟩
abbrev main_v352 : Ref sig .tc := ⟨.hbm, 410, rfl⟩
abbrev main_c_21 : Ref sig .tc := ⟨.hbm, 411, rfl⟩
abbrev main_call6_v0 : Ref sig .tc := ⟨.hbm, 412, rfl⟩
abbrev main_v353 : Ref sig .tc := ⟨.hbm, 413, rfl⟩

abbrev nD : Nat := 1
abbrev τ : Topo := Topo.v7x

variable {F : FTy → Type} [FloatOps F]
-- ==== Proof.Own.lean ====
/-
  Loads and stores of a memref that is owned WHOLE at known contents: the load hands back the contents at the places of its
  rectangle, and the store leaves the contents with the rectangle overwritten. Both rules let the caller name the value in the
  form that suits the proof, with the pointwise equation as a side condition.
-/
module

public import Idealize.ShloMosaic.Lib.Pipeline.FrameBody
public import Idealize.ShloMosaic.Lib.WholeRead
public import Idealize.ShloMosaic.Lib.Writes

@[expose] public section

noncomputable section

namespace Cert.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U] {Lvl : Type} [Preorder Lvl] {Λ : Labels}

local notation "𝕄" => MT nD τ sig Ix Val Name U Lvl

variable {defs : Defs nD τ sig Val Λ} (𝒱 : Variants) (c : Thread nD τ) (bd : Option 𝒱.V) {Γ : PendingWaitsCtx sig Ix} (E : Set Name)
variable {s : Shape} {e : EltTy} {α : Type} {Q : α → sProp (MT nD τ sig Ix Val Name U Lvl)}

/-- A load from a memref owned whole at `X` continues at `Y`, any value that is `X` at the load's places. -/
theorem load {cs : CoreSpace} {m : Memref sig c.2.kind cs s e} (h : m.IsWhole) {r : LoadRect s} {hl : m.view.LoadsAt r}
    {k : (r.shape.Idx → Val e) → Prog (TpuEff nD τ sig Val Λ c.2) α} {q : PosShare TreeShare} {X : s.Idx → Val e}
    (Y : r.shape.Idx → Val e) (hY : ∀ x, X (r.idx x) = Y x) :
    (owns c m q X : sProp 𝕄)
      ⊢ iprop((owns c m q X -∗ wp frame (wpE' defs 𝒱 c bd Γ) E (k Y) Q)
        -∗ wp frame (wpE' defs 𝒱 c bd Γ) E (.op (.load m r hl) k) Q) := by
  unfold owns
  iintro ⟨%f, %hf, H⟩ Hk
  obtain rfl := h.eq_unread hf
  have hv : m.view.readAt Val r (h.unread X) = Y := funext fun x => (h.readAt_unread X r x).trans (hY x)
  iapply (wp_load 𝒱 c bd E (m.view.setOn_subset_set _)) $$ H
  iintro H
  rw [hv]
  iapply Hk
  iexists _
  isplitr
  swap
  · iexact H
  ipureintro; exact h.read_unread X

/-- A store into a memref owned whole at `X` leaves it at `Y`, any contents that are the payload inside the rectangle and `X`
    outside it. -/
theorem store {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} (Y : s.Idx → Val e)
    (hin : ∀ x, Y (r.emb x) = w x) (hout : ∀ y, y ∉ r.set → Y y = X y) :
    (owns c m fullShare X : sProp 𝕄)
      ⊢ iprop((owns c m fullShare Y -∗ wp frame (wpE' defs 𝒱 c bd Γ) E (k ⟨⟩) Q)
        -∗ wp frame (wpE' defs 𝒱 c bd Γ) E (.op (.store m r w Finset.univ hx hm) k) Q) := by
  unfold owns
  iintro ⟨%f, %hf, H⟩ Hk
  have hv : m.view.read Val ((m.access r).write Val f w Finset.univ) = Y := by
    funext y
    by_cases hy : y ∈ r.set
    · obtain ⟨x, -, rfl⟩ := Finset.mem_map.mp (Rect.map_emb_univ r ▸ hy)
      exact (View.read_writes_cons_emb m.view f r w [] x).trans (hin x).symm
    · exact (View.read_writes_cons_miss m.view f ⟨r, w⟩ [] y hy).trans ((congrFun hf y).trans (hout y hy).symm)
  iapply (wp_store 𝒱 c bd E (m := m) (r := r) (w := w) (Mk := Finset.univ) (Memref.setOn_access_subset m r _)) $$ H
  iintro H
  iapply Hk
  iexists _
  isplitr
  swap
  · iexact H
  ipureintro; exact hv

end Cert.Own

end
-- ==== Proof.AttnIdeal.State.lean ====
/-
  What one grid point of the attention kernel does to its scratch, as functions of the blocks it reads: the scratch is three
  arrays, the accumulated output and the two heads' running sums of softplus (the kernel keeps the two sums as the rows of one
  buffer). A point zeroes them, visits the diagonal tile of keys, then the tiles before it until the running sums pass the exit
  threshold, then, if they never did, the meta keys, and stores the accumulated output narrowed.
-/
module

public import proofs.«01_k».proof.AttnIdeal
public import proofs.«01_k».proof.Proof.Gen.AttnIdeal
public import proofs.«01_k».proof.Proof.Gen.AttnIdeal.Skeleton

@[expose] public section

noncomputable section

namespace Cert.Proof.AttnIdeal

open Idealize.ShloMosaic Cert.AttnIdeal Cert.AttnIdeal.Gen

variable {F : FTy → Type} [FloatOps F] [Named F]

/-- The exit threshold's literal. -/
abbrev exitC : F .f32 := Named.named κ "stay_exit" 0x42D00000#32

/-- The scratch of a grid point: the output accumulated so far, and each head's running sum. -/
structure St (F : FTy → Type) where
  acc : Vec F S256x128 .f32
  c0 : Vec F S1x256x128 .f32
  c1 : Vec F S1x256x128 .f32

/-- Index `(0, r, l)` of a block with one row of tiles. -/
def at1 (y : S2x256x128.Idx) : S1x256x128.Idx :=
  fun | 0 => (0 : Fin 1) | 1 => (y 1 : Fin 256) | 2 => (y 2 : Fin 128)

/-- The two running sums as the one buffer that holds them: row 0 is the first head's. -/
def both (c0 c1 : Vec F S1x256x128 .f32) : Vec F S2x256x128 .f32 :=
  fun y => if (y 0).val = 0 then c0 (at1 y) else c1 (at1 y)

/-- Row `h` of a buffer of two. -/
def row (h : Fin 2) (C : Vec F S2x256x128 .f32) : Vec F S1x256x128 .f32 :=
  fun x => C (fun | 0 => h | 1 => (x 1 : Fin 256) | 2 => (x 2 : Fin 128))

theorem both_row (C : Vec F S2x256x128 .f32) : both (row 0 C) (row 1 C) = C := by
  funext y
  have hy : (y 0).val < 2 := (y 0).isLt
  unfold both row at1
  split
  · congr 1; funext a; fin_cases a
    · exact Fin.ext (by simp; omega)
    · rfl
    · rfl
  · congr 1; funext a; fin_cases a
    · exact Fin.ext (by simp; omega)
    · rfl
    · rfl

/-- Tile `j` of a batch element's keys or values: rows `256 j` to `256 j + 255`. -/
def tile (x : Vec F S1x8192x128 .bf16) (j : Fin 32) : Vec F S1x256x128 .bf16 :=
  fun y => x (fun | 0 => (0 : Fin 1)
                  | 1 => (⟨256 * j.val + (y 1).val, by have h : (y 1).val < 256 := (y 1).isLt; have := j.isLt; show _ < 8192; omega⟩ : Fin 8192)
                  | 2 => (y 2 : Fin 128))

/-- The upper left quarter of the summation matrix. -/
def corner (x : Vec F S256x256 .bf16) : Vec F S128x128 .bf16 :=
  fun y => x (fun | 0 => (⟨(y 0).val, by have h : (y 0).val < 128 := (y 0).isLt; show _ < 256; omega⟩ : Fin 256)
                  | 1 => (⟨(y 1).val, by have h : (y 1).val < 128 := (y 1).isLt; show _ < 256; omega⟩ : Fin 256))

/-- The scratch after the diagonal tile, whose keys and values are `kt` and `vt`. -/
def diag (q : Vec F S1x256x128 .bf16) (kt vt : Vec F S1x256x128 .bf16) (tri : Vec F S256x256 .bf16) : St F :=
  let z : FVec F S256x256 .f32 := constant S256x256 .f32 0x00000000#32
  let z0 : Vec F S1x256x128 .f32 := row 0 (k0_pay29 (F := F))
  let z1 : Vec F S1x256x128 .f32 := row 1 (k0_pay29 (F := F))
  { acc := k0_pay48 k0_pay23 (k0_pay31 vt) k0_pay32 (k0_pay33 tri)
      (k0_pay39 (k0_pay26 q) (k0_pay30 kt) (k0_pay31 vt) k0_pay32 (k0_pay33 tri) z z0)
      (k0_pay41 (k0_pay27 q) (k0_pay30 kt)) (k0_pay42 (k0_pay27 q) (k0_pay30 kt)) (k0_pay43 (k0_pay27 q) (k0_pay30 kt))
      z1 (k0_pay28 (F := F))
    c0 := k0_pay40 (k0_pay26 q) (k0_pay30 kt) k0_pay32 (k0_pay34 (F := F)) z z0
    c1 := k0_pay47 k0_pay32 (k0_pay34 (F := F)) (k0_pay42 (k0_pay27 q) (k0_pay30 kt)) (k0_pay43 (k0_pay27 q) (k0_pay30 kt)) z1 }

/-- The scratch after one more tile of keys, all of them before the queries. -/
def trip (q : Vec F S1x256x128 .bf16) (kt vt : Vec F S1x256x128 .bf16) (tri : Vec F S256x256 .bf16) (s : St F) : St F :=
  { acc := k0_pay65 (k0_pay27 q) k0_pay23 (k0_pay50 kt) (k0_pay51 vt) (k0_pay52 tri)
      (k0_pay58 (k0_pay26 q) kt vt tri s.c0) s.c1 s.acc
    c0 := k0_pay59 (k0_pay26 q) kt s.c0
    c1 := k0_pay64 (k0_pay27 q) (k0_pay50 kt) (k0_pay53 (F := F)) s.c1 }

/-- The scratch after the meta keys. -/
def metaVisit (q : Vec F S1x256x128 .bf16) (km vm : Vec F S128x128 .bf16) (tri : Vec F S256x256 .bf16) (s : St F) : St F :=
  { acc := k0_pay2 (k0_pay22 k0_pay23 (k0_pay27 q) (k0_pay5 km) (k0_pay6 vm) k0_pay7 (k0_pay8 (corner tri))
      (k0_pay14 (k0_pay26 q) km vm (corner tri) s.c0) s.c1 s.acc)
    c0 := k0_pay16 (k0_pay15 (k0_pay26 q) km s.c0)
    c1 := k0_pay21 (k0_pay27 q) (k0_pay5 km) k0_pay7 (k0_pay9 (F := F)) s.c1 }

/-- Whether some row's weight may still be nonzero: the smallest running sum is below the exit threshold. -/
def more (s : St F) : BitVec 1 := Scalar.cmpf .olt (k0_pay4 s.c0 s.c1) exitC

/-- Tile `k` of 32 (past them nothing is asked for). -/
def tileAt (x : Vec F S1x8192x128 .bf16) (k : ℕ) : Vec F S1x256x128 .bf16 :=
  if h : k < 32 then tile x ⟨k, h⟩ else fun _ => x (fun | 0 => (0 : Fin 1) | 1 => (0 : Fin 8192) | 2 => (0 : Fin 128))

/-- The loop with at most `k` tiles to go, from the scratch `s` and the flag `b` that says whether to go on. -/
def loop (q : Vec F S1x256x128 .bf16) (x1 x2 : Vec F S1x8192x128 .bf16) (tri : Vec F S256x256 .bf16) :
    ℕ → St F → BitVec 1 → St F × BitVec 1
  | 0, s, b => (s, b)
  | k + 1, s, b =>
    if b = 1#1 then
      let s' := trip q (tileAt x1 k) (tileAt x2 k) tri s
      loop q x1 x2 tri k s' (more s')
    else (s, b)

/-- The scratch when the point's output is stored, `i` the number of whole tiles before the queries'. -/
def final (i : ℕ) (q : Vec F S1x256x128 .bf16) (x1 x2 : Vec F S1x8192x128 .bf16) (km vm : Vec F S128x128 .bf16)
    (tri : Vec F S256x256 .bf16) : St F :=
  let s₀ := diag q (tileAt x1 i) (tileAt x2 i) tri
  let r := loop q x1 x2 tri i s₀ (more s₀)
  if r.2 = 1#1 then metaVisit q km vm tri r.1 else r.1

/-- The block the point stores. -/
def out (i : ℕ) (q : Vec F S1x256x128 .bf16) (x1 x2 : Vec F S1x8192x128 .bf16) (km vm : Vec F S128x128 .bf16)
    (tri : Vec F S256x256 .bf16) : Vec F S1x256x128 .bf16 :=
  k0_pay3 (final i q x1 x2 km vm tri).acc

end Cert.Proof.AttnIdeal

end
-- ==== Proof.AttnIdeal.Body.lean ====
/-
  The attention kernel's body at one grid point, on any whole staging memrefs: holding the input blocks, it leaves them as they
  were, the output block at `out` and the scratch at something. The while loop is met by induction on the tiles still to visit.
-/
module

public import proofs.«01_k».proof.Proof.AttnIdeal.State
public import proofs.«01_k».proof.Proof.Own
public import proofs.«01_k».proof.Proof.Gen.AttnIdeal.Points
public import Idealize.ShloMosaic.Lib.Tactic

@[expose] public section

set_option maxRecDepth 16384

noncomputable section

namespace Cert.Proof.AttnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F] [Named F]

local notation "𝕄" => MT nD τ sig Unit (Elt F) ℕ (UR sig nD τ) ℕ

/-- The kernel's variants: the tiles still to visit. -/
abbrev 𝒱₀ : Variants := Variants.nat

/-! ## The rectangles of the body's loads and stores -/

theorem full3 {X : Vec F S1x256x128 .bf16} (x) :
    X ((Rect.unit (s := S1x256x128) ![0, 0, 0] S1x256x128.size inb_S1x256x128_S1x256x128_0_0_0).toLoadRect.idx x) = X x := by
  have hx : (x 0).val < 1 := (x 0).isLt
  congr 1; funext a; fin_cases a <;> exact Fin.ext (by simp [LoadRect.idx] <;> omega)

theorem full2 {e : EltTy} {X : Vec F S256x128 e} (x) :
    X ((Rect.unit (s := S256x128) ![0, 0] S256x128.size inb_S256x128_S256x128_0_0).toLoadRect.idx x) = X x := by
  congr 1; funext a; fin_cases a <;> exact Fin.ext (by simp [LoadRect.idx] <;> omega)

theorem fullM {X : Vec F S128x128 .bf16} (x) :
    X ((Rect.unit (s := S128x128) ![0, 0] S128x128.size inb_S128x128_S128x128_0_0).toLoadRect.idx x) = X x := by
  congr 1; funext a; fin_cases a <;> exact Fin.ext (by simp [LoadRect.idx] <;> omega)

theorem fullT {X : Vec F S256x256 .bf16} (x) :
    X ((Rect.unit (s := S256x256) ![0, 0] S256x256.size inb_S256x256_S256x256_0_0).toLoadRect.idx x) = X x := by
  congr 1; funext a; fin_cases a <;> exact Fin.ext (by simp [LoadRect.idx] <;> omega)

theorem fullC {X : Vec F S2x256x128 .f32} (x) :
    X ((Rect.unit (s := S2x256x128) ![0, 0, 0] S2x256x128.size inb_S2x256x128_S2x256x128_0_0_0).toLoadRect.idx x) = X x := by
  congr 1; funext a; fin_cases a <;> exact Fin.ext (by simp [LoadRect.idx] <;> omega)

theorem cornerT {X : Vec F S256x256 .bf16} (x) :
    X ((Rect.unit (s := S256x256) ![0, 0] S128x128.size inb_S256x256_S128x128_0_0).toLoadRect.idx x) = corner X x := by
  unfold corner; congr 1; funext a; fin_cases a <;> exact Fin.ext (by simp [LoadRect.idx] <;> omega)

theorem row0C {c0 c1 : Vec F S1x256x128 .f32} (x) :
    both c0 c1 ((Rect.unit (s := S2x256x128) ![0, 0, 0] S1x256x128.size inb_S2x256x128_S1x256x128_0_0_0).toLoadRect.idx x) = c0 x := by
  have hx : (x 0).val < 1 := (x 0).isLt
  unfold both
  rw [if_pos (by simp [LoadRect.idx]; omega)]
  congr 1; funext a; fin_cases a <;> exact Fin.ext (by simp [LoadRect.idx, at1] <;> omega)

theorem row1C {c0 c1 : Vec F S1x256x128 .f32} (x) :
    both c0 c1 ((Rect.unit (s := S2x256x128) ![1, 0, 0] S1x256x128.size inb_S2x256x128_S1x256x128_1_0_0).toLoadRect.idx x) = c1 x := by
  have hx : (x 0).val < 1 := (x 0).isLt
  unfold both
  rw [if_neg (by simp [LoadRect.idx])]
  congr 1; funext a; fin_cases a <;> exact Fin.ext (by simp [LoadRect.idx, at1] <;> omega)

/-- Off the rectangle of row 0 is row 1, -/
theorem out0C {c0 c1 w : Vec F S1x256x128 .f32} (y : S2x256x128.Idx)
    (hy : y ∉ (Rect.unit (s := S2x256x128) ![0, 0, 0] S1x256x128.size inb_S2x256x128_S1x256x128_0_0_0).set) :
    both w c1 y = both c0 c1 y := by
  unfold both
  split
  · next h =>
    refine absurd ((LoadRect.mem_set _).mpr fun a => ?_) hy
    fin_cases a
    · exact ⟨0, by simp, by simpa using h⟩
    · exact ⟨(y 1).val, (y 1).isLt, by simp⟩
    · exact ⟨(y 2).val, (y 2).isLt, by simp⟩
  · rfl

/-- and off the rectangle of row 1 is row 0. -/
theorem out1C {c0 c1 w : Vec F S1x256x128 .f32} (y : S2x256x128.Idx)
    (hy : y ∉ (Rect.unit (s := S2x256x128) ![1, 0, 0] S1x256x128.size inb_S2x256x128_S1x256x128_1_0_0).set) :
    both c0 w y = both c0 c1 y := by
  unfold both
  split
  · rfl
  · next h =>
    have h2 : (y 0).val < 2 := (y 0).isLt
    refine absurd ((LoadRect.mem_set _).mpr fun a => ?_) hy
    fin_cases a
    · exact ⟨0, by simp, by simp; omega⟩
    · exact ⟨(y 1).val, (y 1).isLt, by simp⟩
    · exact ⟨(y 2).val, (y 2).isLt, by simp⟩

/-- Nothing is off a rectangle that is the whole shape. -/
theorem out_full {s : Shape} {e : EltTy} {r : Rect s} (hr : ∀ y, y ∈ r.set) {Y X : s.Idx → Elt F e} (y : s.Idx) (hy : y ∉ r.set) :
    Y y = X y := absurd (hr y) hy

theorem mem_full {s : Shape} {off : Fin s.rank → ℕ} (h : ∀ a, off a + s.size a ≤ s.size a) (y : s.Idx) :
    y ∈ (Rect.unit (s := s) off s.size h).set :=
  (LoadRect.mem_set _).mpr fun a => ⟨(y a).val, (y a).isLt, by have := h a; simp; omega⟩

/-! ## The word that counts the tiles -/

/-- The loop's counter with `k` tiles to go: `k - 1`. -/
abbrev cw (k : ℕ) : BitVec 32 := Scalar.subi (BitVec.ofNat 32 k) 1#32

theorem go_zero (b : BitVec 1) : ¬Scalar.andi (Scalar.cmpi .sge (cw 0) 0#32) b = 1#1 := by
  revert b; decide

theorem go_succ : ∀ k : Fin 32, ∀ b : BitVec 1, Scalar.andi (Scalar.cmpi .sge (cw (k.val + 1)) 0#32) b = b := by
  decide +kernel

theorem cw_succ : ∀ k : Fin 32, cw (k.val + 1) = BitVec.ofNat 32 k.val := by
  decide +kernel

theorem chk : ∀ k : Fin 32, k0_chk1 (cw (k.val + 1)) := by
  decide +kernel

theorem off2 : ∀ k : Fin 32, ∀ a, k0_off2 (cw (k.val + 1)) a = (![0, 256 * k.val, 0] : Fin 3 → ℕ) a := by
  decide +kernel

theorem off1 (i : grid0.Coords) : k0_off1 i = ![0, 256 * (i 2).val, 0] := by
  have h : ∀ k : Fin 32, (Scalar.indexCast (Scalar.muli (BitVec.ofNat 32 k.val) 256#32)).toNat = 256 * k.val := by decide +kernel
  funext a
  fin_cases a
  · rfl
  · exact h (i 2)
  · rfl

/-- A load of 256 rows of a batch element's keys or values at tile `k`. -/
theorem tileC {X : Vec F S1x8192x128 .bf16} (k : Fin 32) {off : Fin 3 → ℕ} (ho : ∀ a, off a = (![0, 256 * k.val, 0] : Fin 3 → ℕ) a)
    (h : ∀ a, off a + S1x256x128.size a ≤ S1x8192x128.size a) (x) :
    X ((Rect.unit (s := S1x8192x128) off S1x256x128.size h).toLoadRect.idx x) = tileAt X k.val x := by
  rw [tileAt, dif_pos k.isLt]; unfold tile; congr 1; funext a
  fin_cases a
  · exact Fin.ext (by have := ho 0; have hx : (x 0).val < 1 := (x 0).isLt; simp [LoadRect.idx] at * <;> omega)
  · exact Fin.ext (by have := ho 1; simp [LoadRect.idx] at * <;> omega)
  · exact Fin.ext (by have := ho 2; simp [LoadRect.idx] at * <;> omega)

/-! ## The while loop -/

section Label

variable (c : Dev nD) (i : grid0.Coords)
  (arg4 : Memref sig .tc .vmem S1x8192x128 .bf16) (harg4 : arg4.IsWhole) (arg5 : Memref sig .tc .vmem S1x8192x128 .bf16) (harg5 : arg5.IsWhole)
  (arg8 : Memref sig .tc .vmem S256x256 .bf16) (harg8 : arg8.IsWhole) (arg10 : Memref sig .tc .vmem S256x128 .f32) (harg10 : arg10.IsWhole)
  (arg11 : Memref sig .tc .vmem S2x256x128 .f32) (harg11 : arg11.IsWhole)
  (q : Vec F S1x256x128 .bf16) (x1 x2 : Vec F S1x8192x128 .bf16) (tri : Vec F S256x256 .bf16)

/-- What the loop reads and writes: the keys, the values, the summation matrix, and the scratch at `s`. -/
def held (s : St F) : sProp 𝕄 :=
  iprop(owns (c : Thread nD τ) arg4 fullShare x1 ∗ owns (c : Thread nD τ) arg5 fullShare x2 ∗ owns (c : Thread nD τ) arg8 fullShare tri
    ∗ owns (c : Thread nD τ) arg10 fullShare s.acc ∗ owns (c : Thread nD τ) arg11 fullShare (both s.c0 s.c1))

/-- The loop with `k` tiles to go from the scratch `s` and the flag `b`: it returns some counter and `loop`'s flag, the scratch
    at `loop`'s. -/
def spec (k : ℕ) (s : St F) (b : BitVec 1) : sWPT 𝕄 (BitVec 32 × BitVec 1) := do
  sWPT.consume (held c arg4 arg5 arg8 arg10 arg11 x1 x2 tri s)
  let r ← sWPT.arbitrary
  sWPT.assume (r.2 = (loop q x1 x2 tri k s b).2)
  sWPT.produce (held c arg4 arg5 arg8 arg10 arg11 x1 x2 tri (loop q x1 x2 tri k s b).1)
  pure r

theorem spec_apply (k : ℕ) (s : St F) (b : BitVec 1) (K : BitVec 32 × BitVec 1 → sProp 𝕄) :
    spec c arg4 arg5 arg8 arg10 arg11 q x1 x2 tri k s b K
      = iprop(held c arg4 arg5 arg8 arg10 arg11 x1 x2 tri s
          ∗ ∀ r : BitVec 32 × BitVec 1, ⌜r.2 = (loop q x1 x2 tri k s b).2⌝
            -∗ (held c arg4 arg5 arg8 arg10 arg11 x1 x2 tri (loop q x1 x2 tri k s b).1 -∗ K r)) := rfl

set_option maxHeartbeats 1000000 in
/-- The loop's body meets its specification, by induction on the tiles to go: the counter is one below their number, so with none
    to go the test fails; with one more the flag decides, the tile's rows are inside the arrays, and the recursive call is answered
    by the specification with one fewer to go. -/
theorem spec_le (E : Set ℕ) : ∀ k, k ≤ 32 → ∀ (s : St F) (b : BitVec 1) K,
    spec c arg4 arg5 arg8 arg10 arg11 q x1 x2 tri k s b K
      ⊢ wp frame (wpE (defs₀ (F := F)) 𝒱₀ (c : Thread nD τ) (some k)) E
          (cc0_while1 i arg4 harg4 arg5 harg5 arg8 harg8 (k0_pay26 q) arg11 harg11 (k0_pay27 q) arg10 harg10 k0_pay23 (cw k) b) K := by
  intro k
  induction k with
  | zero =>
    intro _ s b K
    rw [spec_apply]
    simp only [cc0_while1_eq_skeleton]; unfold cc0_while1_skel
    simp only [go_zero, ↓reduceIte, Prog.pure_eq_ret]
    iintro ⟨H, Hk⟩
    rw [wp_ret]; imodintro
    iapply Hk
    · ipureintro; rfl
    · simp only [loop]; iexact H
  | succ k ih =>
    intro hk s b K
    rw [spec_apply]
    simp only [cc0_while1_eq_skeleton]; unfold cc0_while1_skel
    have hgo := go_succ ⟨k, by omega⟩ b
    by_cases hb : b = 1#1
    · rw [if_pos (hgo.trans hb)]
      simp only [k0_part6_eq_skeleton, k0_part7_eq_skeleton]; unfold k0_part6_skel k0_part7_skel
      simp only [Prog.lift, Prog.bind_op, Prog.bind_ret, Prog.pure_eq_ret]
      unfold held
      iintro ⟨⟨H4, H5, H8, H10, H11⟩, Hk⟩
      iapply (wp_assume 𝒱₀ (c : Thread nD τ) (some (k + 1)) E (chk ⟨k, by omega⟩))
      iapply (Own.load 𝒱₀ (c : Thread nD τ) (some (k + 1)) E harg4 (tileAt x1 k) (tileC ⟨k, by omega⟩ (off2 ⟨k, by omega⟩) _)) $$ H4; iintro H4
      iapply (Own.load 𝒱₀ (c : Thread nD τ) (some (k + 1)) E harg5 (tileAt x2 k) (tileC ⟨k, by omega⟩ (off2 ⟨k, by omega⟩) _)) $$ H5; iintro H5
      iapply (Own.load 𝒱₀ (c : Thread nD τ) (some (k + 1)) E harg8 tri fullT) $$ H8; iintro H8
      iapply (Own.load 𝒱₀ (c : Thread nD τ) (some (k + 1)) E harg11 s.c0 row0C) $$ H11; iintro H11
      iapply (Own.load 𝒱₀ (c : Thread nD τ) (some (k + 1)) E harg11 s.c0 row0C) $$ H11; iintro H11
      iapply (Own.store 𝒱₀ (c : Thread nD τ) (some (k + 1)) E (both (trip q (tileAt x1 k) (tileAt x2 k) tri s).c0 s.c1) row0C out0C) $$ H11; iintro H11
      iapply (Own.load 𝒱₀ (c : Thread nD τ) (some (k + 1)) E harg11 s.c1 row1C) $$ H11; iintro H11
      iapply (Own.load 𝒱₀ (c : Thread nD τ) (some (k + 1)) E harg11 s.c1 row1C) $$ H11; iintro H11
      iapply (Own.store 𝒱₀ (c : Thread nD τ) (some (k + 1)) E (both (trip q (tileAt x1 k) (tileAt x2 k) tri s).c0
        (trip q (tileAt x1 k) (tileAt x2 k) tri s).c1) row1C out1C) $$ H11; iintro H11
      iapply (Own.load 𝒱₀ (c : Thread nD τ) (some (k + 1)) E harg10 s.acc full2) $$ H10; iintro H10
      iapply (Own.load 𝒱₀ (c : Thread nD τ) (some (k + 1)) E harg10 s.acc full2) $$ H10; iintro H10
      iapply (Own.store 𝒱₀ (c : Thread nD τ) (some (k + 1)) E (trip q (tileAt x1 k) (tileAt x2 k) tri s).acc full2 (out_full (mem_full _))) $$ H10; iintro H10
      iapply (Own.load 𝒱₀ (c : Thread nD τ) (some (k + 1)) E harg11 (trip q (tileAt x1 k) (tileAt x2 k) tri s).c0 row0C) $$ H11; iintro H11
      iapply (Own.load 𝒱₀ (c : Thread nD τ) (some (k + 1)) E harg11 (trip q (tileAt x1 k) (tileAt x2 k) tri s).c1 row1C) $$ H11; iintro H11
      rw [show Scalar.subi (cw (k + 1)) 1#32 = cw k from congrArg (Scalar.subi · 1#32) (cw_succ ⟨k, by omega⟩)]
      iapply (wp_call_spec 𝒱₀ (c : Thread nD τ) (some (k + 1)) E
        (spec c arg4 arg5 arg8 arg10 arg11 q x1 x2 tri k (trip q (tileAt x1 k) (tileAt x2 k) tri s) (more (trip q (tileAt x1 k) (tileAt x2 k) tri s))) k
        (fun u hu => by cases hu; exact Nat.lt_succ_self k)
        (ih (by omega) (trip q (tileAt x1 k) (tileAt x2 k) tri s) (more (trip q (tileAt x1 k) (tileAt x2 k) tri s))))
      rw [spec_apply]; unfold held
      isplitl [H4 H5 H8 H10 H11]
      · isplitl [H4]; · iexact H4
        isplitl [H5]; · iexact H5
        isplitl [H8]; · iexact H8
        isplitl [H10]; · iexact H10
        iexact H11
      iintro %r %hr H
      rw [wp_ret]; imodintro
      have hl : loop q x1 x2 tri (k + 1) s b
          = loop q x1 x2 tri k (trip q (tileAt x1 k) (tileAt x2 k) tri s) (more (trip q (tileAt x1 k) (tileAt x2 k) tri s)) := by
        rw [loop, if_pos hb]
      rw [hl]
      iapply Hk
      · ipureintro; exact hr
      · iexact H
    · rw [if_neg (fun h => hb (hgo.symm.trans h))]
      simp only [Prog.pure_eq_ret]
      iintro ⟨H, Hk⟩
      rw [wp_ret]; imodintro
      iapply Hk
      · ipureintro; rw [loop, if_neg hb]
      · rw [loop, if_neg hb]; iexact H

end Label

/-! ## The body -/

section Body

variable (c : Dev nD) (i : grid0.Coords) (arg3 : Memref sig .tc .vmem S1x256x128 .bf16) (harg3 : arg3.IsWhole)
  (arg4 : Memref sig .tc .vmem S1x8192x128 .bf16) (harg4 : arg4.IsWhole) (arg5 : Memref sig .tc .vmem S1x8192x128 .bf16) (harg5 : arg5.IsWhole)
  (arg6 : Memref sig .tc .vmem S128x128 .bf16) (harg6 : arg6.IsWhole) (arg7 : Memref sig .tc .vmem S128x128 .bf16) (harg7 : arg7.IsWhole)
  (arg8 : Memref sig .tc .vmem S256x256 .bf16) (harg8 : arg8.IsWhole) (arg9 : Memref sig .tc .vmem S1x256x128 .bf16) (harg9 : arg9.IsWhole)
  (arg10 : Memref sig .tc .vmem S256x128 .f32) (harg10 : arg10.IsWhole)
  (arg11 : Memref sig .tc .vmem S2x256x128 .f32) (harg11 : arg11.IsWhole)
  (q : Vec F S1x256x128 .bf16) (x1 x2 : Vec F S1x8192x128 .bf16) (km vm : Vec F S128x128 .bf16) (tri : Vec F S256x256 .bf16)

set_option maxHeartbeats 2000000 in
theorem body (E : Set ℕ) (K : PUnit → sProp 𝕄) :
    iprop(owns (c : Thread nD τ) arg3 fullShare q ∗ owns (c : Thread nD τ) arg4 fullShare x1 ∗ owns (c : Thread nD τ) arg5 fullShare x2
        ∗ owns (c : Thread nD τ) arg6 fullShare km ∗ owns (c : Thread nD τ) arg7 fullShare vm ∗ owns (c : Thread nD τ) arg8 fullShare tri
        ∗ (∃ d, owns (c : Thread nD τ) arg9 fullShare d) ∗ (∃ d, owns (c : Thread nD τ) arg10 fullShare d)
        ∗ (∃ d, owns (c : Thread nD τ) arg11 fullShare d)
        ∗ (iprop(owns (c : Thread nD τ) arg3 fullShare q ∗ owns (c : Thread nD τ) arg4 fullShare x1 ∗ owns (c : Thread nD τ) arg5 fullShare x2
            ∗ owns (c : Thread nD τ) arg6 fullShare km ∗ owns (c : Thread nD τ) arg7 fullShare vm ∗ owns (c : Thread nD τ) arg8 fullShare tri
            ∗ owns (c : Thread nD τ) arg9 fullShare (out (i 2).val q x1 x2 km vm tri) ∗ (∃ d, owns (c : Thread nD τ) arg10 fullShare d)
            ∗ (∃ d, owns (c : Thread nD τ) arg11 fullShare d)) -∗ K ⟨⟩))
      ⊢ wp frame (wpE (defs₀ (F := F)) 𝒱₀ (c : Thread nD τ) none) E
          (cc0_sb_attention i arg3 harg3 arg4 harg4 arg5 harg5 arg6 harg6 arg7 harg7 arg8 harg8 arg9 harg9 arg10 harg10 arg11 harg11) K := by
  have hi : (i 2).val < 32 := (i 2).isLt
  simp only [cc0_sb_attention_eq_skeleton]; unfold cc0_sb_attention_skel
  simp only [k0_part3_eq_skeleton, k0_part4_eq_skeleton, k0_part5_eq_skeleton]; unfold k0_part3_skel k0_part4_skel k0_part5_skel
  simp only [Prog.lift, Prog.bind_op, Prog.bind_ret, Prog.pure_eq_ret]
  iintro ⟨H3, H4, H5, H6, H7, H8, ⟨%d9, H9⟩, ⟨%d10, H10⟩, ⟨%d11, H11⟩, Hk⟩
  iapply (Own.load 𝒱₀ (c : Thread nD τ) none E harg3 q full3) $$ H3; iintro H3
  iapply (Own.load 𝒱₀ (c : Thread nD τ) none E harg10 d10 full2) $$ H10; iintro H10
  iapply (Own.store 𝒱₀ (c : Thread nD τ) none E (k0_pay28 (F := F)) full2 (out_full (mem_full _))) $$ H10; iintro H10
  iapply (Own.load 𝒱₀ (c : Thread nD τ) none E harg11 d11 fullC) $$ H11; iintro H11
  iapply (Own.store 𝒱₀ (c : Thread nD τ) none E (k0_pay29 (F := F)) fullC (out_full (mem_full _))) $$ H11; iintro H11
  rw [show (k0_pay29 : Vec F S2x256x128 .f32) = both (row 0 k0_pay29) (row 1 k0_pay29) from (both_row _).symm]
  iapply (Own.load 𝒱₀ (c : Thread nD τ) none E harg4 (tileAt x1 (i 2).val) (tileC (i 2) (congrFun (off1 i)) _)) $$ H4; iintro H4
  iapply (Own.load 𝒱₀ (c : Thread nD τ) none E harg5 (tileAt x2 (i 2).val) (tileC (i 2) (congrFun (off1 i)) _)) $$ H5; iintro H5
  iapply (Own.load 𝒱₀ (c : Thread nD τ) none E harg8 tri fullT) $$ H8; iintro H8
  iapply (Own.load 𝒱₀ (c : Thread nD τ) none E harg11 (row 0 k0_pay29) row0C) $$ H11; iintro H11
  iapply (Own.load 𝒱₀ (c : Thread nD τ) none E harg11 (row 0 k0_pay29) row0C) $$ H11; iintro H11
  generalize hs : diag q (tileAt x1 (i 2).val) (tileAt x2 (i 2).val) tri = s
  iapply (Own.store 𝒱₀ (c : Thread nD τ) none E (both s.c0 (row 1 k0_pay29)) (by subst hs; exact row0C) out0C) $$ H11; iintro H11
  iapply (Own.load 𝒱₀ (c : Thread nD τ) none E harg11 (row 1 k0_pay29) row1C) $$ H11; iintro H11
  iapply (Own.load 𝒱₀ (c : Thread nD τ) none E harg11 (row 1 k0_pay29) row1C) $$ H11; iintro H11
  iapply (Own.store 𝒱₀ (c : Thread nD τ) none E (both s.c0 s.c1) (by subst hs; exact row1C) out1C) $$ H11; iintro H11
  iapply (Own.load 𝒱₀ (c : Thread nD τ) none E harg10 k0_pay28 full2) $$ H10; iintro H10
  iapply (Own.load 𝒱₀ (c : Thread nD τ) none E harg10 k0_pay28 full2) $$ H10; iintro H10
  iapply (Own.store 𝒱₀ (c : Thread nD τ) none E s.acc (by subst hs; exact full2) (out_full (mem_full _))) $$ H10; iintro H10
  iapply (Own.load 𝒱₀ (c : Thread nD τ) none E harg11 s.c0 row0C) $$ H11; iintro H11
  iapply (Own.load 𝒱₀ (c : Thread nD τ) none E harg11 s.c1 row1C) $$ H11; iintro H11
  iapply (wp_call_spec 𝒱₀ (c : Thread nD τ) none E
    (spec c arg4 arg5 arg8 arg10 arg11 q x1 x2 tri (i 2).val s (more s)) (i 2).val (fun u hu => nomatch hu)
    (spec_le c i arg4 harg4 arg5 harg5 arg8 harg8 arg10 harg10 arg11 harg11 q x1 x2 tri E (i 2).val (by omega) s (more s)))
  rw [spec_apply]; unfold held
  isplitl [H4 H5 H8 H10 H11]
  · isplitl [H4]; · iexact H4
    isplitl [H5]; · iexact H5
    isplitl [H8]; · iexact H8
    isplitl [H10]; · iexact H10
    iexact H11
  iintro %r %hr ⟨H4, H5, H8, H10, H11⟩
  obtain ⟨r1, r2⟩ := r
  have hout : out (i 2).val q x1 x2 km vm tri
      = k0_pay3 (if r2 = 1#1 then metaVisit q km vm tri (loop q x1 x2 tri (i 2).val s (more s)).1 else (loop q x1 x2 tri (i 2).val s (more s)).1).acc := by
    subst hs hr; rfl
  rw [hout]
  clear hr hout
  generalize (loop q x1 x2 tri (i 2).val s (more s)).1 = s'
  have hflag : ∀ b : BitVec 1, Scalar.cmpi .ne (Scalar.extui b : BitVec 32) 0#32 = 1#1 ↔ b = 1#1 := by decide
  by_cases hb : r2 = 1#1
  · simp only [(hflag r2).mpr hb, hb, ↓reduceIte]
    simp only [k0_part1_eq_skeleton, k0_part2_eq_skeleton]; unfold k0_part1_skel k0_part2_skel
    simp only [Prog.lift, Prog.bind_op, Prog.bind_ret, Prog.pure_eq_ret]
    iapply (Own.load 𝒱₀ (c : Thread nD τ) none E harg6 km fullM) $$ H6; iintro H6
    iapply (Own.load 𝒱₀ (c : Thread nD τ) none E harg7 vm fullM) $$ H7; iintro H7
    iapply (Own.load 𝒱₀ (c : Thread nD τ) none E harg8 (corner tri) cornerT) $$ H8; iintro H8
    iapply (Own.load 𝒱₀ (c : Thread nD τ) none E harg11 s'.c0 row0C) $$ H11; iintro H11
    iapply (Own.load 𝒱₀ (c : Thread nD τ) none E harg11 s'.c0 row0C) $$ H11; iintro H11
    iapply (Own.store 𝒱₀ (c : Thread nD τ) none E (both (metaVisit q km vm tri s').c0 s'.c1) row0C out0C) $$ H11; iintro H11
    iapply (Own.load 𝒱₀ (c : Thread nD τ) none E harg11 s'.c1 row1C) $$ H11; iintro H11
    iapply (Own.load 𝒱₀ (c : Thread nD τ) none E harg11 s'.c1 row1C) $$ H11; iintro H11
    iapply (Own.store 𝒱₀ (c : Thread nD τ) none E (both (metaVisit q km vm tri s').c0 (metaVisit q km vm tri s').c1) row1C out1C) $$ H11; iintro H11
    iapply (Own.load 𝒱₀ (c : Thread nD τ) none E harg10 s'.acc full2) $$ H10; iintro H10
    iapply (Own.load 𝒱₀ (c : Thread nD τ) none E harg10 s'.acc full2) $$ H10; iintro H10
    iapply (Own.store 𝒱₀ (c : Thread nD τ) none E (metaVisit q km vm tri s').acc full2 (out_full (mem_full _))) $$ H10; iintro H10
    iapply (Own.load 𝒱₀ (c : Thread nD τ) none E harg10 (metaVisit q km vm tri s').acc full2) $$ H10; iintro H10
    iapply (Own.load 𝒱₀ (c : Thread nD τ) none E harg9 d9 full3) $$ H9; iintro H9
    iapply (Own.store 𝒱₀ (c : Thread nD τ) none E (k0_pay3 (metaVisit q km vm tri s').acc) full3 (out_full (mem_full _))) $$ H9; iintro H9
    rw [wp_ret]; imodintro
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11
  · simp only [mt (hflag r2).mp hb, hb, ↓reduceIte]
    iapply (Own.load 𝒱₀ (c : Thread nD τ) none E harg10 s'.acc full2) $$ H10; iintro H10
    iapply (Own.load 𝒱₀ (c : Thread nD τ) none E harg9 d9 full3) $$ H9; iintro H9
    iapply (Own.store 𝒱₀ (c : Thread nD τ) none E (k0_pay3 s'.acc) full3 (out_full (mem_full _))) $$ H9; iintro H9
    rw [wp_ret]; imodintro
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11

end Body

end Cert.Proof.AttnIdeal

end
-- ==== Proof.AttnIdeal.Run.lean ====
/-
  The attention program's run: the proof data of its one pipeline (each input block as fetched, the output block at `out`), the
  body obligation at a generic point, the launch, and from it the frame: the argument arrays end unchanged and every semaphore
  counter at zero.
-/
module

public import proofs.«01_k».proof.Proof.AttnIdeal.Body
public import proofs.«01_k».proof.Proof.Gen.AttnIdeal.Launch
public import Idealize.ShloMosaic.Lib.Claim

@[expose] public section

set_option maxRecDepth 16384

noncomputable section

namespace Cert.Proof.AttnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arrays as the kernel finds them -/

/-- The host operations before the kernel: the paddings, the summation matrix. -/
abbrev hostOps : List (List (HloOp τ sig (Elt F))) := [hostOps0, hostOps0_1, hostOps0_2, hostOps0_3, hostOps0_4]

/-- Core `c`'s buffers when the kernel starts. -/
abbrev V (c : Dev nD) (b : Ref sig .tc) : Buf (Elt F) ((c : Thread nD τ).loc b) :=
  StableHlo.after (List.flatten hostOps) (fun b => m (c, b)) b

set_option maxHeartbeats 800000 in
theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostOps
    (by simp only [List.Forall]; exact ⟨hostOps0_sub, hostOps0_1_sub, hostOps0_2_sub, hostOps0_3_sub, hostOps0_4_sub⟩)
    (by simp only [List.Forall]; repeat' constructor) main_chain

/-- A buffer that no host operation writes is found as launched. -/
theorem V_kept (c : Dev nD) (b : Ref sig .tc) (hb : b ∈ [main_arg0, main_arg1, main_arg2, main_arg3, main_arg4]) :
    V m c b = m ((c : Thread nD τ).loc b) := by
  refine StableHlo.after_of_forall_not_mem (b := Proc.devRef .tc b) _ _ (List.forall_iff_forall_mem.mp ?_)
  simp only [hostOps, hostOps0, hostOps0_1, hostOps0_2, hostOps0_3, hostOps0_4, List.flatten_cons, List.flatten_nil, List.append_nil,
    List.cons_append, List.nil_append, List.Forall, StableHlo.nullary_writes, StableHlo.unary_writes, StableHlo.binary_writes,
    StableHlo.ternary_writes, StableHlo.quaternary_writes, StableHlo.reshape_writes, StableHlo.binaryIndexed_writes, Finset.mem_singleton]
  simp only [List.mem_cons, List.not_mem_nil, or_false] at hb
  rcases hb with rfl | rfl | rfl | rfl | rfl <;> (repeat' apply And.intro) <;> exact StableHlo.devRef_ne_of_ne (by decide)

/-- Window `w`'s block at point `t`, of its array as the kernel finds it. -/
def iblk (c : Dev nD) (w : Fin (cfg0 (F := F)).W) (t : Fin (cfg0 (F := F)).N) : ((cfg0.win w).xblock (cfg0.grid.coords t)).Idx → Elt F (cfg0.win w).elt :=
  ((cfg0.win w).blk t).view.read (Elt F) (V m c (Pipeline.arrRef spec0 w))

/-! ## The proof data -/

/-- What point `t` stores: `out` of its blocks, its last coordinate the number of tiles before the queries'. -/
def outAt (c : Dev nD) (t : Fin (cfg0 (F := F)).N) : Vec F S1x256x128 .bf16 :=
  out (grid0.coords t 2).val (iblk m c 0 t) (iblk m c 1 t) (iblk m c 2 t) (iblk m c 3 t) (iblk m c 4 t) (iblk m c 5 t)

/-- The arrays as found; after a point the inputs' buffers as fetched and the output's at `outAt`; the scratch at anything. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_in (c : Dev nD) (t : Fin (cfg0 (F := F)).N) :
    (dats m 0 c).after 0 t = iblk m c 0 t ∧ (dats m 0 c).after 1 t = iblk m c 1 t ∧ (dats m 0 c).after 2 t = iblk m c 2 t
      ∧ (dats m 0 c).after 3 t = iblk m c 3 t ∧ (dats m 0 c).after 4 t = iblk m c 4 t ∧ (dats m 0 c).after 5 t = iblk m c 5 t := by
  dsimp only [dats]; exact ⟨rfl, rfl, rfl, rfl, rfl, rfl⟩

theorem after_out (c : Dev nD) (t : Fin (cfg0 (F := F)).N) : (dats m 0 c).after 6 t = outAt m c t := by dsimp only [dats]; rfl

/-- An input's buffer holds its block at every point, fetched there or not. -/
theorem before_in (c : Dev nD) (t : Fin (cfg0 (F := F)).N) :
    (∀ d, (dats m 0 c).before 0 t d = iblk m c 0 t) ∧ (∀ d, (dats m 0 c).before 1 t d = iblk m c 1 t)
      ∧ (∀ d, (dats m 0 c).before 2 t d = iblk m c 2 t) ∧ (∀ d, (dats m 0 c).before 3 t d = iblk m c 3 t)
      ∧ (∀ d, (dats m 0 c).before 4 t d = iblk m c 4 t) ∧ (∀ d, (dats m 0 c).before 5 t d = iblk m c 5 t) := by
  have hk := after_in m c
  refine ⟨fun d => ?_, fun d => ?_, fun d => ?_, fun d => ?_, fun d => ?_, fun d => ?_⟩
  · exact ((dats m 0 c).before_in_eq_fetched 0 rfl (fun _ => rfl) (fun _ _ _ => rfl) (fun t => by rw [(hk t).1]; rfl) t d).trans rfl
  · exact ((dats m 0 c).before_in_eq_fetched 1 rfl (fun _ => rfl) (fun _ _ _ => rfl) (fun t => by rw [(hk t).2.1]; rfl) t d).trans rfl
  · exact ((dats m 0 c).before_in_eq_fetched 2 rfl (fun _ => rfl) (fun _ _ _ => rfl) (fun t => by rw [(hk t).2.2.1]; rfl) t d).trans rfl
  · exact ((dats m 0 c).before_in_eq_fetched 3 rfl (fun _ => rfl) (fun _ _ _ => rfl) (fun t => by rw [(hk t).2.2.2.1]; rfl) t d).trans rfl
  · exact ((dats m 0 c).before_in_eq_fetched 4 rfl (fun _ => rfl) (fun _ _ _ => rfl) (fun t => by rw [(hk t).2.2.2.2.1]; rfl) t d).trans rfl
  · exact ((dats m 0 c).before_in_eq_fetched 5 rfl (fun _ => rfl) (fun _ _ _ => rfl) (fun t => by rw [(hk t).2.2.2.2.2]; rfl) t d).trans rfl

/-! ## The body obligation -/

/-- The invariant is the two scratch buffers at some contents, and the generator register. -/
theorem Phi_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)) ∗ (∃ r, prngReg c r)) := by
  unfold Pipeline.ΦA; rw [scopedRest0_eq]; simp only [owns_whole]; try rfl

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

set_option maxHeartbeats 800000 in
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  obtain ⟨b0, b1, b2, b3, b4, b5⟩ := before_in m c t
  obtain ⟨a0, a1, a2, a3, a4, a5⟩ := after_in m c t
  unfold bodyPre bodyPost bodyAt0
  simp only [b0, b1, b2, b3, b4, b5]
  rw [show (dats m 0 c).Φ t.succ = (dats m 0 c).Φ t.castSucc from rfl,
    show (dats m 0 c).owesAt () t.succ = (dats m 0 c).owesAt () t.castSucc from rfl,
    a0, a1, a2, a3, a4, a5, after_out]
  rw [show (dats m 0 c).Φ t.castSucc = Pipeline.ΦA spec0 c from rfl, Phi_eq]
  unfold outAt
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (body c (grid0.coords t) _ _ _ _ _ _ _ _ _ _ _ _ _ _ _ _ _ _ (iblk m c 0 t) (iblk m c 1 t) (iblk m c 2 t) (iblk m c 3 t)
    (iblk m c 4 t) (iblk m c 5 t) Set.univ)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin (cfg0 (F := F)).N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
/-- Every weakly fair execution from zero counters terminates with the pipeline's arrays at what the proof data says, every other
    buffer as the kernel found it, and the counters at zero. -/
theorem run : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

/-- At the final states of the run, the result is what the points stored and the argument arrays are unchanged. -/
theorem final_of {r : PUnit × MemSt nD τ sig (Elt F)}
    (h : (Pipeline.FramePost cfgs (dats m) 0 (V m)) r) (c : Dev nD) :
    r.2.mem ((c.tc : Thread nD τ).loc main_v6) = (dats m 0 c).arrAt 6 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c).1 6,
    ((h c).1 0).trans (((dats m 0 c).arrAt_in 0 rfl _).trans ((A_eq m c 0).trans (V_kept m c main_arg0 (by decide)))),
    ((h c).1 1).trans (((dats m 0 c).arrAt_in 1 rfl _).trans ((A_eq m c 1).trans (V_kept m c main_arg1 (by decide)))),
    ((h c).1 2).trans (((dats m 0 c).arrAt_in 2 rfl _).trans ((A_eq m c 2).trans (V_kept m c main_arg2 (by decide)))),
    ((h c).2 main_arg3 (Pipeline.mem_restRefs_of (win := spec0) main_arg3 (by decide) (by decide))).trans (V_kept m c main_arg3 (by decide)),
    ((h c).2 main_arg4 (Pipeline.mem_restRefs_of (win := spec0) main_arg4 (by decide) (by decide))).trans (V_kept m c main_arg4 (by decide))⟩

end Cert.Proof.AttnIdeal

end
-- ==== Proof.Stick.lean ====
/-
  Stick-breaking attention on the extended reals. A query's row has a logit `Z i` and a value `U i` at every key position `i`;
  the row sees the positions below `N`. Position `i` gets the weight `exp (Z i - stay (Z i) - later Z N i)`, `later` the sum of
  `stay` over the positions after it, and the row's result is the weighted sum of the values. The kernel goes through the
  positions tile by tile from the last one, the reference takes one cumulative sum; both are brought to this form here.
-/
module

public import Idealize.ShloMosaic.Lib.Pointwise

@[expose] public section

noncomputable section

namespace Cert.Stick

open Idealize.ShloMosaic Finset

/-- The softplus, as the kernel computes it. -/
def stay (z : EReal) : EReal := max z 0 + Ideal.log (1 + Ideal.exp (0 - max z (-z)))

/-- The sum of `stay` over positions `a` to `N - 1`. -/
def from' (Z : ℕ → EReal) (N a : ℕ) : EReal := ∑ i ∈ Ico a N, stay (Z i)

def weight (Z : ℕ → EReal) (N i : ℕ) : EReal := Ideal.exp (Z i - stay (Z i) - from' Z N (i + 1))

/-- The part of a row's result that comes from positions `a` to `b - 1`. -/
def part (Z U : ℕ → EReal) (N a b : ℕ) : EReal := ∑ i ∈ Ico a b, weight Z N i * U i

theorem exp_nonneg (y : EReal) : 0 ≤ Ideal.exp y := by
  induction y using EReal.rec with
  | bot => exact le_refl _
  | coe r => exact EReal.coe_nonneg.mpr (Real.exp_pos r).le
  | top => exact le_top

theorem log_nonneg (y : EReal) (hy : 1 ≤ y) : 0 ≤ Ideal.log y := by
  induction y using EReal.rec with
  | bot => exact absurd hy (EReal.bot_lt_zero.trans zero_lt_one).not_ge
  | coe r =>
    have hr : (1 : ℝ) ≤ r := by exact_mod_cast hy
    have e : Ideal.log (r : EReal) = (Real.log r : ℝ) := if_neg (by linarith)
    rw [e]
    exact EReal.coe_nonneg.mpr (Real.log_nonneg hr)
  | top => exact le_top

theorem stay_nonneg (z : EReal) : 0 ≤ stay z := by
  have h : (1 : EReal) ≤ 1 + Ideal.exp (0 - max z (-z)) := le_add_of_nonneg_right (exp_nonneg _)
  exact add_nonneg (le_max_right _ _) (log_nonneg _ h)

theorem from'_nonneg (Z : ℕ → EReal) (N a : ℕ) : 0 ≤ from' Z N a := sum_nonneg fun _ _ => stay_nonneg _

theorem ne_bot {x : EReal} (h : 0 ≤ x) : x ≠ ⊥ := fun e => by rw [e] at h; exact absurd h (by simp)

theorem sub_sub_of_nonneg (x y w : EReal) (hy : 0 ≤ y) (hw : 0 ≤ w) : x - y - w = x - (y + w) := by
  rw [sub_eq_add_neg, sub_eq_add_neg, sub_eq_add_neg, EReal.neg_add (.inl (ne_bot hy)) (.inr (ne_bot hw)), sub_eq_add_neg, add_assoc]

theorem sum_neg {ι : Type} (s : Finset ι) (f : ι → EReal) (hf : ∀ i, 0 ≤ f i) : ∑ i ∈ s, -(f i) = -∑ i ∈ s, f i := by
  classical
  induction s using Finset.induction_on with
  | empty => simp
  | insert a s ha ih =>
    rw [sum_insert ha, sum_insert ha, ih, EReal.neg_add (.inl (ne_bot (hf a))) (.inr (ne_bot (sum_nonneg fun i _ => hf i))), sub_eq_add_neg]

/-- When a later sum is infinite the weight is zero. -/
theorem weight_zero (Z : ℕ → EReal) (N i : ℕ) (h : from' Z N (i + 1) = ⊤) : weight Z N i = 0 := by
  unfold weight
  rw [h, EReal.sub_top]
  rfl

/-- An infinite running sum stays infinite, and everything before it has weight zero. -/
theorem from'_top (Z : ℕ → EReal) (N a b : ℕ) (hab : a ≤ b) (h : from' Z N b = ⊤) : from' Z N a = ⊤ := by
  refine top_le_iff.mp (h ▸ ?_)
  exact sum_le_sum_of_subset_of_nonneg (Ico_subset_Ico_left hab) fun _ _ _ => stay_nonneg _

theorem part_zero (Z U : ℕ → EReal) (N a b : ℕ) (h : from' Z N b = ⊤) : part Z U N a b = 0 := by
  refine sum_eq_zero fun i hi => ?_
  rw [weight_zero Z N i (from'_top Z N _ b (mem_Ico.mp hi).2 h), zero_mul]

theorem part_split (Z U : ℕ → EReal) (N a b c : ℕ) (hab : a ≤ b) (hbc : b ≤ c) :
    part Z U N b c + part Z U N a b = part Z U N a c := by
  unfold part
  rw [add_comm]
  exact sum_Ico_consecutive _ hab hbc

theorem from'_split (Z : ℕ → EReal) (N a b : ℕ) (hab : a ≤ b) (hbN : b ≤ N) :
    from' Z N b + ∑ i ∈ Ico a b, stay (Z i) = from' Z N a := by
  unfold from'
  rw [add_comm]
  exact sum_Ico_consecutive _ hab hbN

/-! ## One tile -/

/-- The first `m` columns of a tile as positions from `a` on. -/
theorem sum_tile {T : ℕ} (f : ℕ → EReal) (a m : ℕ) (hm : m ≤ T) :
    (∑ x : Fin T, if x.val < m then f (a + x.val) else 0) = ∑ i ∈ Ico a (a + m), f i := by
  rw [Fin.sum_univ_eq_sum_range (fun x => if x < m then f (a + x) else 0) T, ← sum_filter, sum_Ico_eq_sum_range, Nat.add_sub_cancel_left]
  refine sum_congr ?_ fun _ _ => rfl
  ext x
  simp only [mem_filter, mem_range]
  omega

/-- The columns after column `x` among the first `m`. -/
theorem sum_after {T : ℕ} (f : ℕ → EReal) (a m x : ℕ) (hm : m ≤ T) :
    (∑ k : Fin T, if k.val < m then f (a + k.val) * (if x < k.val then 1 else 0) else 0) = ∑ i ∈ Ico (a + x + 1) (a + m), f i := by
  have e : ∀ k : ℕ, (if k < m then f (a + k) * (if x < k then 1 else 0) else 0) = if k < m then (if x < k then f (a + k) else 0) else 0 := by
    intro k; split <;> [skip; rfl]
    split <;> simp
  rw [Fin.sum_univ_eq_sum_range (fun k => if k < m then f (a + k) * (if x < k then 1 else 0) else 0) T, sum_congr rfl fun k _ => e k,
    ← sum_filter, ← sum_filter]
  refine sum_bij' (fun k _ => a + k) (fun i _ => i - a) ?_ ?_ ?_ ?_ ?_
  · intro k hk; simp only [mem_filter, mem_range, mem_Ico] at hk ⊢; omega
  · intro k hk; simp only [mem_filter, mem_range, mem_Ico] at hk ⊢; omega
  · intro k hk; omega
  · intro k hk; simp only [mem_Ico] at hk; omega
  · intro k hk; rfl

/-- What a tile adds to a row's result: `z` its logits, `u` its values, `t` the matrix that sums over later columns, `c` the
    running sum so far, the first `m` columns seen. -/
def tileSum {T : ℕ} (m : ℕ) (z u : Fin T → EReal) (t : Fin T → Fin T → EReal) (c : EReal) : EReal :=
  ∑ x : Fin T, if x.val < m then
    Ideal.exp (z x - stay (z x) - (∑ k : Fin T, if k.val < m then stay (z k) * t k x else 0) - c) * u x else 0

/-- What it adds to the running sum. -/
def tileStay {T : ℕ} (m : ℕ) (z : Fin T → EReal) : EReal := ∑ x : Fin T, if x.val < m then stay (z x) else 0

theorem tileSum_eq {T : ℕ} (Z U : ℕ → EReal) (N a m : ℕ) (hm : m ≤ T) (hN : a + m ≤ N) (z u : Fin T → EReal) (t : Fin T → Fin T → EReal)
    (hz : ∀ x, x.val < m → z x = Z (a + x.val)) (hu : ∀ x, x.val < m → u x = U (a + x.val))
    (ht : ∀ k x, t k x = if x.val < k.val then 1 else 0) :
    tileSum m z u t (from' Z N (a + m)) = part Z U N a (a + m) := by
  unfold tileSum part
  rw [← sum_tile (T := T) (fun i => weight Z N i * U i) a m hm]
  refine sum_congr rfl fun x _ => ?_
  by_cases hx : x.val < m
  · rw [if_pos hx, if_pos hx, hz x hx, hu x hx]
    have e : (∑ k : Fin T, if k.val < m then stay (z k) * t k x else 0) = ∑ i ∈ Ico (a + x.val + 1) (a + m), stay (Z i) := by
      rw [← sum_after (T := T) (fun i => stay (Z i)) a m x.val hm]
      refine sum_congr rfl fun k _ => ?_
      by_cases hk : k.val < m
      · rw [if_pos hk, if_pos hk, hz k hk, ht]
      · rw [if_neg hk, if_neg hk]
    rw [e, sub_sub_of_nonneg _ _ _ (sum_nonneg fun _ _ => stay_nonneg _) (from'_nonneg Z N _), add_comm (∑ i ∈ _, _),
      from'_split Z N _ _ (by omega) hN]
    rfl
  · rw [if_neg hx, if_neg hx]

theorem tileStay_eq {T : ℕ} (Z : ℕ → EReal) (N a m : ℕ) (hm : m ≤ T) (hN : a + m ≤ N) (z : Fin T → EReal)
    (hz : ∀ x, x.val < m → z x = Z (a + x.val)) : from' Z N (a + m) + tileStay m z = from' Z N a := by
  rw [← from'_split Z N a (a + m) (by omega) hN, ← sum_tile (T := T) (fun i => stay (Z i)) a m hm]
  unfold tileStay
  congr 1
  refine sum_congr rfl fun x _ => ?_
  by_cases hx : x.val < m
  · rw [if_pos hx, if_pos hx, hz x hx]
  · rw [if_neg hx, if_neg hx]

/-! ## The reference's form -/

theorem neg_stay_neg (z : ℝ) : -(stay (-(z : EReal))) = z - stay z := by
  unfold stay
  have e : max (-(z : EReal)) (- -(z : EReal)) = max (z : EReal) (-z) := by rw [neg_neg, max_comm]
  rw [e]
  obtain ⟨w, hw⟩ : ∃ w : ℝ, Ideal.log (1 + Ideal.exp (0 - max (z : EReal) (-z))) = w := by
    have h1 : (0 - max (z : EReal) (-z)) = ((0 - max z (-z) : ℝ) : EReal) := by push_cast; rfl
    have h2 : (1 : EReal) + Ideal.exp (((0 - max z (-z) : ℝ) : EReal)) = ((1 + Real.exp (0 - max z (-z)) : ℝ) : EReal) := by push_cast; rfl
    rw [h1, h2]
    refine ⟨Real.log (1 + Real.exp (0 - max z (-z))), ?_⟩
    exact if_neg (by have := Real.exp_pos (0 - max z (-z)); linarith)
  rw [hw]
  have h3 : max (-(z : EReal)) 0 = ((max (-z) 0 : ℝ) : EReal) := by push_cast; rfl
  have h4 : max (z : EReal) 0 = ((max z 0 : ℝ) : EReal) := by push_cast; rfl
  rw [h3, h4]
  norm_cast
  rcases le_total z 0 with h | h
  · rw [max_eq_left (by linarith : (0:ℝ) ≤ -z), max_eq_right h]; ring
  · rw [max_eq_right (by linarith : -z ≤ (0:ℝ)), max_eq_left h]; ring

theorem stay_real (z : ℝ) : ∃ w : ℝ, stay z = w := by
  have h := neg_stay_neg z
  have h0 := stay_nonneg (z : EReal)
  have h1 := stay_nonneg (-(z : EReal))
  induction hs : stay (z : EReal) using EReal.rec with
  | bot => rw [hs] at h0; exact absurd h0 (by simp)
  | coe r => exact ⟨r, rfl⟩
  | top =>
    exfalso
    unfold stay at hs
    have h3 : max (z : EReal) 0 = ((max z 0 : ℝ) : EReal) := by push_cast; rfl
    have h1 : (0 - max (z : EReal) (-z)) = ((0 - max z (-z) : ℝ) : EReal) := by push_cast; rfl
    have h2 : (1 : EReal) + Ideal.exp (((0 - max z (-z) : ℝ) : EReal)) = ((1 + Real.exp (0 - max z (-z)) : ℝ) : EReal) := by push_cast; rfl
    have h4 : Ideal.log ((1 + Real.exp (0 - max z (-z)) : ℝ) : EReal) = (Real.log (1 + Real.exp (0 - max z (-z))) : ℝ) :=
      if_neg (by have := Real.exp_pos (0 - max z (-z)); linarith)
    rw [h3, h1, h2, h4, ← EReal.coe_add] at hs
    exact EReal.coe_ne_top _ hs

/-- The reference's weight: the cumulative sum less its own term, added to the logarithm of the sigmoid. -/
theorem weight_ref (z S : EReal) (hS : 0 ≤ S) :
    Ideal.exp (-(stay (-z)) + (-(stay z + S) - -(stay z))) = Ideal.exp (z - stay z - S) := by
  have hz := ne_bot (stay_nonneg z)
  rw [EReal.neg_add (.inl hz) (.inr (ne_bot hS))]
  induction z using EReal.rec with
  | bot =>
    have h1 : stay (-(⊥ : EReal)) = ⊤ := by
      unfold stay; rw [EReal.neg_bot]; simp only [max_eq_left le_top]
      exact EReal.top_add_of_ne_bot (ne_bot (log_nonneg _ (le_add_of_nonneg_right (exp_nonneg _))))
    rw [h1, EReal.neg_top, EReal.bot_add, sub_eq_add_neg ⊥, EReal.bot_add, sub_eq_add_neg ⊥, EReal.bot_add]
  | top =>
    have h1 : stay (⊤ : EReal) = ⊤ := by
      unfold stay; simp only [max_eq_left le_top]
      exact EReal.top_add_of_ne_bot (ne_bot (log_nonneg _ (le_add_of_nonneg_right (exp_nonneg _))))
    rw [h1, EReal.neg_top, sub_eq_add_neg ⊥ S, EReal.bot_add, sub_eq_add_neg ⊥, EReal.bot_add, EReal.add_bot, EReal.sub_top,
      sub_eq_add_neg ⊥ S, EReal.bot_add]
  | coe r =>
    rw [neg_stay_neg]
    obtain ⟨w, hw⟩ := stay_real r
    rw [hw]
    congr 1
    induction S using EReal.rec with
    | bot => exact absurd hS (by simp)
    | coe s => norm_cast; ring
    | top =>
      rw [EReal.sub_top, EReal.sub_top, sub_eq_add_neg ⊥, EReal.bot_add, EReal.add_bot]

end Cert.Stick

end
-- ==== Proof.AttnIdeal.Tile.lean ====
/-
  One tile of the attention kernel, over the extended reals: what it adds to a row of the output and to a row's running sums.
-/
module

public import proofs.«01_k».proof.Proof.AttnIdeal.State
public import proofs.«01_k».proof.Proof.Stick
public import Idealize.ShloMosaic.Lib.Pointwise

@[expose] public section

set_option maxRecDepth 16384

noncomputable section

namespace Cert.Proof.AttnIdeal

open Idealize.ShloMosaic Idealize.ShloMosaic.Pointwise Cert.AttnIdeal Cert.AttnIdeal.Gen Cert.Stick

/-- A selection by a comparison of two small indices. -/
theorem sel_lt {α : Type} (x m : ℕ) (a b : α) (hx : x < 2 ^ 31) (hm : m < 2 ^ 31) :
    Scalar.select (IntOp.cmpi CmpIPredicate.slt (BitVec.ofNat 32 x) (BitVec.ofNat 32 m)) a b = if x < m then a else b := by
  have e1 : (BitVec.ofNat 32 x).toInt = x := by
    rw [BitVec.toInt_ofNat']; exact Int.bmod_eq_of_le (by omega) (by omega)
  have e2 : (BitVec.ofNat 32 m).toInt = m := by
    rw [BitVec.toInt_ofNat']; exact Int.bmod_eq_of_le (by omega) (by omega)
  have h1 : IntOp.cmpi CmpIPredicate.slt (BitVec.ofNat 32 x) (BitVec.ofNat 32 m) = BitVec.ofBool (decide (x < m)) := by
    show BitVec.ofBool (BitVec.slt _ _) = _
    rw [BitVec.slt_eq_decide, e1, e2]
    congr 1
    exact decide_eq_decide.mpr (by omega)
  rw [h1]
  by_cases h : x < m
  · rw [if_pos h, decide_eq_true h]; rfl
  · rw [if_neg h, decide_eq_false h]; rfl

/-- The first head's logit of a query row and a key row: the first 64 of the 128 channels. -/
def z0 (q k : Fin 128 → EReal) : EReal := ∑ y : Fin 128, if y.val < 64 then q y * k y else 0

/-- The second head's. -/
def z1 (q k : Fin 128 → EReal) : EReal := ∑ y : Fin 128, if y.val < 64 then 0 else q y * k y

/-- A sum over 256 columns as the sums over its halves. -/
theorem halves (f : Fin 256 → EReal) :
    (∑ x : Fin 128, f ⟨x.val, by omega⟩) + ∑ x : Fin 128, f ⟨128 + x.val, by omega⟩ = ∑ x : Fin 256, f x :=
  (Fin.sum_univ_add (a := 128) (b := 128) f).symm

theorem tileSum_masked {T : ℕ} (m : ℕ) (z u : Fin T → EReal) (t : Fin T → Fin T → EReal) (c : EReal) :
    tileSum m z u t c = ∑ x : Fin T, if x.val < m then
      Ideal.exp (z x - (if x.val < m then stay (z x) else 0) - (∑ k : Fin T, if k.val < m then stay (z k) * t k x else 0) - c) * u x else 0 := by
  refine Finset.sum_congr rfl fun x _ => ?_
  by_cases hx : x.val < m
  · rw [if_pos hx, if_pos hx, if_pos hx]
  · rw [if_neg hx, if_neg hx]

theorem tileSum_all {T : ℕ} (z u : Fin T → EReal) (t : Fin T → Fin T → EReal) (c : EReal) :
    tileSum T z u t c = ∑ x : Fin T, Ideal.exp (z x - stay (z x) - (∑ k : Fin T, stay (z k) * t k x) - c) * u x := by
  unfold tileSum
  simp only [Fin.is_lt, if_true]

theorem tileStay_all {T : ℕ} (z : Fin T → EReal) : tileStay T z = ∑ x : Fin T, stay (z x) := by
  unfold tileStay
  simp only [Fin.is_lt, if_true]

section
variable (q kt vt : Vec Ideal S1x256x128 .bf16) (km vm : Vec Ideal S128x128 .bf16) (tri : Vec Ideal S256x256 .bf16) (s : St Ideal)
  (r : Fin 256) (l : Fin 128) (C0 C1 : EReal)

/-! ## The meta keys -/

theorem meta_c0 : (metaVisit (F := Ideal) q km vm tri s).c0 (ix3 0 r l)
    = s.c0 (ix3 0 r l) + tileStay 16 (fun x : Fin 128 => z0 (fun y => q (ix3 0 r y)) (fun y => km (ix2 x y))) := by
  unfold metaVisit
  dsimp only
  pointwise [k0_pay5,k0_pay9,k0_pay10,k0_pay11,k0_pay12,k0_pay13,k0_pay15,k0_pay16,k0_pay23,k0_pay24,k0_pay25,k0_pay26,k0_pay7]
  simp (disch := omega) only [sel_lt, Ideal.absf_def]
  rfl

theorem meta_c1 : (metaVisit (F := Ideal) q km vm tri s).c1 (ix3 0 r l)
    = s.c1 (ix3 0 r l) + tileStay 16 (fun x : Fin 128 => z1 (fun y => q (ix3 0 r y)) (fun y => km (ix2 x y))) := by
  unfold metaVisit
  dsimp only
  pointwise [k0_pay5,k0_pay7,k0_pay9,k0_pay17,k0_pay18,k0_pay19,k0_pay20,k0_pay21,k0_pay23,k0_pay24,k0_pay25,k0_pay27]
  simp (disch := omega) only [sel_lt, Ideal.absf_def]
  rfl

theorem meta_acc (h0 : ∀ x, s.c0 (ix3 0 r x) = C0) (h1 : ∀ x, s.c1 (ix3 0 r x) = C1) :
    (metaVisit (F := Ideal) q km vm tri s).acc (ix2 r l)
      = s.acc (ix2 r l) + if l.val < 64
        then tileSum 16 (fun x : Fin 128 => z0 (fun y => q (ix3 0 r y)) (fun y => km (ix2 x y))) (fun x => vm (ix2 x l)) (fun k x => corner tri (ix2 k x)) C0
        else tileSum 16 (fun x : Fin 128 => z1 (fun y => q (ix3 0 r y)) (fun y => km (ix2 x y))) (fun x => vm (ix2 x l)) (fun k x => corner tri (ix2 k x)) C1 := by
  unfold metaVisit
  dsimp only
  pointwise [k0_pay2,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22, k0_pay23, k0_pay24, k0_pay25, k0_pay26, k0_pay27]
  simp (disch := omega) only [sel_lt, Ideal.absf_def, h0, h1]
  rw [tileSum_masked, tileSum_masked]
  rfl

/-! ## A whole tile -/

theorem trip_c0 : (trip (F := Ideal) q kt vt tri s).c0 (ix3 0 r l)
    = s.c0 (ix3 0 r l) + tileStay 256 (fun x : Fin 256 => z0 (fun y => q (ix3 0 r y)) (fun y => kt (ix3 0 x y))) := by
  unfold trip
  dsimp only
  pointwise [k0_pay23,k0_pay24,k0_pay25,k0_pay26,k0_pay50,k0_pay53,k0_pay54,k0_pay55,k0_pay56,k0_pay57,k0_pay59]
  simp (disch := omega) only [sel_lt, Ideal.absf_def]
  rw [tileStay_all]
  rfl

theorem trip_c1 : (trip (F := Ideal) q kt vt tri s).c1 (ix3 0 r l)
    = s.c1 (ix3 0 r l) + tileStay 256 (fun x : Fin 256 => z1 (fun y => q (ix3 0 r y)) (fun y => kt (ix3 0 x y))) := by
  unfold trip
  dsimp only
  pointwise [k0_pay23,k0_pay24,k0_pay25,k0_pay27,k0_pay50,k0_pay53,k0_pay60,k0_pay61,k0_pay62,k0_pay63,k0_pay64]
  simp (disch := omega) only [sel_lt, Ideal.absf_def]
  rw [tileStay_all]
  rfl

theorem trip_acc (h0 : ∀ x, s.c0 (ix3 0 r x) = C0) (h1 : ∀ x, s.c1 (ix3 0 r x) = C1) :
    (trip (F := Ideal) q kt vt tri s).acc (ix2 r l)
      = s.acc (ix2 r l) + if l.val < 64
        then tileSum 256 (fun x : Fin 256 => z0 (fun y => q (ix3 0 r y)) (fun y => kt (ix3 0 x y))) (fun x => vt (ix3 0 x l)) (fun k x => tri (ix2 k x)) C0
        else tileSum 256 (fun x : Fin 256 => z1 (fun y => q (ix3 0 r y)) (fun y => kt (ix3 0 x y))) (fun x => vt (ix3 0 x l)) (fun k x => tri (ix2 k x)) C1 := by
  unfold trip
  dsimp only
  pointwise [k0_pay23,k0_pay24,k0_pay25,k0_pay26,k0_pay27,k0_pay50,k0_pay51,k0_pay52,k0_pay54,k0_pay55,k0_pay56,k0_pay57,k0_pay58,k0_pay60,k0_pay61,k0_pay62,k0_pay63,k0_pay65]
  simp (disch := omega) only [sel_lt, Ideal.absf_def, h0, h1]
  rw [tileSum_all, tileSum_all, ← halves, ← halves]
  rfl

/-! ## The diagonal tile -/

theorem diag_c0 : (diag (F := Ideal) q kt vt tri).c0 (ix3 0 r l)
    = tileStay r.val (fun x : Fin 256 => z0 (fun y => q (ix3 0 r y)) (fun y => kt (ix3 0 x y))) := by
  unfold diag row
  dsimp only
  pointwise [k0_pay40, k0_pay39, k0_pay38, k0_pay37, k0_pay36, k0_pay35, k0_pay41, k0_pay42, k0_pay43, k0_pay23, k0_pay24, k0_pay25, k0_pay26, k0_pay27, k0_pay28, k0_pay29,k0_pay30,k0_pay31,k0_pay32,k0_pay33,k0_pay34]
  simp (disch := omega) only [sel_lt, Ideal.absf_def]
  rfl

theorem diag_c1 : (diag (F := Ideal) q kt vt tri).c1 (ix3 0 r l)
    = tileStay r.val (fun x : Fin 256 => z1 (fun y => q (ix3 0 r y)) (fun y => kt (ix3 0 x y))) := by
  unfold diag row
  dsimp only
  pointwise [k0_pay44, k0_pay45, k0_pay46, k0_pay47, k0_pay41, k0_pay42, k0_pay43, k0_pay23, k0_pay24, k0_pay25, k0_pay26, k0_pay27, k0_pay28, k0_pay29,k0_pay30,k0_pay31,k0_pay32,k0_pay33,k0_pay34]
  simp (disch := omega) only [sel_lt, Ideal.absf_def]
  rfl

theorem diag_acc : (diag (F := Ideal) q kt vt tri).acc (ix2 r l)
    = if l.val < 64
        then tileSum r.val (fun x : Fin 256 => z0 (fun y => q (ix3 0 r y)) (fun y => kt (ix3 0 x y))) (fun x => vt (ix3 0 x l)) (fun k x => tri (ix2 k x)) 0
        else tileSum r.val (fun x : Fin 256 => z1 (fun y => q (ix3 0 r y)) (fun y => kt (ix3 0 x y))) (fun x => vt (ix3 0 x l)) (fun k x => tri (ix2 k x)) 0 := by
  unfold diag row
  dsimp only
  pointwise [k0_pay48, k0_pay46, k0_pay45, k0_pay44, k0_pay39, k0_pay38, k0_pay37, k0_pay36, k0_pay35, k0_pay41, k0_pay42, k0_pay43, k0_pay23, k0_pay24, k0_pay25, k0_pay26, k0_pay27, k0_pay28, k0_pay29,k0_pay30,k0_pay31,k0_pay32,k0_pay33,k0_pay34]
  simp (disch := omega) only [sel_lt, Ideal.absf_def]
  rw [tileSum_masked, tileSum_masked, ← halves, ← halves]
  simp only [sub_zero]
  rfl

end

end Cert.Proof.AttnIdeal

end
-- ==== Proof.AttnIdeal.Rows.lean ====
/-
  A whole grid point of the attention kernel over the extended reals: going through the tiles from the last, the running sums
  are the sums over the positions gone through and the output the weighted sum over them; when every running sum is infinite the
  positions left have weight zero, so leaving the loop then changes nothing.
-/
module

public import proofs.«01_k».proof.Proof.AttnIdeal.Tile

@[expose] public section

set_option maxRecDepth 16384

noncomputable section

namespace Cert.Proof.AttnIdeal

open Idealize.ShloMosaic Idealize.ShloMosaic.Pointwise Cert.AttnIdeal Cert.AttnIdeal.Gen Cert.Stick

/-- The rows at all positions: sixteen meta rows, then the sequence. -/
def rows (xm : Vec Ideal S128x128 .bf16) (x : Vec Ideal S1x8192x128 .bf16) (j : ℕ) (y : Fin 128) : EReal :=
  if h : j < 16 then xm (ix2 (⟨j, by omega⟩ : Fin 128) y) else if h' : j - 16 < 8192 then x (ix3 0 (⟨j - 16, h'⟩ : Fin 8192) y) else 0

theorem tileAt_at (x : Vec Ideal S1x8192x128 .bf16) (k : ℕ) (hk : k < 32) (j : Fin 256) (y : Fin 128) :
    tileAt x k (ix3 0 j y) = x (ix3 0 (⟨256 * k + j.val, by omega⟩ : Fin 8192) y) := by
  unfold tileAt
  rw [dif_pos hk]
  unfold tile
  congr 1
  funext a
  fin_cases a <;> rfl

theorem corner_at (x : Vec Ideal S256x256 .bf16) (k l : Fin 128) :
    corner x (ix2 k l) = x (ix2 (⟨k.val, by omega⟩ : Fin 256) (⟨l.val, by omega⟩ : Fin 256)) := by
  unfold corner
  congr 1
  funext a
  fin_cases a <;> rfl

theorem rows_tile (xm : Vec Ideal S128x128 .bf16) (x : Vec Ideal S1x8192x128 .bf16) (k : ℕ) (hk : k < 32) (j : Fin 256) (y : Fin 128) :
    tileAt x k (ix3 0 j y) = rows xm x (16 + 256 * k + j.val) y := by
  rw [tileAt_at x k hk]
  unfold rows
  rw [dif_neg (by omega), dif_pos (by omega)]
  congr 2
  exact Fin.ext (by show 256 * k + j.val = 16 + 256 * k + j.val - 16; omega)

theorem rows_meta (xm : Vec Ideal S128x128 .bf16) (x : Vec Ideal S1x8192x128 .bf16) (j : Fin 128) (hj : j.val < 16) (y : Fin 128) :
    xm (ix2 j y) = rows xm x (0 + j.val) y := by
  unfold rows
  rw [dif_pos (by omega)]
  congr 2
  exact Fin.ext (by show j.val = 0 + j.val; omega)

theorem more_top (s : St Ideal) (h : ¬more s = 1#1) (r : Fin 256) (x : Fin 128) : s.c0 (ix3 0 r x) = ⊤ ∧ s.c1 (ix3 0 r x) = ⊤ := by
  have hf : more s = BitVec.ofBool (decide (Finset.fold min (Ideal.ofBits .f32 2139095040#32)
      (fun x : Fin 256 × Fin 128 => min (s.c0 (ix3 0 x.1 x.2)) (s.c1 (ix3 0 x.1 x.2))) Finset.univ < exitC (F := Ideal))) := by
    unfold more exitC
    pointwise [k0_pay4]
  have hn : exitC (F := Ideal) = ⊤ := IdealRules.named_const.ideal_named_scalar _ _ _ _ rfl
  rw [hf, hn] at h
  have h2 : ¬(Finset.fold min (Ideal.ofBits .f32 2139095040#32)
      (fun x : Fin 256 × Fin 128 => min (s.c0 (ix3 0 x.1 x.2)) (s.c1 (ix3 0 x.1 x.2))) Finset.univ < (⊤ : EReal)) := by
    intro hlt
    rw [decide_eq_true hlt] at h
    exact h rfl
  have h3 := ((Finset.le_fold_min _).mp (not_lt.mp h2)).2 (r, x) (Finset.mem_univ _)
  exact ⟨top_le_iff.mp (le_trans h3 (min_le_left _ _)), top_le_iff.mp (le_trans h3 (min_le_right _ _))⟩

section
variable (i : ℕ) (q : Vec Ideal S1x256x128 .bf16) (x1 x2 : Vec Ideal S1x8192x128 .bf16) (km vm : Vec Ideal S128x128 .bf16)
  (tri : Vec Ideal S256x256 .bf16)

/-- The logits of query row `r`, by head, at every position. -/
def Z0 (r : Fin 256) (j : ℕ) : EReal := z0 (fun y => q (ix3 0 r y)) (rows km x1 j)
def Z1 (r : Fin 256) (j : ℕ) : EReal := z1 (fun y => q (ix3 0 r y)) (rows km x1 j)

theorem Z0_tile (r : Fin 256) (k : ℕ) (hk : k < 32) (x : Fin 256) :
    z0 (fun y => q (ix3 0 r y)) (fun y => tileAt x1 k (ix3 0 x y)) = Z0 q x1 km r (16 + 256 * k + x.val) :=
  congrArg (z0 _) (funext fun y => rows_tile km x1 k hk x y)

theorem Z1_tile (r : Fin 256) (k : ℕ) (hk : k < 32) (x : Fin 256) :
    z1 (fun y => q (ix3 0 r y)) (fun y => tileAt x1 k (ix3 0 x y)) = Z1 q x1 km r (16 + 256 * k + x.val) :=
  congrArg (z1 _) (funext fun y => rows_tile km x1 k hk x y)

theorem Z0_meta (r : Fin 256) (x : Fin 128) (hx : x.val < 16) :
    z0 (fun y => q (ix3 0 r y)) (fun y => km (ix2 x y)) = Z0 q x1 km r (0 + x.val) :=
  congrArg (z0 _) (funext fun y => rows_meta km x1 x hx y)

theorem Z1_meta (r : Fin 256) (x : Fin 128) (hx : x.val < 16) :
    z1 (fun y => q (ix3 0 r y)) (fun y => km (ix2 x y)) = Z1 q x1 km r (0 + x.val) :=
  congrArg (z1 _) (funext fun y => rows_meta km x1 x hx y)

/-- The scratch when the positions from `a` on have been gone through. -/
structure Inv (a : ℕ) (s : St Ideal) (r : Fin 256) : Prop where
  c0 : ∀ x, s.c0 (ix3 0 r x) = from' (Z0 q x1 km r) (16 + 256 * i + r.val) a
  c1 : ∀ x, s.c1 (ix3 0 r x) = from' (Z1 q x1 km r) (16 + 256 * i + r.val) a
  acc : ∀ l : Fin 128, s.acc (ix2 r l)
    = if l.val < 64 then part (Z0 q x1 km r) (fun j => rows vm x2 j l) (16 + 256 * i + r.val) a (16 + 256 * i + r.val)
      else part (Z1 q x1 km r) (fun j => rows vm x2 j l) (16 + 256 * i + r.val) a (16 + 256 * i + r.val)

variable (htri : ∀ k l : Fin 256, tri (ix2 k l) = if l.val < k.val then (1 : EReal) else 0)
include htri

theorem inv_diag (hi : i < 32) (r : Fin 256) : Inv i q x1 x2 km vm (16 + 256 * i) (diag q (tileAt x1 i) (tileAt x2 i) tri) r := by
  have hr := r.isLt
  have e0 : ∀ Z : ℕ → EReal, 0 = from' Z (16 + 256 * i + r.val) (16 + 256 * i + r.val) := fun Z => by
    unfold from'; rw [Finset.Ico_self]; rfl
  refine ⟨fun x => ?_, fun x => ?_, fun l => ?_⟩
  · rw [diag_c0, ← zero_add (tileStay _ _), e0 (Z0 q x1 km r)]
    exact tileStay_eq (T := 256) (Z0 q x1 km r) _ (16 + 256 * i) r.val (by omega) le_rfl _ fun x _ => Z0_tile q x1 km r i hi x
  · rw [diag_c1, ← zero_add (tileStay _ _), e0 (Z1 q x1 km r)]
    exact tileStay_eq (T := 256) (Z1 q x1 km r) _ (16 + 256 * i) r.val (by omega) le_rfl _ fun x _ => Z1_tile q x1 km r i hi x
  · rw [diag_acc]
    refine if_congr Iff.rfl ?_ ?_
    · rw [e0 (Z0 q x1 km r)]
      exact tileSum_eq (T := 256) (Z0 q x1 km r) (fun j => rows vm x2 j l) _ (16 + 256 * i) r.val (by omega) le_rfl _ _ _
        (fun x _ => Z0_tile q x1 km r i hi x) (fun x _ => rows_tile vm x2 i hi x l) htri
    · rw [e0 (Z1 q x1 km r)]
      exact tileSum_eq (T := 256) (Z1 q x1 km r) (fun j => rows vm x2 j l) _ (16 + 256 * i) r.val (by omega) le_rfl _ _ _
        (fun x _ => Z1_tile q x1 km r i hi x) (fun x _ => rows_tile vm x2 i hi x l) htri

theorem inv_trip (hi : i < 32) (k : ℕ) (hk : k < i) (s : St Ideal) (r : Fin 256) (h : Inv i q x1 x2 km vm (16 + 256 * k + 256) s r) :
    Inv i q x1 x2 km vm (16 + 256 * k) (trip q (tileAt x1 k) (tileAt x2 k) tri s) r := by
  have hr := r.isLt
  have hk' : k < 32 := by omega
  have hN : 16 + 256 * k + 256 ≤ 16 + 256 * i + r.val := by omega
  refine ⟨fun x => ?_, fun x => ?_, fun l => ?_⟩
  · rw [trip_c0, h.c0]
    exact tileStay_eq (T := 256) (Z0 q x1 km r) _ _ 256 le_rfl hN _ fun x _ => Z0_tile q x1 km r k hk' x
  · rw [trip_c1, h.c1]
    exact tileStay_eq (T := 256) (Z1 q x1 km r) _ _ 256 le_rfl hN _ fun x _ => Z1_tile q x1 km r k hk' x
  · rw [trip_acc _ _ _ _ _ _ _ _ _ h.c0 h.c1, h.acc,
      tileSum_eq (T := 256) (Z0 q x1 km r) (fun j => rows vm x2 j l) _ (16 + 256 * k) 256 le_rfl hN _ _ _
        (fun x _ => Z0_tile q x1 km r k hk' x) (fun x _ => rows_tile vm x2 k hk' x l) htri,
      tileSum_eq (T := 256) (Z1 q x1 km r) (fun j => rows vm x2 j l) _ (16 + 256 * k) 256 le_rfl hN _ _ _
        (fun x _ => Z1_tile q x1 km r k hk' x) (fun x _ => rows_tile vm x2 k hk' x l) htri]
    split
    · exact part_split _ _ _ _ _ _ (by omega) hN
    · exact part_split _ _ _ _ _ _ (by omega) hN

theorem inv_meta (s : St Ideal) (r : Fin 256) (h : Inv i q x1 x2 km vm (0 + 16) s r) :
    Inv i q x1 x2 km vm 0 (metaVisit q km vm tri s) r := by
  have ht : ∀ k x : Fin 128, corner tri (ix2 k x) = if x.val < k.val then (1 : EReal) else 0 := fun k x => (corner_at tri k x).trans (htri _ _)
  have hN : 0 + 16 ≤ 16 + 256 * i + r.val := by omega
  refine ⟨fun x => ?_, fun x => ?_, fun l => ?_⟩
  · rw [meta_c0, h.c0]
    exact tileStay_eq (T := 128) (Z0 q x1 km r) _ 0 16 (by omega) hN _ fun x hx => Z0_meta q x1 km r x hx
  · rw [meta_c1, h.c1]
    exact tileStay_eq (T := 128) (Z1 q x1 km r) _ 0 16 (by omega) hN _ fun x hx => Z1_meta q x1 km r x hx
  · rw [meta_acc _ _ _ _ _ _ _ _ _ h.c0 h.c1, h.acc,
      tileSum_eq (T := 128) (Z0 q x1 km r) (fun j => rows vm x2 j l) _ 0 16 (by omega) hN _ _ _
        (fun x hx => Z0_meta q x1 km r x hx) (fun x hx => rows_meta vm x2 x hx l) ht,
      tileSum_eq (T := 128) (Z1 q x1 km r) (fun j => rows vm x2 j l) _ 0 16 (by omega) hN _ _ _
        (fun x hx => Z1_meta q x1 km r x hx) (fun x hx => rows_meta vm x2 x hx l) ht]
    split
    · exact part_split _ _ _ _ _ _ (by omega) hN
    · exact part_split _ _ _ _ _ _ (by omega) hN

omit htri in
/-- When the exit test fails, nothing before counts. -/
theorem inv_exit (a : ℕ) (ha : a ≤ 16 + 256 * i) (s : St Ideal) (hs : ¬more s = 1#1) (r : Fin 256) (h : Inv i q x1 x2 km vm a s r) :
    Inv i q x1 x2 km vm 0 s r := by
  have t0 : from' (Z0 q x1 km r) (16 + 256 * i + r.val) a = ⊤ := (h.c0 0).symm.trans (more_top s hs r 0).1
  have t1 : from' (Z1 q x1 km r) (16 + 256 * i + r.val) a = ⊤ := (h.c1 0).symm.trans (more_top s hs r 0).2
  refine ⟨fun x => ?_, fun x => ?_, fun l => ?_⟩
  · rw [(more_top s hs r x).1, from'_top _ _ 0 a (by omega) t0]
  · rw [(more_top s hs r x).2, from'_top _ _ 0 a (by omega) t1]
  · rw [h.acc, ← part_split (Z0 q x1 km r) _ _ 0 a _ (by omega) (by omega), ← part_split (Z1 q x1 km r) _ _ 0 a _ (by omega) (by omega),
      part_zero _ _ _ 0 a t0, part_zero _ _ _ 0 a t1, add_zero, add_zero]

theorem inv_loop (hi : i < 32) : ∀ (k : ℕ) (hk : k ≤ i) (s : St Ideal) (b : BitVec 1),
    (b = 1#1 → ∀ r, Inv i q x1 x2 km vm (16 + 256 * k) s r) → (¬b = 1#1 → ∀ r, Inv i q x1 x2 km vm 0 s r) →
      ((loop q x1 x2 tri k s b).2 = 1#1 → ∀ r, Inv i q x1 x2 km vm 16 (loop q x1 x2 tri k s b).1 r)
        ∧ (¬(loop q x1 x2 tri k s b).2 = 1#1 → ∀ r, Inv i q x1 x2 km vm 0 (loop q x1 x2 tri k s b).1 r)
  | 0, _, _, _, h1, h2 => ⟨h1, h2⟩
  | k + 1, hk, s, b, h1, h2 => by
    unfold loop
    by_cases hb : b = 1#1
    · rw [if_pos hb]
      have ht := fun r => inv_trip i q x1 x2 km vm tri htri hi k (by omega) s r (h1 hb r)
      exact inv_loop hi k (by omega) _ _ (fun _ => ht) (fun hm r => inv_exit i q x1 x2 km vm _ (by omega) _ hm r (ht r))
    · rw [if_neg hb]
      exact ⟨fun h => absurd h hb, h2⟩

theorem inv_final (hi : i < 32) (r : Fin 256) : Inv i q x1 x2 km vm 0 (final i q x1 x2 km vm tri) r := by
  unfold final
  have hd := inv_diag i q x1 x2 km vm tri htri hi
  have hl := inv_loop i q x1 x2 km vm tri htri hi i le_rfl (diag q (tileAt x1 i) (tileAt x2 i) tri) (more (diag q (tileAt x1 i) (tileAt x2 i) tri))
    (fun _ => hd) (fun hm r => inv_exit i q x1 x2 km vm _ le_rfl _ hm r (hd r))
  dsimp only
  split
  · rename_i h
    exact inv_meta i q x1 x2 km vm tri htri _ r (hl.1 h r)
  · rename_i h
    exact hl.2 h r

/-- The block a point stores, at a row and a channel. -/
theorem out_at (hi : i < 32) (r : Fin 256) (l : Fin 128) : out i q x1 x2 km vm tri (ix3 0 r l)
    = if l.val < 64 then part (Z0 q x1 km r) (fun j => rows vm x2 j l) (16 + 256 * i + r.val) 0 (16 + 256 * i + r.val)
      else part (Z1 q x1 km r) (fun j => rows vm x2 j l) (16 + 256 * i + r.val) 0 (16 + 256 * i + r.val) := by
  rw [← (inv_final i q x1 x2 km vm tri htri hi r).acc l]
  unfold out
  pointwise [k0_pay3]

end

end Cert.Proof.AttnIdeal

end
-- ==== Proof.Layer.lean ====
/-
  The attention as one function of the queries, keys and values: what both programs are shown to compute.
-/
module

public import proofs.«01_k».proof.Proof.Stick
public import Idealize.ShloMosaic.Lib.Pointwise

@[expose] public section

noncomputable section

namespace Cert.Layer

open Idealize.ShloMosaic Idealize.ShloMosaic.Pointwise Cert.Stick

abbrev Seq : Type := (⟨3, ![8, 8192, 512]⟩ : Shape).Idx → EReal
abbrev Met : Type := (⟨2, ![16, 512]⟩ : Shape).Idx → EReal

/-- The rows a query may see, by position: sixteen meta rows, then the sequence. -/
def key (xm : Met) (x : Seq) (b : Fin 8) (j : ℕ) (y : Fin 512) : EReal :=
  if h : j < 16 then xm (ix2 (⟨j, h⟩ : Fin 16) y) else if h' : j - 16 < 8192 then x (ix3 b (⟨j - 16, h'⟩ : Fin 8192) y) else 0

/-- Channel `d` of head `h`. -/
def chan (h : Fin 8) (d : Fin 64) : Fin 512 := ⟨h.val * 64 + d.val, by omega⟩

/-- The logit of query row `n` at position `j`, in head `h`. -/
def logit (q k : Seq) (km : Met) (b h : Fin 8) (n : Fin 8192) (j : ℕ) : EReal :=
  ∑ e : Fin 64, q (ix3 b n (chan h e)) * key km k b j (chan h e)

/-- The result at batch element `b`, row `n`, head `h`, channel `d`: the row sees the meta rows and the rows before it. -/
def attn (q k v : Seq) (km vm : Met) (b h : Fin 8) (n : Fin 8192) (d : Fin 64) : EReal :=
  part (logit q k km b h n) (fun j => key vm v b j (chan h d)) (16 + n.val) 0 (16 + n.val)

/-- The result array. -/
def attnArr (q k v : Seq) (km vm : Met) : Seq := fun x =>
  attn q k v km vm (x 0) (⟨(x 2).val / 64, by have h : (x 2).val < 512 := (x 2).isLt; omega⟩ : Fin 8) (x 1)
    (⟨(x 2).val % 64, Nat.mod_lt _ (by norm_num)⟩ : Fin 64)

end Cert.Layer

end
-- ==== Proof.AttnIdeal.Blocks.lean ====
/-
  The attention kernel's blocks as parts of the arrays: the padded meta rows and the summation matrix that the host makes, each
  window's block at a grid point, and the result array at an index.
-/
module

public import proofs.«01_k».proof.Proof.AttnIdeal.Run
public import proofs.«01_k».proof.Proof.AttnIdeal.Rows
public import proofs.«01_k».proof.Proof.Layer
public import Idealize.ShloMosaic.Lib.StableHlo.ReadAt
public import Idealize.ShloMosaic.Lib.Pipeline.Value
public import Idealize.ShloMosaic.Lib.KernelVsHost

@[expose] public section

set_option maxRecDepth 16384

noncomputable section

namespace Cert.Proof.AttnIdeal

open Idealize.ShloMosaic Idealize.ShloMosaic.TcCoe Idealize.ShloMosaic.Pointwise
open Cert.AttnIdeal Cert.AttnIdeal.Gen Cert.Stick

variable (m : (ℓ : Loc nD τ sig) → Buf (Elt Ideal) ℓ) (c : Dev nD)

/-! ## What the host hands over -/

theorem V_tri (k l : Fin 256) : V m c main_v5 (ix2 k l) = if l.val < k.val then (1 : EReal) else (0 : EReal) := by
  unfold V hostOps
  after_reads_at
  have e : IntOp.cmpi CmpIPredicate.sgt (BitVec.ofNat 32 k.val) (BitVec.ofNat 32 l.val) = BitVec.ofBool (decide (l.val < k.val)) := by
    have e1 : (BitVec.ofNat 32 k.val).toInt = k.val := by
      rw [BitVec.toInt_ofNat']; exact Int.bmod_eq_of_le (by omega) (by omega)
    have e2 : (BitVec.ofNat 32 l.val).toInt = l.val := by
      rw [BitVec.toInt_ofNat']; exact Int.bmod_eq_of_le (by omega) (by omega)
    show BitVec.ofBool (BitVec.slt _ _) = _
    rw [BitVec.slt_eq_decide, e1, e2]
    congr 1
    exact decide_eq_decide.mpr (by omega)
  rw [e]
  by_cases h : l.val < k.val
  · rw [if_pos h, decide_eq_true h]
    show (((BitVec.ofBool true).toNat : ℝ) : EReal) = 1
    simp
  · rw [if_neg h, decide_eq_false h]
    show (((BitVec.ofBool false).toNat : ℝ) : EReal) = 0
    simp

theorem V_km (j : Fin 128) (hj : j.val < 16) (y : Fin 512) :
    V m c main_v0 (ix2 j y) = m ((c : Thread nD τ).loc main_arg3) (ix2 (⟨j.val, hj⟩ : Fin 16) y) := by
  unfold V hostOps
  after_reads_at
  exact dif_pos hj

theorem V_vm (j : Fin 128) (hj : j.val < 16) (y : Fin 512) :
    V m c main_v1 (ix2 j y) = m ((c : Thread nD τ).loc main_arg4) (ix2 (⟨j.val, hj⟩ : Fin 16) y) := by
  unfold V hostOps
  after_reads_at
  exact dif_pos hj

/-! ## The index maps -/

theorem coords_at : ∀ t : Fin grid0.N, (grid0.coords t 2).val = t.val % 32 := by decide +kernel

theorem index0 : ∀ t : Fin grid0.N, win0_0.index t 0 = t.val / 128 ∧ win0_0.index t 1 = t.val % 32 ∧ win0_0.index t 2 = t.val / 32 % 4 := by
  decide +kernel

theorem index1 : ∀ t : Fin grid0.N, win0_1.index t 0 = t.val / 128 ∧ win0_1.index t 1 = 0 ∧ win0_1.index t 2 = t.val / 32 % 4 := by
  decide +kernel

theorem index2 : ∀ t : Fin grid0.N, win0_2.index t 0 = t.val / 128 ∧ win0_2.index t 1 = 0 ∧ win0_2.index t 2 = t.val / 32 % 4 := by
  decide +kernel

theorem index3 : ∀ t : Fin grid0.N, win0_3.index t 0 = 0 ∧ win0_3.index t 1 = t.val / 32 % 4 := by decide +kernel

theorem index4 : ∀ t : Fin grid0.N, win0_4.index t 0 = 0 ∧ win0_4.index t 1 = t.val / 32 % 4 := by decide +kernel

theorem index5 : ∀ t : Fin grid0.N, win0_5.index t 0 = 0 ∧ win0_5.index t 1 = 0 := by decide +kernel

theorem index6 : ∀ t : Fin grid0.N, win0_6.index t 0 = t.val / 128 ∧ win0_6.index t 1 = t.val % 32 ∧ win0_6.index t 2 = t.val / 32 % 4 := by
  decide +kernel

theorem lt_N (t : Fin (cfg0 (F := Ideal)).N) : t.val < 1024 := t.isLt

/-! ## The blocks -/

theorem blk0 (t : Fin (cfg0 (F := Ideal)).N) (r : Fin 256) (l : Fin 128) : iblk m c 0 t (ix3 0 r l)
    = m ((c : Thread nD τ).loc main_arg0) (ix3 (⟨t.val / 128, by have := lt_N t; omega⟩ : Fin 8)
        (⟨256 * (t.val % 32) + r.val, by omega⟩ : Fin 8192) (⟨128 * (t.val / 32 % 4) + l.val, by omega⟩ : Fin 512)) := by
  obtain ⟨e0, e1, e2⟩ := index0 t
  show V m c main_arg0 (((cfg0.win 0).blk t).view.emb (ix3 0 r l)) = _
  rw [V_kept m c main_arg0 (by decide)]
  congr 1
  funext a
  apply Fin.ext
  match a with
  | ⟨0, _⟩ => show win0_0.index t (0 : Fin 3) * 1 + 1 * 0 = t.val / 128; omega
  | ⟨1, _⟩ => show win0_0.index t (1 : Fin 3) * 256 + 1 * r.val = 256 * (t.val % 32) + r.val; omega
  | ⟨2, _⟩ => show win0_0.index t (2 : Fin 3) * 128 + 1 * l.val = 128 * (t.val / 32 % 4) + l.val; omega

theorem blk1 (t : Fin (cfg0 (F := Ideal)).N) (j : Fin 8192) (l : Fin 128) : iblk m c 1 t (ix3 0 j l)
    = m ((c : Thread nD τ).loc main_arg1) (ix3 (⟨t.val / 128, by have := lt_N t; omega⟩ : Fin 8)
        j (⟨128 * (t.val / 32 % 4) + l.val, by omega⟩ : Fin 512)) := by
  obtain ⟨e0, e1, e2⟩ := index1 t
  show V m c main_arg1 (((cfg0.win 1).blk t).view.emb (ix3 0 j l)) = _
  rw [V_kept m c main_arg1 (by decide)]
  congr 1
  funext a
  apply Fin.ext
  match a with
  | ⟨0, _⟩ => show win0_1.index t (0 : Fin 3) * 1 + 1 * 0 = t.val / 128; omega
  | ⟨1, _⟩ => show win0_1.index t (1 : Fin 3) * 8192 + 1 * j.val = j.val; omega
  | ⟨2, _⟩ => show win0_1.index t (2 : Fin 3) * 128 + 1 * l.val = 128 * (t.val / 32 % 4) + l.val; omega

theorem blk2 (t : Fin (cfg0 (F := Ideal)).N) (j : Fin 8192) (l : Fin 128) : iblk m c 2 t (ix3 0 j l)
    = m ((c : Thread nD τ).loc main_arg2) (ix3 (⟨t.val / 128, by have := lt_N t; omega⟩ : Fin 8)
        j (⟨128 * (t.val / 32 % 4) + l.val, by omega⟩ : Fin 512)) := by
  obtain ⟨e0, e1, e2⟩ := index2 t
  show V m c main_arg2 (((cfg0.win 2).blk t).view.emb (ix3 0 j l)) = _
  rw [V_kept m c main_arg2 (by decide)]
  congr 1
  funext a
  apply Fin.ext
  match a with
  | ⟨0, _⟩ => show win0_2.index t (0 : Fin 3) * 1 + 1 * 0 = t.val / 128; omega
  | ⟨1, _⟩ => show win0_2.index t (1 : Fin 3) * 8192 + 1 * j.val = j.val; omega
  | ⟨2, _⟩ => show win0_2.index t (2 : Fin 3) * 128 + 1 * l.val = 128 * (t.val / 32 % 4) + l.val; omega

theorem blk3 (t : Fin (cfg0 (F := Ideal)).N) (j : Fin 128) (hj : j.val < 16) (l : Fin 128) : iblk m c 3 t (ix2 j l)
    = m ((c : Thread nD τ).loc main_arg3) (ix2 (⟨j.val, hj⟩ : Fin 16) (⟨128 * (t.val / 32 % 4) + l.val, by omega⟩ : Fin 512)) := by
  obtain ⟨e0, e1⟩ := index3 t
  refine Eq.trans ?_ (V_km m c j hj _)
  show V m c main_v0 (((cfg0.win 3).blk t).view.emb (ix2 j l)) = _
  congr 1
  funext a
  apply Fin.ext
  match a with
  | ⟨0, _⟩ => show win0_3.index t (0 : Fin 2) * 128 + 1 * j.val = j.val; omega
  | ⟨1, _⟩ => show win0_3.index t (1 : Fin 2) * 128 + 1 * l.val = 128 * (t.val / 32 % 4) + l.val; omega

theorem blk4 (t : Fin (cfg0 (F := Ideal)).N) (j : Fin 128) (hj : j.val < 16) (l : Fin 128) : iblk m c 4 t (ix2 j l)
    = m ((c : Thread nD τ).loc main_arg4) (ix2 (⟨j.val, hj⟩ : Fin 16) (⟨128 * (t.val / 32 % 4) + l.val, by omega⟩ : Fin 512)) := by
  obtain ⟨e0, e1⟩ := index4 t
  refine Eq.trans ?_ (V_vm m c j hj _)
  show V m c main_v1 (((cfg0.win 4).blk t).view.emb (ix2 j l)) = _
  congr 1
  funext a
  apply Fin.ext
  match a with
  | ⟨0, _⟩ => show win0_4.index t (0 : Fin 2) * 128 + 1 * j.val = j.val; omega
  | ⟨1, _⟩ => show win0_4.index t (1 : Fin 2) * 128 + 1 * l.val = 128 * (t.val / 32 % 4) + l.val; omega

theorem blk5 (t : Fin (cfg0 (F := Ideal)).N) (k l : Fin 256) : iblk m c 5 t (ix2 k l) = if l.val < k.val then (1 : EReal) else (0 : EReal) := by
  obtain ⟨e0, e1⟩ := index5 t
  refine Eq.trans ?_ (V_tri m c k l)
  show V m c main_v5 (((cfg0.win 5).blk t).view.emb (ix2 k l)) = _
  congr 1
  funext a
  apply Fin.ext
  match a with
  | ⟨0, _⟩ => show win0_5.index t (0 : Fin 2) * 256 + 1 * k.val = k.val; omega
  | ⟨1, _⟩ => show win0_5.index t (1 : Fin 2) * 256 + 1 * l.val = l.val; omega

theorem emb6 (t : Fin (cfg0 (F := Ideal)).N) (r : Fin 256) (l : Fin 128) : (((cfg0 (F := Ideal)).win 6).blk t).view.emb (ix3 0 r l)
    = (ix3 (⟨t.val / 128, by have := lt_N t; omega⟩ : Fin 8)
        (⟨256 * (t.val % 32) + r.val, by omega⟩ : Fin 8192) (⟨128 * (t.val / 32 % 4) + l.val, by omega⟩ : Fin 512) : S8x8192x512.Idx) := by
  obtain ⟨e0, e1, e2⟩ := index6 t
  funext a
  apply Fin.ext
  match a with
  | ⟨0, _⟩ => show win0_6.index t (0 : Fin 3) * 1 + 1 * 0 = t.val / 128; omega
  | ⟨1, _⟩ => show win0_6.index t (1 : Fin 3) * 256 + 1 * r.val = 256 * (t.val % 32) + r.val; omega
  | ⟨2, _⟩ => show win0_6.index t (2 : Fin 3) * 128 + 1 * l.val = 128 * (t.val / 32 % 4) + l.val; omega

/-- Every index of the result is in some point's block. -/
theorem covered (x : S8x8192x512.Idx) : ∃ t : Fin (cfg0 (F := Ideal)).N, (cfg0.win 6).flush t = true ∧ x ∈ ((cfg0.win 6).blk t).view.set := by
  have h0 : (x 0).val < 8 := (x 0).isLt
  have h1 : (x 1).val < 8192 := (x 1).isLt
  have h2 : (x 2).val < 512 := (x 2).isLt
  let t : Fin (cfg0 (F := Ideal)).N := ⟨(x 0).val * 128 + (x 2).val / 128 * 32 + (x 1).val / 256, by show _ < 1024; omega⟩
  refine ⟨t, flush0_6 t, ?_⟩
  have h := (((cfg0 (F := Ideal)).win 6).blk t).view.emb_mem_set (ix3 0 (⟨(x 1).val % 256, by omega⟩ : Fin 256) (⟨(x 2).val % 128, by omega⟩ : Fin 128))
  rw [emb6] at h
  refine (congrArg (· ∈ ((cfg0.win 6).blk t).view.set) (?_ : x = _)).mpr h
  funext a
  apply Fin.ext
  match a with
  | ⟨0, _⟩ => show (x 0).val = ((x 0).val * 128 + (x 2).val / 128 * 32 + (x 1).val / 256) / 128; omega
  | ⟨1, _⟩ => show (x 1).val = 256 * (((x 0).val * 128 + (x 2).val / 128 * 32 + (x 1).val / 256) % 32) + (x 1).val % 256; omega
  | ⟨2, _⟩ => show (x 2).val = 128 * (((x 0).val * 128 + (x 2).val / 128 * 32 + (x 1).val / 256) / 32 % 4) + (x 2).val % 128; omega

/-! ## The result -/

abbrev q₀ : Cert.Layer.Seq := m ((c : Thread nD τ).loc main_arg0)
abbrev k₀ : Cert.Layer.Seq := m ((c : Thread nD τ).loc main_arg1)
abbrev v₀ : Cert.Layer.Seq := m ((c : Thread nD τ).loc main_arg2)
abbrev km₀ : Cert.Layer.Met := m ((c : Thread nD τ).loc main_arg3)
abbrev vm₀ : Cert.Layer.Met := m ((c : Thread nD τ).loc main_arg4)

theorem z0_eq (f g : Fin 128 → EReal) : z0 f g = ∑ e : Fin 64, f ⟨e.val, by omega⟩ * g ⟨e.val, by omega⟩ := by
  have h := Fin.sum_univ_add (a := 64) (b := 64) (fun y : Fin 128 => if y.val < 64 then f y * g y else 0)
  refine h.trans ?_
  rw [Finset.sum_congr rfl fun e _ => if_pos e.isLt, Finset.sum_eq_zero fun (e : Fin 64) _ => if_neg (by show ¬64 + e.val < 64; omega), add_zero]
  rfl

theorem z1_eq (f g : Fin 128 → EReal) : z1 f g = ∑ e : Fin 64, f ⟨64 + e.val, by omega⟩ * g ⟨64 + e.val, by omega⟩ := by
  have h := Fin.sum_univ_add (a := 64) (b := 64) (fun y : Fin 128 => if y.val < 64 then 0 else f y * g y)
  refine h.trans ?_
  rw [Finset.sum_eq_zero fun (e : Fin 64) _ => if_pos (by show e.val < 64; omega),
    Finset.sum_congr rfl fun (e : Fin 64) _ => if_neg (by show ¬64 + e.val < 64; omega), zero_add]
  rfl

/-- The batch element of a grid point, and its head pair's channel. -/
abbrev bOf (t : Fin (cfg0 (F := Ideal)).N) : Fin 8 := ⟨t.val / 128, by have := lt_N t; omega⟩
abbrev chOf (t : Fin (cfg0 (F := Ideal)).N) (l : Fin 128) : Fin 512 := ⟨128 * (t.val / 32 % 4) + l.val, by omega⟩
abbrev nOf (t : Fin (cfg0 (F := Ideal)).N) (r : Fin 256) : Fin 8192 := ⟨256 * (t.val % 32) + r.val, by omega⟩

theorem rows_k (t : Fin (cfg0 (F := Ideal)).N) (j : ℕ) (y : Fin 128) :
    rows (iblk m c 3 t) (iblk m c 1 t) j y = Cert.Layer.key (km₀ m c) (k₀ m c) (bOf t) j (chOf t y) := by
  unfold rows Cert.Layer.key
  split
  · rename_i h; exact blk3 m c t ⟨j, by omega⟩ h y
  · split
    · exact blk1 m c t _ y
    · rfl

theorem rows_v (t : Fin (cfg0 (F := Ideal)).N) (j : ℕ) (y : Fin 128) :
    rows (iblk m c 4 t) (iblk m c 2 t) j y = Cert.Layer.key (vm₀ m c) (v₀ m c) (bOf t) j (chOf t y) := by
  unfold rows Cert.Layer.key
  split
  · rename_i h; exact blk4 m c t ⟨j, by omega⟩ h y
  · split
    · exact blk2 m c t _ y
    · rfl

/-- What a point stores, at a row and a channel, is the attention there. -/
theorem out_attn (t : Fin (cfg0 (F := Ideal)).N) (r : Fin 256) (l : Fin 128) (h : Fin 8) (d : Fin 64)
    (hd : 128 * (t.val / 32 % 4) + l.val = h.val * 64 + d.val) :
    outAt m c t (ix3 0 r l) = Cert.Layer.attn (q₀ m c) (k₀ m c) (v₀ m c) (km₀ m c) (vm₀ m c) (bOf t) h (nOf t r) d := by
  have hN : 16 + 256 * (t.val % 32) + r.val = 16 + (nOf t r).val := by show _ = 16 + (256 * (t.val % 32) + r.val); omega
  unfold outAt
  rw [coords_at t, out_at _ _ _ _ _ _ _ (blk5 m c t) (by omega), hN]
  have hU : (fun j => rows (iblk m c 4 t) (iblk m c 2 t) j l) = fun j => Cert.Layer.key (vm₀ m c) (v₀ m c) (bOf t) j (Cert.Layer.chan h d) := by
    funext j
    rw [rows_v]
    exact congrArg _ (Fin.ext hd)
  unfold Cert.Layer.attn
  rw [hU]
  split
  · have hZ : Z0 (iblk m c 0 t) (iblk m c 1 t) (iblk m c 3 t) r = Cert.Layer.logit (q₀ m c) (k₀ m c) (km₀ m c) (bOf t) h (nOf t r) := by
      funext j
      unfold Z0 Cert.Layer.logit
      rw [z0_eq]
      refine Finset.sum_congr rfl fun e _ => ?_
      have hc : chOf t ⟨e.val, by omega⟩ = Cert.Layer.chan h e := Fin.ext (by show 128 * (t.val / 32 % 4) + e.val = h.val * 64 + e.val; omega)
      rw [blk0, rows_k, hc]
      exact congrArg (fun x => q₀ m c (ix3 (bOf t) (nOf t r) x) * _) hc
    rw [hZ]
  · have hZ : Z1 (iblk m c 0 t) (iblk m c 1 t) (iblk m c 3 t) r = Cert.Layer.logit (q₀ m c) (k₀ m c) (km₀ m c) (bOf t) h (nOf t r) := by
      funext j
      unfold Z1 Cert.Layer.logit
      rw [z1_eq]
      refine Finset.sum_congr rfl fun e _ => ?_
      have hc : chOf t ⟨64 + e.val, by omega⟩ = Cert.Layer.chan h e := Fin.ext (by show 128 * (t.val / 32 % 4) + (64 + e.val) = h.val * 64 + e.val; omega)
      rw [blk0, rows_k, hc]
      exact congrArg (fun x => q₀ m c (ix3 (bOf t) (nOf t r) x) * _) hc
    rw [hZ]

theorem out_arr (t : Fin (cfg0 (F := Ideal)).N) (y : S1x256x128.Idx) :
    outAt m c t y = Cert.Layer.attnArr (q₀ m c) (k₀ m c) (v₀ m c) (km₀ m c) (vm₀ m c) ((((cfg0 (F := Ideal)).win 6).blk t).view.emb y) := by
  obtain ⟨r, l, rfl⟩ : ∃ (r : Fin 256) (l : Fin 128), y = ix3 0 r l := ⟨y 1, y 2, by
    funext a
    match a with
    | ⟨0, _⟩ => exact Subsingleton.elim (α := Fin 1) _ _
    | ⟨1, _⟩ => rfl
    | ⟨2, _⟩ => rfl⟩
  rw [emb6]
  exact out_attn m c t r l _ _ (by
    show 128 * (t.val / 32 % 4) + l.val = (128 * (t.val / 32 % 4) + l.val) / 64 * 64 + (128 * (t.val / 32 % 4) + l.val) % 64
    omega)

/-- The result array after the run. -/
theorem arr_eq : (dats m 0 c).arrAt 6 (cfg0 (F := Ideal)).N = Cert.Layer.attnArr (q₀ m c) (k₀ m c) (v₀ m c) (km₀ m c) (vm₀ m c) := by
  refine (dats m 0 c).arrAt_eq_of_cover 6 (Cert.Layer.attnArr (q₀ m c) (k₀ m c) (v₀ m c) (km₀ m c) (vm₀ m c)) (fun t _ => ?_) covered
  funext y
  show (dats m 0 c).after 6 t y = _
  rw [after_out]
  exact out_arr m c t y

end Cert.Proof.AttnIdeal

end
-- ==== Proof.Shapes.lean ====
/-
  Two host operations read at an index, for any number of rows: a channel axis cut into heads, and the sum over a row's
  later positions.
-/
module

public import Idealize.ShloMosaic.Lib.Pointwise
public import Idealize.ShloMosaic.Lib.Pipeline.Value

@[expose] public section

noncomputable section

namespace Cert.Shapes

open Idealize.ShloMosaic Idealize.ShloMosaic.Pointwise

/-- Channels cut into heads, the head axis moved ahead of the rows: channel `64 h + d` of a row is head `h`'s channel `d`. -/
theorem heads_at {L : ℕ} {α : Type} (x : (⟨3, ![8, L, 512]⟩ : Shape).Idx → α)
    (hc : (⟨3, ![8, L, 512]⟩ : Shape).ShapeCasts ⟨4, ![8, L, 8, 64]⟩)
    (ht : (⟨4, ![8, L, 8, 64]⟩ : Shape).Transposes [0, 2, 1, 3] ⟨4, ![8, 8, L, 64]⟩)
    (b h : Fin 8) (j : Fin L) (d : Fin 64) :
    transpose ⟨4, ![8, 8, L, 64]⟩ [0, 2, 1, 3] (shapeCast ⟨4, ![8, L, 8, 64]⟩ x hc) ht (ix4 b h j d)
      = x (ix3 b j ⟨h.val * 64 + d.val, by omega⟩) := by
  refine (transpose_apply _ _ ht _ (ix4 b j h d) ?_).trans (shapeCast_apply _ hc _ _ ?_)
  · intro a
    fin_cases a <;> rfl
  · rw [rowMajor_val3 _ (L * 512) 512 rfl rfl, rowMajor_val4 _ (L * 512) 512 64 rfl rfl rfl]
    show b.val * (L * 512) + j.val * 512 + (h.val * 64 + d.val) = b.val * (L * 512) + j.val * 512 + h.val * 64 + d.val
    omega

/-- A left fold of additions is the starting value and the sum. -/
theorem foldl_add {α : Type} (g : α → EReal) (l : List α) (v : EReal) : l.foldl (fun r a => r + g a) v = v + (l.map g).sum := by
  induction l generalizing v with
  | nil => simp
  | cons a l ih => simp only [List.foldl_cons, ih, List.map_cons, List.sum_cons, add_assoc]

/-- The positions of a window along the last axis, one per distance. -/
def pos (L : ℕ) : Fin L ≃ (⟨4, ![1, 1, 1, L]⟩ : Shape).Idx where
  toFun k := ix4 0 0 0 k
  invFun w := w 3
  left_inv k := rfl
  right_inv w := by
    funext a
    fin_cases a
    · exact Subsingleton.elim (α := Fin 1) _ _
    · exact Subsingleton.elim (α := Fin 1) _ _
    · exact Subsingleton.elim (α := Fin 1) _ _
    · rfl

/-- The reversed cumulative sum, as a window sum with the padding on the high side. -/
theorem later_sum {A B C L H : ℕ} (x : (⟨4, ![A, B, C, L]⟩ : Shape).Idx → EReal)
    (h : (⟨4, ![A, B, C, L]⟩ : Shape).ReduceWindows ![1, 1, 1, L] ![1, 1, 1, 1] ![0, 0, 0, 0] ![0, 0, 0, H] ⟨4, ![A, B, C, L]⟩)
    (v : EReal) (hv : v = 0) (a : Fin A) (b : Fin B) (c : Fin C) (j : Fin L) :
    Ideal.hostReduceWindowAdd (s := ⟨4, ![A, B, C, L]⟩) (t := ⟨4, ![A, B, C, L]⟩) ![1, 1, 1, L] ![1, 1, 1, 1] ![0, 0, 0, 0] ![0, 0, 0, H] h x v (ix4 a b c j)
      = ∑ k : Fin L, if hk : j.val + k.val < L then x (ix4 a b c ⟨j.val + k.val, hk⟩) else 0 := by
  subst hv
  unfold Ideal.hostReduceWindowAdd Host.reduceWindow
  dsimp only
  rw [foldl_add, zero_add, ← Fin.sum_univ_def]
  rw [← Equiv.sum_comp ((pos L).trans (Shape.rowMajor (⟨4, ![1, 1, 1, L]⟩ : Shape)))]
  refine Finset.sum_congr rfl fun k _ => ?_
  have hw : (Shape.rowMajor (⟨4, ![1, 1, 1, L]⟩ : Shape)).symm (((pos L).trans (Shape.rowMajor (⟨4, ![1, 1, 1, L]⟩ : Shape))) k) = ix4 0 0 0 k :=
    Equiv.symm_apply_apply _ _
  by_cases hk : j.val + k.val < L
  · rw [dif_pos hk, dif_pos (by
      intro e
      rw [hw]
      fin_cases e
      · exact ⟨Nat.zero_le _, by show a.val * 1 + 0 - 0 < A; have := a.isLt; omega⟩
      · exact ⟨Nat.zero_le _, by show b.val * 1 + 0 - 0 < B; have := b.isLt; omega⟩
      · exact ⟨Nat.zero_le _, by show c.val * 1 + 0 - 0 < C; have := c.isLt; omega⟩
      · exact ⟨Nat.zero_le _, by show j.val * 1 + k.val - 0 < L; omega⟩)]
    congr 1
    funext e
    refine Fin.ext ?_
    dsimp only
    rw [hw]
    fin_cases e
    · show a.val * 1 + 0 - 0 = a.val; omega
    · show b.val * 1 + 0 - 0 = b.val; omega
    · show c.val * 1 + 0 - 0 = c.val; omega
    · show j.val * 1 + k.val - 0 = j.val + k.val; omega
  · rw [dif_neg hk, dif_neg (fun hin => hk (by
      have h3 := (hin 3).2
      rw [hw] at h3
      have h4 : j.val * 1 + k.val - 0 < L := h3
      omega))]

/-- The same, as the host writes it: the initial value is a rank-zero array that holds zero. -/
theorem later_sum_host {A B C L H : ℕ} {u : Shape} (x : FVec Ideal ⟨4, ![A, B, C, L]⟩ .f32) (init : FVec Ideal u .f32)
    (h : (⟨4, ![A, B, C, L]⟩ : Shape).ReduceWindows ![1, 1, 1, L] ![1, 1, 1, 1] ![0, 0, 0, 0] ![0, 0, 0, H] ⟨4, ![A, B, C, L]⟩)
    (hu : 0 < u.numel) (hv : (init (Shape.Idx.first hu) : EReal) = 0) (a : Fin A) (b : Fin B) (c : Fin C) (j : Fin L) :
    (Host.reduceWindowAdd ![1, 1, 1, L] ![1, 1, 1, 1] ![0, 0, 0, 0] ![0, 0, 0, H] x init h hu (ix4 a b c j) : EReal)
      = ∑ k : Fin L, if hk : j.val + k.val < L then (x (ix4 a b c ⟨j.val + k.val, hk⟩) : EReal) else 0 :=
  later_sum x h _ hv a b c j

end Cert.Shapes

end
-- ==== Proof.AttnRefIdeal.Value.lean ====
/-
  The attention reference's result read at an index: a sum over the keys, the sixteen meta keys first.
-/
module

public import proofs.«01_k».proof.Proof.Gen.AttnRefIdeal.Run
public import Idealize.ShloMosaic.Lib.Pointwise
public import proofs.«01_k».proof.Proof.Shapes

@[expose] public section

set_option maxRecDepth 16384

noncomputable section

namespace Cert.Proof.AttnRefIdeal

open Idealize.ShloMosaic Idealize.ShloMosaic.Pointwise
open Cert.AttnRefIdeal Cert.AttnRefIdeal.Gen Cert.AttnRefIdeal.Value

abbrev Seq := Vec Ideal S8x8192x512 .bf16
abbrev Met := Vec Ideal S16x512 .bf16
abbrev Log := FVec Ideal S8x8x8192x8208 .f32

/-! ## The stages of the reference, named -/

def zero : FVec Ideal S_ .f32 := constant S_ .f32 0x00000000#32

/-- The queries by head. -/
def qh (q : Seq) : FVec Ideal S8x8x8192x64 .f32 :=
  transpose S8x8x8192x64 [0, 2, 1, 3] (shapeCast S8x8192x8x64 (extf .f32 q bitsLt_bf16_f32) shapeCasts_S8x8192x512_S8x8192x8x64)
    transposes_S8x8192x8x64_S8x8x8192x64_0_2_1_3

/-- The keys (or values), the meta rows in front. -/
def cat (km : Met) (k : Seq) : FVec Ideal S8x8208x512 .f32 :=
  concatenate S8x8208x512 1
    [⟨S8x16x512, extf .f32 (broadcastInDim S8x16x512 ![0, 1, 2] bcast_S1x16x512_S8x16x512_0_1_2
        (broadcastInDim S1x16x512 ![1, 2] bcast_S16x512_S1x16x512_1_2 km)) bitsLt_bf16_f32⟩,
      ⟨S8x8192x512, extf .f32 k bitsLt_bf16_f32⟩]
    concatenates_S8x16x512_S8x8192x512_S8x8208x512_d1

/-- The same by head. -/
def kh (km : Met) (k : Seq) : FVec Ideal S8x8x8208x64 .f32 :=
  transpose S8x8x8208x64 [0, 2, 1, 3]
    (shapeCast S8x8208x8x64 (cat km k) shapeCasts_S8x8208x512_S8x8208x8x64)
    transposes_S8x8208x8x64_S8x8x8208x64_0_2_1_3

/-- Which keys a query sees. -/
def valid : IVec S8192x8208 1 :=
  cmpi .slt
    (broadcastInDim S8192x8208 ![0, 1] bcast_S1x8208_S8192x8208_0_1 (broadcastInDim S1x8208 ![1] bcast_S8208_S1x8208_1 (iotaInDim S8208 32 0)))
    (broadcastInDim S8192x8208 ![0, 1] bcast_S8192x1_S8192x8208_0_1
      (broadcastInDim S8192x1 ![0] bcast_S8192_S8192x1_0
        (addi (broadcastInDim S8192 ![] bcast_S_S8192 (constantI S_ 32 16#32)) (iotaInDim S8192 32 0))))

def logit (q : FVec Ideal S8x8x8192x64 .f32) (k : FVec Ideal S8x8x8208x64 .f32) : Log :=
  Host.dotGeneral dot_S8x8x8192x64_S8x8x8208x64_S8x8x8192x8208_3_3_2_2_01_01 none q k

/-- `log_sigmoid`, as printed. -/
def lsig (x : Log) : Log :=
  let y : Log := Host.negf x
  let o : Log := broadcastInDim S8x8x8192x8208 ![] bcast_S_S8x8x8192x8208 zero
  Host.negf (select (cmpf .une (subf y o) (subf y o)) (addf y o)
    (addf (maximumf y o) (Host.log1p (Host.exp (Host.negf (Host.absf (subf y o)))))))

/-- `where valid x 0`. -/
def masked (x : Log) : Log :=
  select (broadcastInDim S8x8x8192x8208 ![2, 3] bcast_S8192x8208_S8x8x8192x8208_2_3 valid) x
    (broadcastInDim S8x8x8192x8208 ![] bcast_S_S8x8x8192x8208 (id zero))

/-- The sum over this key and the later ones. -/
def cums (x : Log) : Log :=
  Host.reduceWindowAdd ![1, 1, 1, 8208] ![1, 1, 1, 1] ![0, 0, 0, 0] ![0, 0, 0, 8207] x (broadcastInDim S_ ![] bcast_S_S_ zero)
    reduceWindows_S8x8x8192x8208_S8x8x8192x8208_w1s1p0_0_w1s1p0_0_w1s1p0_0_w8208s1p0_8207 h_S_

def stays (z : Log) : Log := masked (lsig (Host.negf z))

def weights (z : Log) : Log := masked (Host.exp (addf (lsig z) (subf (cums (stays z)) (stays z))))

def result (w : Log) (v : FVec Ideal S8x8x8208x64 .f32) : Seq :=
  truncf .bf16 (shapeCast S8x8192x512 (transpose S8x8192x8x64 [0, 2, 1, 3]
    (Host.dotGeneral dot_S8x8x8192x8208_S8x8x8208x64_S8x8x8192x64_3_2_2_3_01_01 none w v)
    transposes_S8x8x8192x64_S8x8192x8x64_0_2_1_3) shapeCasts_S8x8192x8x64_S8x8192x512) bitsLt_bf16_f32

set_option maxHeartbeats 1000000 in
theorem res_eq (m : (ℓ : Loc nD τ sig) → Buf (Elt Ideal) ℓ) (c : Dev nD) :
    res_main_v39 m c
      = result (weights (logit (qh (m ((c.tc : Thread nD τ).loc main_arg0))) (kh (m ((c.tc : Thread nD τ).loc main_arg3)) (m ((c.tc : Thread nD τ).loc main_arg1)))))
          (kh (m ((c.tc : Thread nD τ).loc main_arg4)) (m ((c.tc : Thread nD τ).loc main_arg2))) := by
  unfold res_main_v39
  rfl

/-! ## Read at an index -/

theorem qh_at (q : Seq) (b h : Fin 8) (n : Fin 8192) (d : Fin 64) :
    qh q (ix4 b h n d) = q (ix3 b n ⟨h.val * 64 + d.val, by omega⟩) := by
  exact Cert.Shapes.heads_at (L := 8192) _ _ _ b h n d

theorem cat_meta (km : Met) (k : Seq) (b : Fin 8) (j : Fin 8208) (y : Fin 512) (hj : j.val < 16) :
    cat km k (ix3 b j y) = km (ix2 ⟨j.val, hj⟩ y) := by
  unfold cat
  rw [concatenate_pair_apply]
  refine (dif_pos hj).trans ?_
  rw [Shape.Idx.norm_def]
  show km _ = km _
  congr 1
  funext a
  fin_cases a <;> rfl

theorem cat_seq (km : Met) (k : Seq) (b : Fin 8) (j : Fin 8208) (y : Fin 512) (hj : ¬j.val < 16) :
    cat km k (ix3 b j y) = k (ix3 b ⟨j.val - 16, by omega⟩ y) := by
  unfold cat
  rw [concatenate_pair_apply]
  refine (dif_neg hj).trans ?_
  rw [Shape.Idx.norm_def]
  show k _ = k _
  congr 1
  funext a
  fin_cases a <;> rfl

theorem kh_at (km : Met) (k : Seq) (b h : Fin 8) (j : Fin 8208) (d : Fin 64) :
    kh km k (ix4 b h j d) = cat km k (ix3 b j ⟨h.val * 64 + d.val, by omega⟩) := by
  exact Cert.Shapes.heads_at (L := 8208) _ _ _ b h j d

theorem logit_at (q : FVec Ideal S8x8x8192x64 .f32) (k : FVec Ideal S8x8x8208x64 .f32) (b h : Fin 8) (n : Fin 8192) (j : Fin 8208) :
    logit q k (ix4 b h n j) = ∑ d : Fin 64, q (ix4 b h n d) * k (ix4 b h j d) := by
  pointwise [logit]

/-- The softplus as the reference computes it. -/
def soft (x : EReal) : EReal := max x 0 + Ideal.log (1 + Ideal.exp (-(max x (-x))))

theorem lsig_at (x : Log) (b h : Fin 8) (n : Fin 8192) (j : Fin 8208) :
    lsig x (ix4 b h n j) = -soft (-(x (ix4 b h n j))) := by
  pointwise [lsig, zero]
  rw [if_neg (by simp)]
  rfl

theorem masked_at (x : Log) (b h : Fin 8) (n : Fin 8192) (j : Fin 8208) :
    masked x (ix4 b h n j) = if j.val < 16 + n.val then x (ix4 b h n j) else 0 := by
  pointwise [masked, valid, zero]
  have hz : (id (constant (F := Ideal) S_ FTy.f32 0#32) ix0 : EReal) = 0 := by
    show Ideal.ofBits .f32 0#32 = 0
    exact Ideal.ofBits_zero_f32
  rw [hz]
  have h1 : IntOp.cmpi CmpIPredicate.slt (BitVec.ofNat 32 j.val) (IntOp.addi (16#32) (BitVec.ofNat 32 n.val))
      = BitVec.ofBool (decide (j.val < 16 + n.val)) := by
    have hj := j.isLt
    have hn := n.isLt
    have e1 : (BitVec.ofNat 32 j.val).toInt = j.val := by
      rw [BitVec.toInt_ofNat']; exact Int.bmod_eq_of_le (by omega) (by omega)
    have e2 : (IntOp.addi (16#32) (BitVec.ofNat 32 n.val)).toInt = 16 + n.val := by
      show (BitVec.ofNat 32 16 + BitVec.ofNat 32 n.val).toInt = _
      rw [← BitVec.ofNat_add, BitVec.toInt_ofNat']; exact Int.bmod_eq_of_le (by omega) (by omega)
    show BitVec.ofBool (BitVec.slt _ _) = _
    rw [BitVec.slt_eq_decide, e1, e2]
    congr 1
    exact decide_eq_decide.mpr (by omega)
  rw [h1]
  by_cases hc : j.val < 16 + n.val
  · rw [if_pos hc, decide_eq_true hc]; rfl
  · rw [if_neg hc, decide_eq_false hc]; rfl

theorem result_at (w : Log) (v : FVec Ideal S8x8x8208x64 .f32) (b h : Fin 8) (n : Fin 8192) (d : Fin 64) :
    result w v (ix3 b n (⟨h.val * 64 + d.val, by omega⟩ : Fin 512)) = ∑ j : Fin 8208, w (ix4 b h n j) * v (ix4 b h j d) := by
  pointwise [result]

theorem cums_at (x : Log) (b h : Fin 8) (n : Fin 8192) (j : Fin 8208) :
    cums x (ix4 b h n j) = ∑ k : Fin 8208, if hk : j.val + k.val < 8208 then x (ix4 b h n ⟨j.val + k.val, hk⟩) else 0 := by
  have hz : (broadcastInDim S_ ![] bcast_S_S_ zero (Shape.Idx.first h_S_) : EReal) = 0 := Ideal.ofBits_zero_f32
  exact Cert.Shapes.later_sum_host (A := 8) (B := 8) (C := 8192) (L := 8208) (H := 8207) x _ _ h_S_ hz b h n j

end Cert.Proof.AttnRefIdeal

end
-- ==== Proof.AttnRefIdeal.Result.lean ====
/-
  The attention reference computes the attention: its cumulative sum less its own term is the sum over the later positions.
-/
module

public import proofs.«01_k».proof.Proof.AttnRefIdeal.Value
public import proofs.«01_k».proof.Proof.Layer

@[expose] public section

set_option maxRecDepth 16384

noncomputable section

namespace Cert.Proof.AttnRefIdeal

open Idealize.ShloMosaic Idealize.ShloMosaic.Pointwise
open Cert.AttnRefIdeal Cert.AttnRefIdeal.Gen Cert.AttnRefIdeal.Value Cert.Stick

theorem soft_eq (x : EReal) : soft x = stay x := by
  unfold soft stay
  rw [sub_eq_add_neg 0, zero_add]

theorem kh_key (km : Met) (k : Seq) (b h : Fin 8) (j : Fin 8208) (d : Fin 64) :
    kh km k (ix4 b h j d) = Cert.Layer.key km k b j.val (Cert.Layer.chan h d) := by
  rw [kh_at]
  unfold Cert.Layer.key
  by_cases hj : j.val < 16
  · rw [dif_pos hj]; exact cat_meta km k b j _ hj
  · rw [dif_neg hj, dif_pos (by omega)]; exact cat_seq km k b j _ hj

theorem logit_key (q k : Seq) (km : Met) (b h : Fin 8) (n : Fin 8192) (j : Fin 8208) :
    logit (qh q) (kh km k) (ix4 b h n j) = Cert.Layer.logit q k km b h n j.val := by
  rw [logit_at]
  refine Finset.sum_congr rfl fun e _ => ?_
  rw [qh_at, kh_key]
  rfl

section
variable (z : Log) (b h : Fin 8) (n : Fin 8192) (Z : ℕ → EReal) (hZ : ∀ j : Fin 8208, z (ix4 b h n j) = Z j.val)
include hZ

theorem stays_at (j : Fin 8208) : stays z (ix4 b h n j) = -(if j.val < 16 + n.val then stay (Z j.val) else 0) := by
  unfold stays
  rw [masked_at]
  split
  · rw [lsig_at]
    show -soft (- -(z (ix4 b h n j))) = _
    rw [neg_neg, soft_eq, hZ]
  · exact neg_zero.symm

theorem cums_stays (j : Fin 8208) (hj : j.val < 16 + n.val) :
    cums (stays z) (ix4 b h n j) = -(stay (Z j.val) + from' Z (16 + n.val) (j.val + 1)) := by
  rw [cums_at]
  have hn := n.isLt
  have e : ∀ k : Fin 8208, (if hk : j.val + k.val < 8208 then stays z (ix4 b h n ⟨j.val + k.val, hk⟩) else 0)
      = -(if k.val < 16 + n.val - j.val then stay (Z (j.val + k.val)) else 0) := fun k => by
    by_cases hk : j.val + k.val < 8208
    · rw [dif_pos hk, stays_at z b h n Z hZ]
      exact congrArg _ (if_congr (by show j.val + k.val < _ ↔ _; omega) rfl rfl)
    · rw [dif_neg hk, if_neg (by omega)]
      exact neg_zero.symm
  rw [Finset.sum_congr rfl fun k _ => e k, sum_neg _ _ fun k => by split; exact stay_nonneg _; exact le_rfl,
    sum_tile (fun i => stay (Z i)) j.val (16 + n.val - j.val) (by omega), show j.val + (16 + n.val - j.val) = 16 + n.val by omega,
    Finset.sum_eq_sum_Ico_succ_bot hj]
  rfl

theorem weights_at (j : Fin 8208) : weights z (ix4 b h n j) = if j.val < 16 + n.val then weight Z (16 + n.val) j.val else 0 := by
  unfold weights
  rw [masked_at]
  refine if_ctx_congr Iff.rfl (fun hj => ?_) fun _ => rfl
  show Ideal.exp (lsig z (ix4 b h n j) + (cums (stays z) (ix4 b h n j) - stays z (ix4 b h n j))) = _
  rw [lsig_at, cums_stays z b h n Z hZ j hj, stays_at z b h n Z hZ, if_pos hj, soft_eq, hZ]
  exact weight_ref _ _ (from'_nonneg _ _ _)

end

theorem result_attn (q k v : Seq) (km vm : Met) (b h : Fin 8) (n : Fin 8192) (d : Fin 64) :
    result (weights (logit (qh q) (kh km k))) (kh vm v) (ix3 b n (⟨h.val * 64 + d.val, by omega⟩ : Fin 512))
      = Cert.Layer.attn q k v km vm b h n d := by
  have hn := n.isLt
  rw [result_at]
  unfold Cert.Layer.attn part
  have e := sum_tile (T := 8208) (fun i => weight (Cert.Layer.logit q k km b h n) (16 + n.val) i * Cert.Layer.key vm v b i (Cert.Layer.chan h d))
    0 (16 + n.val) (by omega)
  rw [Nat.zero_add] at e
  rw [← e]
  refine Finset.sum_congr rfl fun j _ => ?_
  rw [weights_at _ _ _ _ (Cert.Layer.logit q k km b h n) (fun j => logit_key q k km b h n j), kh_key, Nat.zero_add, ite_mul, zero_mul]

/-- The reference's result is the attention. -/
theorem result_eq (q k v : Seq) (km vm : Met) :
    result (weights (logit (qh q) (kh km k))) (kh vm v) = Cert.Layer.attnArr q k v km vm := by
  funext x
  obtain ⟨b, n, y, rfl⟩ : ∃ (b : Fin 8) (n : Fin 8192) (y : Fin 512), x = ix3 b n y := ⟨x 0, x 1, x 2, by
    funext a
    match a with
    | ⟨0, _⟩ => rfl
    | ⟨1, _⟩ => rfl
    | ⟨2, _⟩ => rfl⟩
  obtain ⟨h, d, rfl⟩ : ∃ (h : Fin 8) (d : Fin 64), y = ⟨h.val * 64 + d.val, by omega⟩ :=
    ⟨⟨y.val / 64, by omega⟩, ⟨y.val % 64, by omega⟩,
      Fin.ext (by show y.val = y.val / 64 * 64 + y.val % 64; omega)⟩
  rw [result_attn]
  unfold Cert.Layer.attnArr
  show _ = Cert.Layer.attn q k v km vm b ⟨(h.val * 64 + d.val) / 64, _⟩ n ⟨(h.val * 64 + d.val) % 64, _⟩
  congr 1
  · exact Fin.ext (by show h.val = (h.val * 64 + d.val) / 64; omega)
  · exact Fin.ext (by show d.val = (h.val * 64 + d.val) % 64; omega)

end Cert.Proof.AttnRefIdeal

end
-- ==== Proof.AttnClaims.lean ====
/-
  The attention's claims: the three programs run and leave their arguments alone, the named constant stands for infinity, and
  the kernel's result is the reference's.
-/
module

public import proofs.«01_k».proof.Defs
public import proofs.«01_k».proof.Proof.Attn.Run
public import proofs.«01_k».proof.Proof.AttnIdeal.Blocks
public import proofs.«01_k».proof.Proof.AttnRefIdeal.Result

@[expose] public section

noncomputable section

namespace Cert.Proof.AttnClaims

open Idealize.ShloMosaic Idealize.ShloMosaic.TcCoe Idealize.SL.Sem

/-- The attention kernel runs, its arguments unchanged and its counters back at zero. -/
theorem frame_p : Cert.quiescent_Attn (hAttn := Cert.Attn.Gen.facts) := fun m g _ =>
  (θ_run _ _ _).mono (fun _ h => ⟨fun c => (Attn.final_of m h.1 c).2, h.2⟩) (Attn.run m g)

/-- So does its idealization. -/
theorem frame_pi : Cert.quiescent_AttnIdeal (hAttnIdeal := Cert.AttnIdeal.Gen.facts) := fun m g _ =>
  (θ_run _ _ _).mono (fun _ h => ⟨fun c => (AttnIdeal.final_of m h.1 c).2, h.2⟩) (AttnIdeal.run m g)

/-- So does the reference. -/
theorem frame_ri : Cert.quiescent_AttnRefIdeal (hAttnRefIdeal := Cert.AttnRefIdeal.Gen.facts) := fun m g _ =>
  (θ_run _ _ _).mono (fun r h => ⟨fun c => (h c).2, sem_eq_zero_of_no_sems (sig := Cert.AttnRefIdeal.sig) rfl r.2⟩) (Cert.AttnRefIdeal.Value.run m g)

/-- The loops' exit bound is read as infinity, wherever it stands. -/
theorem preserves : Cert.preserves_Attn_AttnIdeal :=
  ⟨rfl, fun _ => IdealRules.named_const.ideal_named _ _ _ _ rfl, IdealRules.named_const.ideal_named_scalar _ _ _ _ rfl⟩

/-- The reference's result, of its own arguments. -/
theorem ref_arr (m : (ℓ : Loc Cert.AttnRefIdeal.nD Cert.AttnRefIdeal.τ Cert.AttnRefIdeal.sig) → Buf (Elt Ideal) ℓ)
    (c : Dev Cert.AttnRefIdeal.nD) :
    Cert.AttnRefIdeal.Value.res_main_v39 m c
      = Cert.Layer.attnArr (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))
          (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))
          (m ((c.tc : Thread Cert.AttnRefIdeal.nD Cert.AttnRefIdeal.τ).loc Cert.AttnRefIdeal.main_arg4)) :=
  (AttnRefIdeal.res_eq m c).trans (AttnRefIdeal.result_eq _ _ _ _ _)

/-- At exact reals both end with the attention of the arguments. -/
theorem algebraic : Cert.algebraic_AttnIdeal_AttnRefIdeal (hAttnIdeal := Cert.AttnIdeal.Gen.facts)
    (hAttnRefIdeal := Cert.AttnRefIdeal.Gen.facts) := fun m g m' g' _ e => by
  refine ⟨fun c => Cert.Layer.attnArr (AttnIdeal.q₀ m c) (AttnIdeal.k₀ m c) (AttnIdeal.v₀ m c) (AttnIdeal.km₀ m c) (AttnIdeal.vm₀ m c),
    (θ_run _ _ _).mono (fun _ h c => ?_) (AttnIdeal.run m g), (θ_run _ _ _).mono (fun _ h c => ?_) (Cert.AttnRefIdeal.Value.run m' g')⟩
  · have f := AttnIdeal.final_of m h.1 c
    exact ⟨f.1.trans (AttnIdeal.arr_eq m c), f.2⟩
  · refine ⟨(h c).1.trans ((ref_arr m' c).trans ?_), (h c).2⟩
    obtain ⟨e0, e1, e2, e3, e4⟩ := e c
    rw [e0, e1, e2, e3, e4]

end Cert.Proof.AttnClaims

end
-- ==== Proof.Experts.lean ====
/-
  The experts and the last norm as one function of the arrays: what both programs are shown to compute.
-/
module

public import Idealize.ShloMosaic.Lib.Pointwise
public import Mathlib.Data.EReal.Operations

@[expose] public section

noncomputable section

namespace Cert.Experts

open Idealize.ShloMosaic Idealize.ShloMosaic.Pointwise

abbrev Mat (n k : ℕ) : Type := (⟨2, ![n, k]⟩ : Shape).Idx → EReal
abbrev Stack (e n k : ℕ) : Type := (⟨3, ![e, n, k]⟩ : Shape).Idx → EReal

/-- `a * sigmoid a`. -/
def silu (a : EReal) : EReal := a * Ideal.div 1 (1 + Ideal.exp (-a))

/-- One of an expert's 512 hidden units, at a token `x`: `g` and `u` are the unit's gate and up columns. -/
def unit (x g u : Fin 1024 → EReal) : EReal := silu (∑ i, x i * g i) * ∑ i, x i * u i

/-- Expert `e`'s hidden unit `f` at token `t`. -/
def hid (x : Mat 65536 1024) (g u : Stack 16 1024 512) (t : Fin 65536) (e : Fin 16) (f : Fin 512) : EReal :=
  unit (fun i => x (ix2 t i)) (fun i => g (ix3 e i f)) (fun i => u (ix3 e i f))

/-- Expert `e`'s answer at token `t`, channel `d`. -/
def answer (x : Mat 65536 1024) (g u : Stack 16 1024 512) (w : Stack 16 512 1024) (t : Fin 65536) (e : Fin 16) (d : Fin 1024) : EReal :=
  ∑ f : Fin 512, hid x g u t e f * w (ix3 e f d)

/-- The weight a token gives an expert: the first sixteen of the 128 lanes. -/
def share (b : Mat 65536 128) (t : Fin 65536) (e : Fin 16) : EReal := b (ix2 t ⟨e.val, by omega⟩)

/-- The residual and the weighed answers. -/
def mixed (x : Mat 65536 1024) (h : Mat 65536 1024) (b : Mat 65536 128) (g u : Stack 16 1024 512) (w : Stack 16 512 1024)
    (t : Fin 65536) (d : Fin 1024) : EReal :=
  h (ix2 t d) + ∑ e : Fin 16, share b t e * answer x g u w t e d

/-- The norm of a row `y` at channel `d`, of gain `s`. -/
def norm (y : Fin 1024 → EReal) (s : EReal) (d : Fin 1024) : EReal :=
  y d * Ideal.rsqrt (Ideal.div (∑ k, y k * y k) (Ideal.ofBits .f32 0x44800000#32) + Ideal.ofBits .f32 0x358637BD#32) * s

/-- The result array. -/
def outArr (x : Mat 65536 1024) (h : Mat 65536 1024) (b : Mat 65536 128) (g u : Stack 16 1024 512) (w : Stack 16 512 1024)
    (n : (⟨1, ![1024]⟩ : Shape).Idx → EReal) : Mat 65536 1024 := fun y =>
  norm (mixed x h b g u w (y 0)) (n (ix1 (y 1))) (y 1)

/-- A finite nonnegative weight may be taken inside a sum. -/
theorem weigh_sum {ι : Type} (s : Finset ι) (a : EReal) (h0 : 0 ≤ a) (h1 : a ≠ ⊤) (f : ι → EReal) : a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 h1, ih]

/-- An expert's weighed answer, its hidden units weighed instead. -/
theorem weigh_answer (x : Mat 65536 1024) (b : Mat 65536 128) (g u : Stack 16 1024 512) (w : Stack 16 512 1024) (t : Fin 65536) (e : Fin 16)
    (d : Fin 1024) (h0 : 0 ≤ share b t e) (h1 : share b t e ≠ ⊤) :
    ∑ f : Fin 512, hid x g u t e f * share b t e * w (ix3 e f d) = share b t e * answer x g u w t e d := by
  unfold answer
  rw [weigh_sum _ _ h0 h1]
  exact Finset.sum_congr rfl fun f _ => by rw [mul_comm (hid x g u t e f), mul_assoc]

end Cert.Experts

end
-- ==== Proof.MoeIdeal.Step.lean ====
/-
  What one grid point of the experts' kernel leaves in the scratch and in the output, over the blocks it reads.
-/
module

public import proofs.«01_k».proof.Proof.Gen.MoeIdeal.Value
public import proofs.«01_k».proof.Proof.Experts
public import Idealize.ShloMosaic.Lib.Pointwise
public import Idealize.ShloMosaic.Lib.Tactic

@[expose] public section

set_option maxRecDepth 16384

noncomputable section

namespace Cert.Proof.MoeIdeal

open Idealize.ShloMosaic Idealize.ShloMosaic.TcCoe Idealize.ShloMosaic.Pointwise
open Cert.MoeIdeal Cert.MoeIdeal.Gen

theorem off2 : (![0, 0] : Fin 2 → ℕ) = fun _ => 0 := funext fun a => by fin_cases a <;> rfl
theorem off3 : (![0, 0, 0] : Fin 3 → ℕ) = fun _ => 0 := funext fun a => by fin_cases a <;> rfl

section
variable (c : Dev nD) (i : grid0.Coords) (a2 : Memref sig .tc .vmem S1024x1024 .bf16) (h2 : a2.IsWhole) (a3 : Memref sig .tc .vmem S1024x1024 .f32) (h3 : a3.IsWhole)
  (a4 : Memref sig .tc .vmem S1024x128 .f32) (h4 : a4.IsWhole) (a5 : Memref sig .tc .vmem S1x1024x1024 .bf16) (h5 : a5.IsWhole)
  (a6 : Memref sig .tc .vmem S1x512x1024 .bf16) (h6 : a6.IsWhole) (a7 : Memref sig .tc .vmem S1x1024 .f32) (h7 : a7.IsWhole)
  (a8 : Memref sig .tc .vmem S1024x1024 .f32) (h8 : a8.IsWhole) (a9 : Memref sig .tc .vmem S1024x1024 .f32) (h9 : a9.IsWhole)
  (x0 : Vec Ideal S1024x1024 .bf16) (x1 : Vec Ideal S1024x1024 .f32) (x2 : Vec Ideal S1024x128 .f32) (x3 : Vec Ideal S1x1024x1024 .bf16)
  (x4 : Vec Ideal S1x512x1024 .bf16) (x5 : Vec Ideal S1x1024 .f32) (s : Vec Ideal S1024x1024 .f32)

/-- A middle expert adds to what the scratch held. -/
theorem scratch_B (hc0 : ¬cond0_0 i) (hc1 : ¬cond0_1 i) :
    sout0_B_0 c i a2 h2 a3 h3 a4 h4 a5 h5 a6 h6 a7 h7 a8 h8 a9 h9 hc0 hc1 x0 x1 x2 x3 x4 x5 s = k0_pay1 (k0_pay4 i x0 x3 x2 s x4) := by
  unfold sout0_B_0
  rw [View.read_writes_eq_canon _ _ _ (scover0_B_0 c i a2 h2 a3 h3 a4 h4 a5 h5 a6 h6 a7 h7 a8 h8 a9 h9 hc0 hc1 x0 x1 x2 x3 x4 x5 s)]
  unfold kernelRun0_B
  dsimp only
  sl_unfold_words
  rw [View.canon_unit_zero (S := S1024x1024) off2]
  simp only [View.readAt_eq_ld, h2.read_unread, h4.read_unread, h5.read_unread, h6.read_unread, h9.read_unread,
    View.ld_unit_zero (S := S1024x1024) off2, View.ld_unit_zero (S := S1024x128) off2, View.ld_unit_zero (S := S1x1024x1024) off3,
    View.ld_unit_zero (S := S1x512x1024) off3]

/-- The first expert adds to zero. -/
theorem scratch_A (hc0 : cond0_0 i) (hc1 : ¬cond0_1 i) :
    sout0_A_0 c i a2 h2 a3 h3 a4 h4 a5 h5 a6 h6 a7 h7 a8 h8 a9 h9 hc0 hc1 x0 x1 x2 x3 x4 x5 = k0_pay1 (k0_pay4 i x0 x3 x2 (k0_pay3 (F := Ideal)) x4) := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S1024x1024) off2]
  simp only [View.readAt_eq_ld, h2.read_unread, h4.read_unread, h5.read_unread, h6.read_unread, h9.read_unread,
    View.ld_unit_zero (S := S1024x1024) off2, View.ld_unit_zero (S := S1024x128) off2, View.ld_unit_zero (S := S1x1024x1024) off3,
    View.ld_unit_zero (S := S1x512x1024) off3, View.ld_unit_zero (S := S1x1024) off2, View.readCov_unit_zero (S := S1024x1024) _ off2]

/-- So does the last. -/
theorem scratch_C (hc0 : ¬cond0_0 i) (hc1 : cond0_1 i) :
    sout0_C_0 c i a2 h2 a3 h3 a4 h4 a5 h5 a6 h6 a7 h7 a8 h8 a9 h9 hc0 hc1 x0 x1 x2 x3 x4 x5 s = k0_pay1 (k0_pay4 i x0 x3 x2 s x4) := by
  unfold sout0_C_0
  rw [View.read_writes_eq_canon _ _ _ (scover0_C_0 c i a2 h2 a3 h3 a4 h4 a5 h5 a6 h6 a7 h7 a8 h8 a9 h9 hc0 hc1 x0 x1 x2 x3 x4 x5 s)]
  unfold kernelRun0_C
  dsimp only
  sl_unfold_words
  rw [View.canon_unit_zero (S := S1024x1024) off2]
  simp only [View.readAt_eq_ld, h2.read_unread, h4.read_unread, h5.read_unread, h6.read_unread, h9.read_unread,
    View.ld_unit_zero (S := S1024x1024) off2, View.ld_unit_zero (S := S1024x128) off2, View.ld_unit_zero (S := S1x1024x1024) off3,
    View.ld_unit_zero (S := S1x512x1024) off3]

/-- The last expert's point stores the normed sum. -/
theorem out_C (hc0 : ¬cond0_0 i) (hc1 : cond0_1 i) :
    out0_C_6 c i a2 h2 a3 h3 a4 h4 a5 h5 a6 h6 a7 h7 a8 h8 a9 h9 hc0 hc1 x0 x1 x2 x3 x4 x5 s
      = k0_pay2 x1 (k0_pay1 (k0_pay4 i x0 x3 x2 s x4)) x5 := by
  unfold out0_C_6
  rw [View.read_writes_eq_canon _ _ _ (cover0_C_6 c i a2 h2 a3 h3 a4 h4 a5 h5 a6 h6 a7 h7 a8 h8 a9 h9 hc0 hc1 x0 x1 x2 x3 x4 x5 s)]
  unfold kernelRun0_C
  dsimp only
  sl_unfold_words
  rw [View.canon_unit_zero (S := S1024x1024) off2]
  simp only [View.readAt_eq_ld, h2.read_unread, h3.read_unread, h4.read_unread, h5.read_unread, h6.read_unread, h7.read_unread, h9.read_unread,
    View.ld_unit_zero (S := S1024x1024) off2, View.ld_unit_zero (S := S1024x128) off2, View.ld_unit_zero (S := S1x1024x1024) off3,
    View.ld_unit_zero (S := S1x512x1024) off3, View.ld_unit_zero (S := S1x1024) off2, View.readCov_unit_zero (S := S1024x1024) _ off2]

end

end Cert.Proof.MoeIdeal

end
-- ==== Proof.MoeIdeal.Tile.lean ====
/-
  The experts' kernel's stores read at an index, over the extended reals.
-/
module

public import proofs.«01_k».proof.Proof.Gen.MoeIdeal.Skeleton
public import proofs.«01_k».proof.Proof.Experts

@[expose] public section

set_option maxRecDepth 16384

noncomputable section

namespace Cert.Proof.MoeIdeal

open Idealize.ShloMosaic Idealize.ShloMosaic.Pointwise Cert.MoeIdeal Cert.MoeIdeal.Gen Cert.Experts

/-- A selection by the equality of two small numbers. -/
theorem sel_eq {α : Type} (x m : ℕ) (a b : α) (hx : x < 2 ^ 32) (hm : m < 2 ^ 32) :
    Scalar.select (IntOp.cmpi CmpIPredicate.eq (BitVec.ofNat 32 x) (BitVec.ofNat 32 m)) a b = if x = m then a else b := by
  have h1 : IntOp.cmpi CmpIPredicate.eq (BitVec.ofNat 32 x) (BitVec.ofNat 32 m) = BitVec.ofBool (decide (x = m)) := by
    show BitVec.ofBool (BitVec.ofNat 32 x == BitVec.ofNat 32 m) = _
    congr 1
    by_cases h : x = m
    · rw [h]; simp
    · rw [decide_eq_false h, beq_eq_false_iff_ne]
      intro e
      have e' := congrArg BitVec.toNat e
      rw [BitVec.toNat_ofNat, BitVec.toNat_ofNat, Nat.mod_eq_of_lt hx, Nat.mod_eq_of_lt hm] at e'
      exact h e'
  rw [h1]
  by_cases h : x = m
  · rw [if_pos h, decide_eq_true h]; rfl
  · rw [if_neg h, decide_eq_false h]; rfl

theorem pay1_at (v : FVec Ideal S1024x1024 .f32) (r d : Fin 1024) : k0_pay1 v (ix2 r d) = v (ix2 r d) := by
  pointwise [k0_pay1]

theorem pay3_at (r d : Fin 1024) : k0_pay3 (F := Ideal) (ix2 r d) = 0 := by
  pointwise [k0_pay3]

/-- The lane the point's expert has. -/
theorem lane (e : ℕ) (he : e < 128) (f : Fin 128 → EReal) : (∑ l : Fin 128, if l.val = e then f l else 0) = f ⟨e, he⟩ := by
  rw [Finset.sum_eq_single (⟨e, he⟩ : Fin 128) (fun l _ h => if_neg fun h' => h (Fin.ext h')) (fun h => absurd (Finset.mem_univ _) h), if_pos rfl]

theorem neg_eq_zero_sub (a : EReal) : -a = 0 - a := by rw [sub_eq_add_neg, zero_add]

theorem pay4_at (i : grid0.Coords) (he : (i 1).val < 128) (x : Vec Ideal S1024x1024 .bf16) (gu : Vec Ideal S1x1024x1024 .bf16) (b : Vec Ideal S1024x128 .f32)
    (y : Vec Ideal S1024x1024 .f32) (w : Vec Ideal S1x512x1024 .bf16) (r d : Fin 1024) :
    k0_pay4 i x gu b y w (ix2 r d) = y (ix2 r d) + ∑ f : Fin 512,
      unit (fun k => x (ix2 r k)) (fun k => gu (ix3 0 k ⟨f.val, by omega⟩)) (fun k => gu (ix3 0 k ⟨512 + f.val, by omega⟩))
        * b (ix2 r ⟨(i 1).val, he⟩) * w (ix3 0 f d) := by
  pointwise [k0_pay4]
  simp (disch := omega) only [sel_eq]
  congr 1
  refine Finset.sum_congr rfl fun f _ => ?_
  rw [lane _ he]
  unfold unit silu
  rw [neg_eq_zero_sub]

theorem pay2_at (h y : Vec Ideal S1024x1024 .f32) (n : Vec Ideal S1x1024 .f32) (r d : Fin 1024) :
    k0_pay2 h y n (ix2 r d) = norm (fun k => h (ix2 r k) + y (ix2 r k)) (n (ix2 0 d)) d := by
  pointwise [k0_pay2]
  rfl

end Cert.Proof.MoeIdeal

end
-- ==== Proof.MoeIdeal.Blocks.lean ====
/-
  The experts' kernel's blocks as parts of the arrays: what the host hands over and each window's block at a grid point.
-/
module

public import proofs.«01_k».proof.Proof.Gen.MoeIdeal.Value
public import proofs.«01_k».proof.Proof.Experts
public import Idealize.ShloMosaic.Lib.StableHlo.ReadAt
public import Idealize.ShloMosaic.Lib.KernelVsHost

@[expose] public section

set_option maxRecDepth 16384

noncomputable section

namespace Cert.Proof.MoeIdeal

open Idealize.ShloMosaic Idealize.ShloMosaic.TcCoe Idealize.ShloMosaic.Pointwise
open Cert.MoeIdeal Cert.MoeIdeal.Gen Cert.Experts

variable (m : (ℓ : Loc nD τ sig) → Buf (Elt Ideal) ℓ) (c : Dev nD)

abbrev x₀ : Mat 65536 1024 := m ((c : Thread nD τ).loc main_arg0)
abbrev h₀ : Mat 65536 1024 := m ((c : Thread nD τ).loc main_arg1)
abbrev b₀ : Mat 65536 128 := m ((c : Thread nD τ).loc main_arg2)
abbrev g₀ : Stack 16 1024 512 := m ((c : Thread nD τ).loc main_arg3)
abbrev u₀ : Stack 16 1024 512 := m ((c : Thread nD τ).loc main_arg4)
abbrev w₀ : Stack 16 512 1024 := m ((c : Thread nD τ).loc main_arg5)
abbrev n₀ : (⟨1, ![1024]⟩ : Shape).Idx → EReal := m ((c : Thread nD τ).loc main_arg6)

/-! ## What the host hands over -/

theorem V_gate (e : Fin 16) (k : Fin 1024) (f : Fin 512) : V m c main_v1 (ix3 e k (⟨f.val, by omega⟩ : Fin 1024)) = g₀ m c (ix3 e k f) := by
  unfold V hostOps0
  after_reads_at
  rfl

theorem V_up (e : Fin 16) (k : Fin 1024) (f : Fin 512) : V m c main_v1 (ix3 e k (⟨512 + f.val, by omega⟩ : Fin 1024)) = u₀ m c (ix3 e k f) := by
  unfold V hostOps0
  after_reads_at
  rfl

theorem V_down (e : Fin 16) (f : Fin 512) (d : Fin 1024) : V m c main_v2 (ix3 e f d) = w₀ m c (ix3 e f d) := by
  unfold V hostOps0
  after_reads_at

theorem V_gain (d : Fin 1024) : V m c main_v3 (ix2 0 d) = n₀ m c (ix1 d) := by
  unfold V hostOps0
  after_reads_at

/-! ## The index maps -/

theorem coord : ∀ t : Fin grid0.N, (grid0.coords t 1).val = t.val % 16 := by decide +kernel

theorem index0 : ∀ t : Fin grid0.N, win0_0.index t 0 = t.val / 16 ∧ win0_0.index t 1 = 0 := by decide +kernel
theorem index1 : ∀ t : Fin grid0.N, win0_1.index t 0 = t.val / 16 ∧ win0_1.index t 1 = 0 := by decide +kernel
theorem index2 : ∀ t : Fin grid0.N, win0_2.index t 0 = t.val / 16 ∧ win0_2.index t 1 = 0 := by decide +kernel
theorem index3 : ∀ t : Fin grid0.N, win0_3.index t 0 = t.val % 16 ∧ win0_3.index t 1 = 0 ∧ win0_3.index t 2 = 0 := by decide +kernel
theorem index4 : ∀ t : Fin grid0.N, win0_4.index t 0 = t.val % 16 ∧ win0_4.index t 1 = 0 ∧ win0_4.index t 2 = 0 := by decide +kernel
theorem index5 : ∀ t : Fin grid0.N, win0_5.index t 0 = 0 ∧ win0_5.index t 1 = 0 := by decide +kernel
theorem index6 : ∀ t : Fin grid0.N, win0_6.index t 0 = t.val / 16 ∧ win0_6.index t 1 = 0 := by decide +kernel
theorem flushes : ∀ t : Fin grid0.N, win0_6.flush t = true ↔ t.val % 16 = 15 := by decide +kernel

theorem lt_N (t : Fin cfg0.N) : t.val < 1024 := t.isLt

/-- The token in row `r` of a point's block, and the point's expert. -/
abbrev tok (t : Fin cfg0.N) (r : Fin 1024) : Fin 65536 := ⟨1024 * (t.val / 16) + r.val, by have := lt_N t; omega⟩
abbrev exp (t : Fin cfg0.N) : Fin 16 := ⟨t.val % 16, by omega⟩

/-! ## The blocks -/

theorem blk0 (t : Fin cfg0.N) (r k : Fin 1024) : iblk m c 0 t (ix2 r k) = x₀ m c (ix2 (tok t r) k) := by
  obtain ⟨e0, e1⟩ := index0 t
  show V m c main_arg0 (((cfg0.win 0).blk t).view.emb (ix2 r k)) = _
  rw [V_main_arg0]
  congr 1
  funext a
  apply Fin.ext
  match a with
  | ⟨0, _⟩ => show win0_0.index t (0 : Fin 2) * 1024 + 1 * r.val = 1024 * (t.val / 16) + r.val; omega
  | ⟨1, _⟩ => show win0_0.index t (1 : Fin 2) * 1024 + 1 * k.val = k.val; omega

theorem blk1 (t : Fin cfg0.N) (r k : Fin 1024) : iblk m c 1 t (ix2 r k) = h₀ m c (ix2 (tok t r) k) := by
  obtain ⟨e0, e1⟩ := index1 t
  show V m c main_arg1 (((cfg0.win 1).blk t).view.emb (ix2 r k)) = _
  rw [V_main_arg1]
  congr 1
  funext a
  apply Fin.ext
  match a with
  | ⟨0, _⟩ => show win0_1.index t (0 : Fin 2) * 1024 + 1 * r.val = 1024 * (t.val / 16) + r.val; omega
  | ⟨1, _⟩ => show win0_1.index t (1 : Fin 2) * 1024 + 1 * k.val = k.val; omega

theorem blk2 (t : Fin cfg0.N) (r : Fin 1024) (l : Fin 128) : iblk m c 2 t (ix2 r l) = b₀ m c (ix2 (tok t r) l) := by
  obtain ⟨e0, e1⟩ := index2 t
  show V m c main_arg2 (((cfg0.win 2).blk t).view.emb (ix2 r l)) = _
  rw [V_main_arg2]
  congr 1
  funext a
  apply Fin.ext
  match a with
  | ⟨0, _⟩ => show win0_2.index t (0 : Fin 2) * 1024 + 1 * r.val = 1024 * (t.val / 16) + r.val; omega
  | ⟨1, _⟩ => show win0_2.index t (1 : Fin 2) * 128 + 1 * l.val = l.val; omega

theorem blk3 (t : Fin cfg0.N) (k y : Fin 1024) : iblk m c 3 t (ix3 0 k y) = V m c main_v1 (ix3 (exp t) k y) := by
  obtain ⟨e0, e1, e2⟩ := index3 t
  show V m c main_v1 (((cfg0.win 3).blk t).view.emb (ix3 0 k y)) = _
  congr 1
  funext a
  apply Fin.ext
  match a with
  | ⟨0, _⟩ => show win0_3.index t (0 : Fin 3) * 1 + 1 * 0 = t.val % 16; omega
  | ⟨1, _⟩ => show win0_3.index t (1 : Fin 3) * 1024 + 1 * k.val = k.val; omega
  | ⟨2, _⟩ => show win0_3.index t (2 : Fin 3) * 1024 + 1 * y.val = y.val; omega

theorem blk4 (t : Fin cfg0.N) (f : Fin 512) (d : Fin 1024) : iblk m c 4 t (ix3 0 f d) = w₀ m c (ix3 (exp t) f d) := by
  obtain ⟨e0, e1, e2⟩ := index4 t
  refine Eq.trans ?_ (V_down m c _ _ _)
  show V m c main_v2 (((cfg0.win 4).blk t).view.emb (ix3 0 f d)) = _
  congr 1
  funext a
  apply Fin.ext
  match a with
  | ⟨0, _⟩ => show win0_4.index t (0 : Fin 3) * 1 + 1 * 0 = t.val % 16; omega
  | ⟨1, _⟩ => show win0_4.index t (1 : Fin 3) * 512 + 1 * f.val = f.val; omega
  | ⟨2, _⟩ => show win0_4.index t (2 : Fin 3) * 1024 + 1 * d.val = d.val; omega

theorem blk5 (t : Fin cfg0.N) (d : Fin 1024) : iblk m c 5 t (ix2 0 d) = n₀ m c (ix1 d) := by
  obtain ⟨e0, e1⟩ := index5 t
  refine Eq.trans ?_ (V_gain m c d)
  show V m c main_v3 (((cfg0.win 5).blk t).view.emb (ix2 0 d)) = _
  congr 1
  funext a
  apply Fin.ext
  match a with
  | ⟨0, _⟩ => show win0_5.index t (0 : Fin 2) * 1 + 1 * 0 = 0; omega
  | ⟨1, _⟩ => show win0_5.index t (1 : Fin 2) * 1024 + 1 * d.val = d.val; omega

theorem emb6 (t : Fin cfg0.N) (r d : Fin 1024) :
    ((cfg0.win 6).blk t).view.emb (ix2 r d) = (ix2 (tok t r) d : S65536x1024.Idx) := by
  obtain ⟨e0, e1⟩ := index6 t
  funext a
  apply Fin.ext
  match a with
  | ⟨0, _⟩ => show win0_6.index t (0 : Fin 2) * 1024 + 1 * r.val = 1024 * (t.val / 16) + r.val; omega
  | ⟨1, _⟩ => show win0_6.index t (1 : Fin 2) * 1024 + 1 * d.val = d.val; omega

/-- Every index of the result is in the block of some point of the last expert. -/
theorem covered (x : S65536x1024.Idx) : ∃ t : Fin cfg0.N, (cfg0.win 6).flush t = true ∧ x ∈ ((cfg0.win 6).blk t).view.set := by
  obtain ⟨n, d, rfl⟩ : ∃ (n : Fin 65536) (d : Fin 1024), x = ix2 n d := ⟨x 0, x 1, by
    funext a
    match a with
    | ⟨0, _⟩ => rfl
    | ⟨1, _⟩ => rfl⟩
  let t : Fin cfg0.N := ⟨n.val / 1024 * 16 + 15, by show _ < 1024; omega⟩
  refine ⟨t, (flushes t).mpr (by show (n.val / 1024 * 16 + 15) % 16 = 15; omega), ?_⟩
  have h := ((cfg0.win 6).blk t).view.emb_mem_set (ix2 (⟨n.val % 1024, by omega⟩ : Fin 1024) d)
  rw [emb6] at h
  have e : tok t ⟨n.val % 1024, by omega⟩ = n := Fin.ext (by show 1024 * ((n.val / 1024 * 16 + 15) / 16) + n.val % 1024 = n.val; omega)
  rw [e] at h
  exact h

end Cert.Proof.MoeIdeal

end
-- ==== Proof.MoeIdeal.Result.lean ====
/-
  The experts' kernel's result array: the scratch sums the weighed answers over the sixteen experts, and the last point of a
  block of tokens stores the norm.
-/
module

public import proofs.«01_k».proof.Proof.MoeIdeal.Step
public import proofs.«01_k».proof.Proof.MoeIdeal.Tile
public import proofs.«01_k».proof.Proof.MoeIdeal.Blocks
public import Idealize.ShloMosaic.Lib.Pipeline.Value

@[expose] public section

set_option maxRecDepth 16384

noncomputable section

namespace Cert.Proof.MoeIdeal

open Idealize.ShloMosaic Idealize.ShloMosaic.TcCoe Idealize.ShloMosaic.Pointwise
open Cert.MoeIdeal Cert.MoeIdeal.Gen Cert.MoeIdeal.Value Cert.Experts

variable (m : (ℓ : Loc nD τ sig) → Buf (Elt Ideal) ℓ) (c : Dev nD)

/-- What the kernel adds for expert `e` at token `t`: the hidden units are weighed before the last product. -/
def added (t : Fin 65536) (e : Fin 16) (d : Fin 1024) : EReal :=
  ∑ f : Fin 512, hid (x₀ m c) (g₀ m c) (u₀ m c) t e f * share (b₀ m c) t e * w₀ m c (ix3 e f d)

theorem lanes (t : Fin cfg0.N) : (grid0.coords t 1).val < 128 := by rw [coord t]; omega

/-! The blocks a point reads. -/

def bx (t : Fin cfg0.N) : Vec Ideal S1024x1024 .bf16 := iblk m c 0 t
def bh (t : Fin cfg0.N) : Vec Ideal S1024x1024 .f32 := iblk m c 1 t
def bb (t : Fin cfg0.N) : Vec Ideal S1024x128 .f32 := iblk m c 2 t
def bg (t : Fin cfg0.N) : Vec Ideal S1x1024x1024 .bf16 := iblk m c 3 t
def bw (t : Fin cfg0.N) : Vec Ideal S1x512x1024 .bf16 := iblk m c 4 t
def bn (t : Fin cfg0.N) : Vec Ideal S1x1024 .f32 := iblk m c 5 t

/-- The scratch after a point. -/
def sc (t : Fin cfg0.N) : Vec Ideal S1024x1024 .f32 := (outsAt0 m c t.val t.isLt).2

/-- The point before. -/
abbrev prev (t : Fin cfg0.N) : Fin cfg0.N := ⟨t.val - 1, Nat.lt_of_le_of_lt (Nat.sub_le _ _) t.isLt⟩

theorem sc_first (t : Fin cfg0.N) (h0 : t.val % 16 = 0) :
    sc m c t = k0_pay1 (k0_pay4 (grid0.coords t) (bx m c t) (bg m c t) (bb m c t) (k0_pay3 (F := Ideal)) (bw m c t)) := by
  have h := congrArg Prod.snd (outsAt0_A m c t h0 (by omega))
  dsimp only at h
  rw [scratch_A] at h
  exact h

theorem sc_next (t : Fin cfg0.N) (h0 : ¬t.val % 16 = 0) :
    sc m c t = k0_pay1 (k0_pay4 (grid0.coords t) (bx m c t) (bg m c t) (bb m c t) (sc m c (prev t)) (bw m c t)) := by
  by_cases h1 : t.val % 16 = 15
  · have h := congrArg Prod.snd (outsAt0_C m c t h0 h1)
    dsimp only at h
    rw [scratch_C] at h
    exact h
  · have h := congrArg Prod.snd (outsAt0_B m c t h0 h1)
    dsimp only at h
    rw [scratch_B] at h
    exact h

theorem out_last (t : Fin cfg0.N) (h1 : t.val % 16 = 15) :
    (outsAt0 m c t.val t.isLt).1 = k0_pay2 (bh m c t) (sc m c t) (bn m c t) := by
  have h0 : ¬t.val % 16 = 0 := by omega
  have h := congrArg Prod.fst (outsAt0_C m c t h0 h1)
  dsimp only at h
  rw [out_C] at h
  rw [sc_next m c t h0]
  exact h

/-- One point's addition, of the arrays. -/
theorem step_at (t : Fin cfg0.N) (y : Vec Ideal S1024x1024 .f32) (r d : Fin 1024) :
    k0_pay1 (k0_pay4 (grid0.coords t) (bx m c t) (bg m c t) (bb m c t) y (bw m c t)) (ix2 r d)
      = y (ix2 r d) + added m c (tok t r) (exp t) d := by
  rw [pay1_at, pay4_at _ (lanes t)]
  refine congrArg (fun z => y (ix2 r d) + z) (Finset.sum_congr rfl fun f _ => ?_)
  have eb : bb m c t (ix2 r ⟨(grid0.coords t 1).val, lanes t⟩) = share (b₀ m c) (tok t r) (exp t) :=
    (blk2 m c t r _).trans (congrArg (fun l => b₀ m c (ix2 (tok t r) l)) (Fin.ext (coord t)))
  have ex : (fun k => bx m c t (ix2 r k)) = fun k => x₀ m c (ix2 (tok t r) k) := funext fun k => blk0 m c t r k
  have eg : (fun k => bg m c t (ix3 0 k (⟨f.val, by omega⟩ : Fin 1024))) = fun k => g₀ m c (ix3 (exp t) k f) :=
    funext fun k => (blk3 m c t k _).trans (V_gate m c (exp t) k f)
  have eu : (fun k => bg m c t (ix3 0 k (⟨512 + f.val, by omega⟩ : Fin 1024))) = fun k => u₀ m c (ix3 (exp t) k f) :=
    funext fun k => (blk3 m c t k _).trans (V_up m c (exp t) k f)
  have ew : bw m c t (ix3 0 f d) = w₀ m c (ix3 (exp t) f d) := blk4 m c t f d
  rw [eb, ex, eg, eu, ew]
  rfl

/-- The scratch after a point: the experts so far. -/
theorem sc_at : ∀ (n : ℕ) (h : n < cfg0.N) (r d : Fin 1024),
    sc m c ⟨n, h⟩ (ix2 r d) = ∑ e : Fin 16, if e.val ≤ n % 16 then added m c (tok ⟨n, h⟩ r) e d else 0 := by
  intro n
  induction n with
  | zero =>
    intro h r d
    rw [sc_first m c ⟨0, h⟩ rfl, step_at, pay3_at, zero_add, Finset.sum_eq_single (0 : Fin 16)]
    · exact (if_pos (Nat.zero_le _)).symm
    · intro e _ he
      exact if_neg fun h' => he (Fin.ext (Nat.le_zero.mp h'))
    · exact fun h' => absurd (Finset.mem_univ _) h'
  | succ n ih =>
    intro h r d
    by_cases h0 : (n + 1) % 16 = 0
    · rw [sc_first m c ⟨n + 1, h⟩ h0, step_at, pay3_at, zero_add, Finset.sum_eq_single (0 : Fin 16)]
      · rw [if_pos (show (0 : Fin 16).val ≤ (n + 1) % 16 from Nat.zero_le _)]
        exact congrArg (fun e => added m c _ e d) (Fin.ext h0)
      · intro e _ he
        exact if_neg fun h' => he (Fin.ext (Nat.le_zero.mp (h0 ▸ h')))
      · exact fun h' => absurd (Finset.mem_univ _) h'
    · rw [sc_next m c ⟨n + 1, h⟩ h0, step_at]
      have ht : tok ⟨n, Nat.lt_of_succ_lt h⟩ r = tok ⟨n + 1, h⟩ r :=
        Fin.ext (by show 1024 * (n / 16) + r.val = 1024 * ((n + 1) / 16) + r.val; omega)
      have hp : sc m c (prev ⟨n + 1, h⟩) (ix2 r d)
          = ∑ e : Fin 16, if e.val ≤ n % 16 then added m c (tok ⟨n + 1, h⟩ r) e d else 0 :=
        (ih (Nat.lt_of_succ_lt h) r d).trans (by rw [ht])
      rw [hp]
      have e1 : added m c (tok ⟨n + 1, h⟩ r) (exp ⟨n + 1, h⟩) d
          = ∑ e : Fin 16, if e.val = (n + 1) % 16 then added m c (tok ⟨n + 1, h⟩ r) e d else 0 := by
        rw [Finset.sum_eq_single (exp ⟨n + 1, h⟩) (fun e _ he => if_neg fun h' => he (Fin.ext h'))
          (fun h' => absurd (Finset.mem_univ _) h'), if_pos rfl]
      rw [e1, ← Finset.sum_add_distrib]
      refine Finset.sum_congr rfl fun e _ => ?_
      by_cases a : e.val ≤ n % 16
      · rw [if_pos a, if_neg (by omega), if_pos (by omega), add_zero]
      · by_cases b : e.val = (n + 1) % 16
        · rw [if_neg a, if_pos b, if_pos (by omega), zero_add]
        · rw [if_neg a, if_neg b, if_neg (by omega), add_zero]

/-- The output's block after the last expert's point. -/
theorem out_at (t : Fin cfg0.N) (ht : t.val % 16 = 15) (r d : Fin 1024) :
    (outsAt0 m c t.val t.isLt).1 (ix2 r d)
      = norm (fun k => h₀ m c (ix2 (tok t r) k) + ∑ e : Fin 16, added m c (tok t r) e k) (n₀ m c (ix1 d)) d := by
  rw [out_last m c t ht, pay2_at]
  have e1 : (fun k => bh m c t (ix2 r k) + sc m c t (ix2 r k)) = fun k => h₀ m c (ix2 (tok t r) k) + ∑ e : Fin 16, added m c (tok t r) e k :=
    funext fun k => congrArg₂ (· + ·) (blk1 m c t r k) ((sc_at m c t.val t.isLt r k).trans (Finset.sum_congr rfl fun e _ => if_pos (by omega)))
  have e2 : bn m c t (ix2 0 d) = n₀ m c (ix1 d) := blk5 m c t d
  rw [e1, e2]

/-- With finite nonnegative weights the result array is the experts' output. -/
theorem arr_eq (hb : ∀ (t : Fin 65536) (e : Fin 16), 0 ≤ share (b₀ m c) t e ∧ share (b₀ m c) t e ≠ ⊤) :
    (dats m 0 c).arrAt 6 cfg0.N = outArr (x₀ m c) (h₀ m c) (b₀ m c) (g₀ m c) (u₀ m c) (w₀ m c) (n₀ m c) := by
  refine (dats m 0 c).arrAt_eq_of_cover 6 (outArr (x₀ m c) (h₀ m c) (b₀ m c) (g₀ m c) (u₀ m c) (w₀ m c) (n₀ m c)) (fun t hf => ?_) covered
  funext y
  obtain ⟨r, d, rfl⟩ : ∃ (r d : Fin 1024), y = ix2 r d := ⟨y 0, y 1, by
    funext a
    match a with
    | ⟨0, _⟩ => rfl
    | ⟨1, _⟩ => rfl⟩
  rw [flushed6]
  show (outsAt0 m c t.val t.isLt).1 (ix2 r d) = outArr _ _ _ _ _ _ _ ((((cfg0).win 6).blk t).view.emb (ix2 r d))
  rw [emb6, out_at m c t ((flushes t).mp hf)]
  unfold outArr mixed
  have e1 : (fun k => h₀ m c (ix2 (tok t r) k) + ∑ e : Fin 16, added m c (tok t r) e k)
      = fun k => h₀ m c (ix2 (tok t r) k) + ∑ e : Fin 16, share (b₀ m c) (tok t r) e * answer (x₀ m c) (g₀ m c) (u₀ m c) (w₀ m c) (tok t r) e k :=
    funext fun k => congrArg (_ + ·) (Finset.sum_congr rfl fun e _ => weigh_answer _ _ _ _ _ _ _ _ (hb _ e).1 (hb _ e).2)
  rw [e1]
  rfl

end Cert.Proof.MoeIdeal

end
-- ==== Proof.MoeRefIdeal.Value.lean ====
/-
  The experts' reference's result read at an index.
-/
module

public import proofs.«01_k».proof.Proof.Gen.MoeRefIdeal.Run
public import proofs.«01_k».proof.Proof.Experts

@[expose] public section

set_option maxRecDepth 16384

noncomputable section

namespace Cert.Proof.MoeRefIdeal

open Idealize.ShloMosaic Idealize.ShloMosaic.Pointwise
open Cert.MoeRefIdeal Cert.MoeRefIdeal.Gen Cert.MoeRefIdeal.Value Cert.Experts

abbrev Units := FVec Ideal S65536x16x512 .f32
abbrev Toks := FVec Ideal S65536x1024 .f32

/-! ## The stages of the reference, named -/

def proj (x : FVec Ideal S65536x1024 .bf16) (w : FVec Ideal S16x1024x512 .f32) : Units :=
  Host.dotGeneral dot_S65536x1024_S16x1024x512_S65536x16x512_1_1_0_02_n_n none (extf .f32 x bitsLt_bf16_f32) w

def ones : Units := broadcastInDim S65536x16x512 ![] bcast_S_S65536x16x512 (constant S_ .f32 0x3F800000#32)

def swish (a : Units) : Units := mulf a (Host.divf ones (addf ones (Host.exp (Host.negf a))))

def answers (w : FVec Ideal S16x512x1024 .f32) (a : Units) : FVec Ideal S65536x16x1024 .f32 :=
  transpose S65536x16x1024 [2, 0, 1] (Host.dotGeneral dot_S16x512x1024_S65536x16x512_S16x1024x65536_1_2_2_0_0_1 none w a)
    transposes_S16x1024x65536_S65536x16x1024_2_0_1

def weighed (b : FVec Ideal S65536x128 .f32) (y : FVec Ideal S65536x16x1024 .f32) : Toks :=
  Host.reduceAdd (mulf (broadcastInDim S65536x16x1024 ![0, 1, 2] bcast_S65536x16x1_S65536x16x1024_0_1_2
      (broadcastInDim S65536x16x1 ![0, 1] bcast_S65536x16_S65536x16x1_0_1
        (extractStridedSlice S65536x16 ![0, 0] b slices_S65536x128_S65536x16_0_0))) y)
    (constant S_ .f32 0x00000000#32) reducesTo_S65536x16x1024_S65536x1024_d1 h_S_

def normed (y : Toks) (n : FVec Ideal S1024 .f32) : Toks :=
  mulf (mulf y (broadcastInDim S65536x1024 ![0, 1] bcast_S65536x1_S65536x1024_0_1
      (Host.rsqrt (addf (Host.divf (broadcastInDim S65536x1 ![0] bcast_S65536_S65536x1_0
            (Host.reduceAdd (mulf y y) (constant S_ .f32 0x00000000#32) reducesTo_S65536x1024_S65536_d1 h_S_))
          (broadcastInDim S65536x1 ![] bcast_S_S65536x1 (constant S_ .f32 0x44800000#32)))
        (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 n))

set_option maxHeartbeats 1000000 in
theorem res_eq (m : (ℓ : Loc nD τ sig) → Buf (Elt Ideal) ℓ) (c : Dev nD) :
    res_main_v25 m c
      = normed (addf (m ((c.tc : Thread nD τ).loc main_arg1)) (weighed (m ((c.tc : Thread nD τ).loc main_arg2))
          (answers (m ((c.tc : Thread nD τ).loc main_arg5))
            (mulf (swish (proj (m ((c.tc : Thread nD τ).loc main_arg0)) (m ((c.tc : Thread nD τ).loc main_arg3))))
              (proj (m ((c.tc : Thread nD τ).loc main_arg0)) (m ((c.tc : Thread nD τ).loc main_arg4)))))))
          (m ((c.tc : Thread nD τ).loc main_arg6)) := by
  unfold res_main_v25
  rfl

/-! ## Read at an index -/

theorem proj_at (x : FVec Ideal S65536x1024 .bf16) (w : FVec Ideal S16x1024x512 .f32) (t : Fin 65536) (e : Fin 16) (f : Fin 512) :
    proj x w (ix3 t e f) = ∑ i : Fin 1024, x (ix2 t i) * w (ix3 e i f) := by
  pointwise [proj]

theorem swish_at (a : Units) (t : Fin 65536) (e : Fin 16) (f : Fin 512) : swish a (ix3 t e f) = silu (a (ix3 t e f)) := by
  pointwise [swish, ones]
  rfl

theorem answers_at (w : FVec Ideal S16x512x1024 .f32) (a : Units) (t : Fin 65536) (e : Fin 16) (d : Fin 1024) :
    answers w a (ix3 t e d) = ∑ f : Fin 512, w (ix3 e f d) * a (ix3 t e f) := by
  pointwise [answers]

theorem weighed_at (b : FVec Ideal S65536x128 .f32) (y : FVec Ideal S65536x16x1024 .f32) (t : Fin 65536) (d : Fin 1024) :
    weighed b y (ix2 t d) = ∑ e : Fin 16, share b t e * y (ix3 t e d) := by
  pointwise [weighed]
  rfl

theorem normed_at (y : Toks) (n : FVec Ideal S1024 .f32) (t : Fin 65536) (d : Fin 1024) :
    normed y n (ix2 t d) = norm (fun k => y (ix2 t k)) (n (ix1 d)) d := by
  pointwise [normed]
  rfl

/-- The reference's result is the experts' output. -/
theorem result_eq (x : FVec Ideal S65536x1024 .bf16) (h : Toks) (b : FVec Ideal S65536x128 .f32) (g u : FVec Ideal S16x1024x512 .f32)
    (w : FVec Ideal S16x512x1024 .f32) (n : FVec Ideal S1024 .f32) :
    normed (addf h (weighed b (answers w (mulf (swish (proj x g)) (proj x u))))) n = outArr x h b g u w n := by
  funext y
  obtain ⟨t, d, rfl⟩ : ∃ (t : Fin 65536) (d : Fin 1024), y = ix2 t d := ⟨y 0, y 1, by
    funext a
    match a with
    | ⟨0, _⟩ => rfl
    | ⟨1, _⟩ => rfl⟩
  rw [normed_at]
  have e : (fun k : Fin 1024 => addf h (weighed b (answers w (mulf (swish (proj x g)) (proj x u)))) (ix2 t k)) = mixed x h b g u w t := by
    funext k
    refine (congrArg (h (ix2 t k) + ·) (weighed_at b _ t k)).trans (congrArg (h (ix2 t k) + ·) (Finset.sum_congr rfl fun e _ => ?_))
    rw [answers_at]
    refine congrArg (share b t e * ·) (Finset.sum_congr rfl fun f _ => ?_)
    refine (mul_comm _ _).trans (congrArg (· * w (ix3 e f k)) ?_)
    show swish (proj x g) (ix3 t e f) * proj x u (ix3 t e f) = _
    rw [swish_at, proj_at, proj_at]
    rfl
  rw [e]
  rfl

end Cert.Proof.MoeRefIdeal

end
-- ==== Proof.MoeClaims.lean ====
/-
  The experts' claims: the three programs run and leave their arguments alone, nothing was replaced, and where the weights are
  finite and not negative the kernel's result is the reference's.
-/
module

public import proofs.«01_k».proof.Defs
public import proofs.«01_k».proof.Proof.Gen.Moe.Frame
public import proofs.«01_k».proof.Proof.MoeIdeal.Result
public import proofs.«01_k».proof.Proof.MoeRefIdeal.Value

@[expose] public section

noncomputable section

namespace Cert.Proof.MoeClaims

open Idealize.ShloMosaic Idealize.ShloMosaic.TcCoe Idealize.ShloMosaic.Pointwise Idealize.SL.Sem

/-- What the precondition's operations ask of their shapes. -/
theorem pre_facts : Cert.Pre_combine_weights.Facts := ⟨by decide, by decide⟩

/-- The experts' kernel runs, its arguments unchanged and its counters back at zero. -/
theorem frame_p : Cert.quiescent_Moe (hMoe := Cert.Moe.Gen.facts) := fun m g _ => Cert.Moe.Gen.frame m g

/-- So does its idealization. -/
theorem frame_pi : Cert.quiescent_MoeIdeal (hMoeIdeal := Cert.MoeIdeal.Gen.facts) := fun m g _ => Cert.MoeIdeal.Gen.frame m g

theorem frame_pi_pre : Cert.quiescent_MoeIdeal_pre_combine_weights (hMoeIdeal := Cert.MoeIdeal.Gen.facts)
    (hPre_combine_weights := pre_facts) := fun m g _ => Cert.MoeIdeal.Gen.frame m g

/-- So does the reference. -/
theorem frame_ri : Cert.quiescent_MoeRefIdeal (hMoeRefIdeal := Cert.MoeRefIdeal.Gen.facts) := fun m g _ =>
  (θ_run _ _ _).mono (fun r h => ⟨fun c => (h c).2, sem_eq_zero_of_no_sems (sig := Cert.MoeRefIdeal.sig) rfl r.2⟩) (Cert.MoeRefIdeal.Value.run m g)

theorem frame_ri_pre : Cert.quiescent_MoeRefIdeal_pre_combine_weights (hMoeRefIdeal := Cert.MoeRefIdeal.Gen.facts)
    (hPre_combine_weights := pre_facts) := fun m g _ => frame_ri m g trivial

theorem preserves : Cert.preserves_Moe_MoeIdeal := trivial

/-- Two conditions whose conjunction is one both hold. -/
theorem both : ∀ a b : Bool, IntOp.andi (BitVec.ofBool a) (BitVec.ofBool b) = 1#1 → a = true ∧ b = true := by decide

/-- The precondition at a token and an expert: the weight is finite and not negative. -/
theorem weights (m : (ℓ : Loc Cert.MoeIdeal.nD Cert.MoeIdeal.τ Cert.MoeIdeal.sig) → Buf (Elt Ideal) ℓ)
    (h : Cert.Pre_MoeIdeal_combine_weights (hPre_combine_weights := pre_facts) m) (c : Dev Cert.MoeIdeal.nD) (t : Fin 65536) (e : Fin 16) :
    0 ≤ Cert.Experts.share (MoeIdeal.b₀ m c) t e ∧ Cert.Experts.share (MoeIdeal.b₀ m c) t e ≠ ⊤ := by
  have h' := congrFun (h c) (ix2 t e)
  unfold Cert.Pre_combine_weights.fn at h'
  pointwise at h'
  obtain ⟨h0, h1⟩ := both _ _ h'
  exact ⟨of_decide_eq_true h0, ((of_decide_eq_true h1).trans_le le_top).ne⟩

/-- At exact reals both end with the experts' output of the arguments. -/
theorem algebraic : Cert.algebraic_MoeIdeal_MoeRefIdeal_pre_combine_weights (hMoeIdeal := Cert.MoeIdeal.Gen.facts)
    (hMoeRefIdeal := Cert.MoeRefIdeal.Gen.facts) (hPre_combine_weights := pre_facts) := fun m g m' g' p e => by
  refine ⟨fun c => Cert.Experts.outArr (MoeIdeal.x₀ m c) (MoeIdeal.h₀ m c) (MoeIdeal.b₀ m c) (MoeIdeal.g₀ m c) (MoeIdeal.u₀ m c)
      (MoeIdeal.w₀ m c) (MoeIdeal.n₀ m c),
    (θ_run _ _ _).mono (fun _ h c => ?_) (Cert.MoeIdeal.Value.run_blocks m g), (θ_run _ _ _).mono (fun _ h c => ?_) (Cert.MoeRefIdeal.Value.run m' g')⟩
  · exact ⟨(h c).1.trans (MoeIdeal.arr_eq m c (weights m p c)), (h c).2⟩
  · refine ⟨(h c).1.trans (((MoeRefIdeal.res_eq m' c).trans (MoeRefIdeal.result_eq _ _ _ _ _ _ _)).trans ?_), (h c).2⟩
    obtain ⟨e0, e1, e2, e3, e4, e5, e6⟩ := e c
    rw [e0, e1, e2, e3, e4, e5, e6]

end Cert.Proof.MoeClaims

end
-- ==== Proof.Projections.lean ====
/-
  The projections into the block as functions of the arrays: what both programs are shown to compute.
-/
module

public import proofs.«01_k».proof.Proof.Experts

@[expose] public section

noncomputable section

namespace Cert.Projections

open Idealize.ShloMosaic Idealize.ShloMosaic.Pointwise Cert.Experts

abbrev Row (n : ℕ) : Type := (⟨1, ![n]⟩ : Shape).Idx → EReal

/-- The logistic function. -/
def sigm (z : EReal) : EReal := Ideal.div 1 (1 + Ideal.exp (-z))

/-- A normed token `x`, of gains `n`, against one column of weights. -/
def dot (x n w : Fin 1024 → EReal) : EReal := ∑ k, norm x (n k) k * w k

/-- Token `t` projected onto column `j` of the 4608. -/
def col (x : Mat 65536 1024) (n : Row 1024) (w : Mat 1024 4608) (t : Fin 65536) (j : Fin 4608) : EReal :=
  dot (fun k => x (ix2 t k)) (fun k => n (ix1 k)) (fun k => w (ix2 k j))

/-- The queries, times one over the root of the heads' 64 channels. -/
def queries (x : Mat 65536 1024) (n : Row 1024) (w : Mat 1024 4608) : Mat 65536 512 := fun y =>
  col x n w (y 0) ⟨(y 1).val, by have : (y 1).val < 512 := (y 1).isLt; omega⟩ * Ideal.ofBits .f32 0x3E000000#32

/-- The 512 columns from `o` on: keys and values. -/
def columns (o : ℕ) (ho : o + 512 ≤ 4608) (x : Mat 65536 1024) (n : Row 1024) (w : Mat 1024 4608) : Mat 65536 512 := fun y =>
  col x n w (y 0) ⟨o + (y 1).val, by have : (y 1).val < 512 := (y 1).isLt; omega⟩

/-- The gated linear unit. -/
def gated (x : Mat 65536 1024) (n : Row 1024) (w : Mat 1024 4608) : Mat 65536 512 := fun y =>
  col x n w (y 0) ⟨1536 + (y 1).val, by have : (y 1).val < 512 := (y 1).isLt; omega⟩
    * sigm (col x n w (y 0) ⟨2048 + (y 1).val, by have : (y 1).val < 512 := (y 1).isLt; omega⟩)

/-- The gate of the 1024 columns from `o` on. -/
def gate (o : ℕ) (ho : o + 1024 ≤ 4608) (x : Mat 65536 1024) (n : Row 1024) (w : Mat 1024 4608) : Mat 65536 1024 := fun y =>
  sigm (col x n w (y 0) ⟨o + (y 1).val, by have : (y 1).val < 1024 := (y 1).isLt; omega⟩)

end Cert.Projections

end
-- ==== Proof.ProjIdeal.Tile.lean ====
/-
  What the projections' kernel stores at a grid point, read at an index, over the blocks it reads.
-/
module

public import proofs.«01_k».proof.Proof.Gen.ProjIdeal.Frame
public import proofs.«01_k».proof.Proof.Projections
public import Idealize.ShloMosaic.Lib.Pointwise
public import Idealize.ShloMosaic.Lib.Tactic
public import Idealize.ShloMosaic.Lib.Pipeline.Value
public import Idealize.ShloMosaic.Lib.Pipeline.ValueKit.Tiles

@[expose] public section

set_option maxRecDepth 16384

noncomputable section

namespace Cert.Proof.ProjIdeal

open Idealize.ShloMosaic Idealize.ShloMosaic.TcCoe Idealize.ShloMosaic.Pointwise
open Cert.ProjIdeal Cert.ProjIdeal.Gen Cert.Experts Cert.Projections

theorem off2 : (![0, 0] : Fin 2 → ℕ) = fun _ => 0 := funext fun a => by fin_cases a <;> rfl

theorem neg_eq_zero_sub (a : EReal) : -a = 0 - a := by rw [sub_eq_add_neg, zero_add]

abbrev Tok := Vec Ideal S512x1024 .f32
abbrev Gain := Vec Ideal S1x1024 .f32
abbrev Wts := Vec Ideal S1024x4608 .bf16

/-! ## The stored values over the loaded ones -/

/-- The normed tokens, which every product of the point takes. -/
theorem normed_at (x : Tok) (n : Gain) (r : Fin 512) (k : Fin 1024) :
    k0_pay2 x n (ix2 r k) = norm (fun i => x (ix2 r i)) (n (ix2 0 k)) k := by
  pointwise [k0_pay2]
  rfl

theorem pay3_at (x : Tok) (n : Gain) (w : Vec Ideal S1024x512 .bf16) (r j : Fin 512) :
    k0_pay3 x n w (ix2 r j) = (∑ k : Fin 1024, k0_pay2 x n (ix2 r k) * w (ix2 k j)) * Ideal.ofBits .f32 0x3E000000#32 := by
  pointwise [k0_pay3]

theorem pay4_at (x : Tok) (n : Gain) (w : Vec Ideal S1024x512 .bf16) (r j : Fin 512) :
    k0_pay4 x n w (ix2 r j) = ∑ k : Fin 1024, k0_pay2 x n (ix2 r k) * w (ix2 k j) := by
  pointwise [k0_pay4]

theorem pay5_at (x : Tok) (n : Gain) (w : Vec Ideal S1024x512 .bf16) (r j : Fin 512) :
    k0_pay5 x n w (ix2 r j) = ∑ k : Fin 1024, k0_pay2 x n (ix2 r k) * w (ix2 k j) := by
  pointwise [k0_pay5]

theorem pay6_at (y : Vec Ideal S512x1024 .bf16) (a b : Vec Ideal S1024x512 .bf16) (r j : Fin 512) :
    k0_pay6 y a b (ix2 r j) = (∑ k : Fin 1024, y (ix2 r k) * a (ix2 k j)) * sigm (∑ k : Fin 1024, y (ix2 r k) * b (ix2 k j)) := by
  pointwise [k0_pay6]
  unfold sigm
  rw [neg_eq_zero_sub]

theorem pay7_at (y : Vec Ideal S512x1024 .bf16) (a : Vec Ideal S1024x1024 .bf16) (r : Fin 512) (j : Fin 1024) :
    k0_pay7 y a (ix2 r j) = sigm (∑ k : Fin 1024, y (ix2 r k) * a (ix2 k j)) := by
  pointwise [k0_pay7]
  unfold sigm
  rw [neg_eq_zero_sub]

theorem pay1_at (y : Vec Ideal S512x1024 .bf16) (a : Vec Ideal S1024x1024 .bf16) (r : Fin 512) (j : Fin 1024) :
    k0_pay1 (k0_pay8 y a) (Scalar.ofBits (F := Ideal) .f32 0x3F800000#32) (ix2 r j) = sigm (∑ k : Fin 1024, y (ix2 r k) * a (ix2 k j)) := by
  pointwise [k0_pay1, k0_pay8]
  unfold sigm
  rw [neg_eq_zero_sub]

/-! ## The stored values over the blocks -/

/-- A normed token of the block against a column of the weights. -/
abbrev prod (x : Tok) (n : Gain) (w : Wts) (r : Fin 512) (j : Fin 4608) : EReal :=
  dot (fun i => x (ix2 r i)) (fun k => n (ix2 0 k)) (fun k => w (ix2 k j))

theorem ld_x (x : Tok) : View.ld x r0_0 = x := View.ld_unit_zero (S := S512x1024) off2 ..
theorem ld_n (n : Gain) : View.ld n r0_1 = n := View.ld_unit_zero (S := S1x1024) off2 ..

theorem sum_eq (x : Tok) (n : Gain) (w : Wts) (r : Fin 512) (j : Fin 4608) (u : Fin 1024 → EReal) (hu : ∀ k, u k = w (ix2 k j)) :
    ∑ k : Fin 1024, k0_pay2 x n (ix2 r k) * u k = prod x n w r j :=
  Finset.sum_congr rfl fun k _ => by rw [normed_at, hu]

/-- The columns that a product loads: `b` of them, from `o` on. -/
theorem ld_col (w : Wts) (o b : ℕ) (inb) (k : Fin 1024) (j : Fin b) (h : o + j.val < 4608) :
    View.ld w (Rect.unit (s := S1024x4608) ![0, o] ![1024, b] inb) (ix2 k j) = w (ix2 k ⟨o + j.val, h⟩) := by
  refine View.ld_unit_apply_of w _ _ inb _ _ fun a => ?_
  match a with
  | ⟨0, _⟩ => exact (Nat.zero_add _).symm
  | ⟨1, _⟩ => rfl

/-- What products against columns `o` on leave in their column `j`. -/
theorem prod_eq (x : Tok) (n : Gain) (w : Wts) (o b : ℕ) (inb) (r : Fin 512) (j : Fin b) (h : o + j.val < 4608) :
    ∑ k : Fin 1024, k0_pay2 x n (ix2 r k) * View.ld w (Rect.unit (s := S1024x4608) ![0, o] ![1024, b] inb) (ix2 k j) = prod x n w r ⟨o + j.val, h⟩ :=
  sum_eq x n w r _ _ fun k => ld_col w o b inb k j h

theorem tokens (x : Tok) (n : Gain) (w : Wts) : k0_pay9 x n w = k0_pay2 x n := by
  unfold k0_pay9
  rw [ld_x, ld_n]

theorem out3_at (x : Tok) (n : Gain) (w : Wts) (r j : Fin 512) :
    out0_3 x n w (ix2 r j) = prod x n w r ⟨0 + j.val, by omega⟩ * Ideal.ofBits .f32 0x3E000000#32 := by
  unfold out0_3
  rw [View.canon_unit_zero (S := S512x512) off2, pay3_at, ld_x, ld_n]
  exact congrArg (· * _) (prod_eq x n w 0 512 _ r j _)

theorem out4_at (x : Tok) (n : Gain) (w : Wts) (r j : Fin 512) : out0_4 x n w (ix2 r j) = prod x n w r ⟨512 + j.val, by omega⟩ := by
  unfold out0_4
  rw [View.canon_unit_zero (S := S512x512) off2, pay4_at, ld_x, ld_n]
  exact prod_eq x n w 512 512 _ r j _

theorem out5_at (x : Tok) (n : Gain) (w : Wts) (r j : Fin 512) : out0_5 x n w (ix2 r j) = prod x n w r ⟨1024 + j.val, by omega⟩ := by
  unfold out0_5
  rw [View.canon_unit_zero (S := S512x512) off2, pay5_at, ld_x, ld_n]
  exact prod_eq x n w 1024 512 _ r j _

theorem out6_at (x : Tok) (n : Gain) (w : Wts) (r j : Fin 512) :
    out0_6 x n w (ix2 r j) = prod x n w r ⟨1536 + j.val, by omega⟩ * sigm (prod x n w r ⟨2048 + j.val, by omega⟩) := by
  unfold out0_6
  rw [View.canon_unit_zero (S := S512x512) off2, pay6_at, tokens]
  exact congrArg₂ (fun a b => a * sigm b) (prod_eq x n w 1536 512 _ r j _) (prod_eq x n w 2048 512 _ r j _)

theorem out7_at (x : Tok) (n : Gain) (w : Wts) (r : Fin 512) (j : Fin 1024) : out0_7 x n w (ix2 r j) = sigm (prod x n w r ⟨2560 + j.val, by omega⟩) := by
  unfold out0_7
  rw [View.canon_unit_zero (S := S512x1024) off2, pay7_at, tokens]
  exact congrArg sigm (prod_eq x n w 2560 1024 _ r j _)

theorem out8_at (x : Tok) (n : Gain) (w : Wts) (r : Fin 512) (j : Fin 1024) : out0_8 x n w (ix2 r j) = sigm (prod x n w r ⟨3584 + j.val, by omega⟩) := by
  unfold out0_8
  rw [View.canon_unit_zero (S := S512x1024) off2, pay1_at, tokens]
  exact congrArg sigm (prod_eq x n w 3584 1024 _ r j _)

end Cert.Proof.ProjIdeal

end
-- ==== Proof.ProjIdeal.Result.lean ====
/-
  The projections' kernel's six result arrays.
-/
module

public import proofs.«01_k».proof.Proof.ProjIdeal.Tile
public import proofs.«01_k».proof.Proof.Gen.ProjIdeal.Value
public import Idealize.ShloMosaic.Lib.StableHlo.ReadAt
public import Idealize.ShloMosaic.Lib.KernelVsHost

@[expose] public section

set_option maxRecDepth 16384

noncomputable section

namespace Cert.Proof.ProjIdeal

open Idealize.ShloMosaic Idealize.ShloMosaic.TcCoe Idealize.ShloMosaic.Pointwise
open Cert.ProjIdeal Cert.ProjIdeal.Gen Cert.ProjIdeal.Value Cert.Experts Cert.Projections

variable (m : (ℓ : Loc nD τ sig) → Buf (Elt Ideal) ℓ) (c : Dev nD)

abbrev x₀ : Mat 65536 1024 := m ((c : Thread nD τ).loc main_arg0)
abbrev n₀ : Row 1024 := m ((c : Thread nD τ).loc main_arg1)
abbrev w₀ : Mat 1024 4608 := m ((c : Thread nD τ).loc main_arg2)

/-! ## What the host hands over -/

theorem V_gain (d : Fin 1024) : V m c main_v0 (ix2 0 d) = n₀ m c (ix1 d) := by
  unfold V hostOps0
  after_reads_at

theorem V_weights (k : Fin 1024) (j : Fin 4608) : V m c main_v1 (ix2 k j) = w₀ m c (ix2 k j) := by
  unfold V hostOps0
  after_reads_at

/-! ## The blocks of a grid point -/

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel

theorem lt_N (t : Fin cfg0.N) : t.val < 128 := t.isLt

/-- The token in row `r` of a point's block. -/
abbrev tok (t : Fin cfg0.N) (r : Fin 512) : Fin 65536 := ⟨512 * t.val + r.val, by have := lt_N t; omega⟩

theorem blk0 (t : Fin cfg0.N) (r : Fin 512) (k : Fin 1024) : iblk m c 0 t (ix2 r k) = x₀ m c (ix2 (tok t r) k) := by
  obtain ⟨e0, e1⟩ := index0 t
  show V m c main_arg0 (((cfg0.win 0).blk t).view.emb (ix2 r k)) = _
  rw [V_main_arg0]
  congr 1
  funext a
  apply Fin.ext
  match a with
  | ⟨0, _⟩ => show win0_0.index t (0 : Fin 2) * 512 + 1 * r.val = 512 * t.val + r.val; omega
  | ⟨1, _⟩ => show win0_0.index t (1 : Fin 2) * 1024 + 1 * k.val = k.val; omega

theorem blk1 (t : Fin cfg0.N) (d : Fin 1024) : iblk m c 1 t (ix2 0 d) = n₀ m c (ix1 d) := by
  obtain ⟨e0, e1⟩ := index1 t
  refine Eq.trans ?_ (V_gain m c d)
  show V m c main_v0 (((cfg0.win 1).blk t).view.emb (ix2 0 d)) = _
  congr 1
  funext a
  apply Fin.ext
  match a with
  | ⟨0, _⟩ => show win0_1.index t (0 : Fin 2) * 1 + 1 * 0 = 0; omega
  | ⟨1, _⟩ => show win0_1.index t (1 : Fin 2) * 1024 + 1 * d.val = d.val; omega

theorem blk2 (t : Fin cfg0.N) (k : Fin 1024) (j : Fin 4608) : iblk m c 2 t (ix2 k j) = w₀ m c (ix2 k j) := by
  obtain ⟨e0, e1⟩ := index2 t
  refine Eq.trans ?_ (V_weights m c k j)
  show V m c main_v1 (((cfg0.win 2).blk t).view.emb (ix2 k j)) = _
  congr 1
  funext a
  apply Fin.ext
  match a with
  | ⟨0, _⟩ => show win0_2.index t (0 : Fin 2) * 1024 + 1 * k.val = k.val; omega
  | ⟨1, _⟩ => show win0_2.index t (1 : Fin 2) * 4608 + 1 * j.val = j.val; omega

/-- The point's products are columns of the projection. -/
theorem prod_col (t : Fin cfg0.N) (r : Fin 512) (j : Fin 4608) :
    prod (iblk m c 0 t) (iblk m c 1 t) (iblk m c 2 t) r j = col (x₀ m c) (n₀ m c) (w₀ m c) (tok t r) j := by
  unfold prod col
  have ex : (fun i => iblk m c 0 t (ix2 r i)) = fun k => x₀ m c (ix2 (tok t r) k) := funext fun k => blk0 m c t r k
  have en : (fun k => iblk m c 1 t (ix2 0 k)) = fun k => n₀ m c (ix1 k) := funext fun k => blk1 m c t k
  have ew : (fun k => iblk m c 2 t (ix2 k j)) = fun k => w₀ m c (ix2 k j) := funext fun k => blk2 m c t k j
  rw [← ex, ← en, ← ew]

/-! ## Where the results' blocks lie -/

theorem emb3 (t : Fin cfg0.N) (r j : Fin 512) : ((cfg0.win 3).blk t).view.emb (ix2 r j) = ix2 (tok t r) j := by
  obtain ⟨e0, e1⟩ := index3 t
  funext a
  apply Fin.ext
  match a with
  | ⟨0, _⟩ => show win0_3.index t (0 : Fin 2) * 512 + 1 * r.val = 512 * t.val + r.val; omega
  | ⟨1, _⟩ => show win0_3.index t (1 : Fin 2) * 512 + 1 * j.val = j.val; omega

theorem emb4 (t : Fin cfg0.N) (r j : Fin 512) : ((cfg0.win 4).blk t).view.emb (ix2 r j) = ix2 (tok t r) j := by
  obtain ⟨e0, e1⟩ := index4 t
  funext a
  apply Fin.ext
  match a with
  | ⟨0, _⟩ => show win0_4.index t (0 : Fin 2) * 512 + 1 * r.val = 512 * t.val + r.val; omega
  | ⟨1, _⟩ => show win0_4.index t (1 : Fin 2) * 512 + 1 * j.val = j.val; omega

theorem emb5 (t : Fin cfg0.N) (r j : Fin 512) : ((cfg0.win 5).blk t).view.emb (ix2 r j) = ix2 (tok t r) j := by
  obtain ⟨e0, e1⟩ := index5 t
  funext a
  apply Fin.ext
  match a with
  | ⟨0, _⟩ => show win0_5.index t (0 : Fin 2) * 512 + 1 * r.val = 512 * t.val + r.val; omega
  | ⟨1, _⟩ => show win0_5.index t (1 : Fin 2) * 512 + 1 * j.val = j.val; omega

theorem emb6 (t : Fin cfg0.N) (r j : Fin 512) : ((cfg0.win 6).blk t).view.emb (ix2 r j) = ix2 (tok t r) j := by
  obtain ⟨e0, e1⟩ := index6 t
  funext a
  apply Fin.ext
  match a with
  | ⟨0, _⟩ => show win0_6.index t (0 : Fin 2) * 512 + 1 * r.val = 512 * t.val + r.val; omega
  | ⟨1, _⟩ => show win0_6.index t (1 : Fin 2) * 512 + 1 * j.val = j.val; omega

theorem emb7 (t : Fin cfg0.N) (r : Fin 512) (j : Fin 1024) : ((cfg0.win 7).blk t).view.emb (ix2 r j) = ix2 (tok t r) j := by
  obtain ⟨e0, e1⟩ := index7 t
  funext a
  apply Fin.ext
  match a with
  | ⟨0, _⟩ => show win0_7.index t (0 : Fin 2) * 512 + 1 * r.val = 512 * t.val + r.val; omega
  | ⟨1, _⟩ => show win0_7.index t (1 : Fin 2) * 1024 + 1 * j.val = j.val; omega

theorem emb8 (t : Fin cfg0.N) (r : Fin 512) (j : Fin 1024) : ((cfg0.win 8).blk t).view.emb (ix2 r j) = ix2 (tok t r) j := by
  obtain ⟨e0, e1⟩ := index8 t
  funext a
  apply Fin.ext
  match a with
  | ⟨0, _⟩ => show win0_8.index t (0 : Fin 2) * 512 + 1 * r.val = 512 * t.val + r.val; omega
  | ⟨1, _⟩ => show win0_8.index t (1 : Fin 2) * 1024 + 1 * j.val = j.val; omega

/-- The point at which a token's rows are stored, and its row there. -/
abbrev pt (n : Fin 65536) : Fin cfg0.N := ⟨n.val / 512, by show _ < 128; omega⟩
abbrev row (n : Fin 65536) : Fin 512 := ⟨n.val % 512, by omega⟩

theorem tok_pt (n : Fin 65536) : tok (pt n) (row n) = n := Fin.ext (by show 512 * (n.val / 512) + n.val % 512 = n.val; omega)

theorem pair {n k : ℕ} (x : (⟨2, ![n, k]⟩ : Shape).Idx) : ∃ (a : Fin n) (b : Fin k), x = ix2 a b := ⟨x 0, x 1, by
  funext a
  match a with
  | ⟨0, _⟩ => rfl
  | ⟨1, _⟩ => rfl⟩

theorem flush3 : ∀ t : Fin grid0.N, win0_3.flush t = true := by decide +kernel
theorem flush4 : ∀ t : Fin grid0.N, win0_4.flush t = true := by decide +kernel
theorem flush5 : ∀ t : Fin grid0.N, win0_5.flush t = true := by decide +kernel
theorem flush6 : ∀ t : Fin grid0.N, win0_6.flush t = true := by decide +kernel
theorem flush7 : ∀ t : Fin grid0.N, win0_7.flush t = true := by decide +kernel
theorem flush8 : ∀ t : Fin grid0.N, win0_8.flush t = true := by decide +kernel

/-! ## The result arrays -/

theorem arr3 : (dats m 0 c).arrAt 3 cfg0.N = queries (x₀ m c) (n₀ m c) (w₀ m c) := by
  refine (dats m 0 c).arrAt_eq_of_cover 3 (queries (x₀ m c) (n₀ m c) (w₀ m c)) (fun t _ => ?_) fun x => ?_
  · funext y
    obtain ⟨r, j, rfl⟩ := pair y
    rw [flushed3]
    show out0_3 (F := Ideal) (iblk m c 0 t) (iblk m c 1 t) (iblk m c 2 t) (ix2 r j) = queries _ _ _ (((cfg0.win 3).blk t).view.emb (ix2 r j))
    rw [emb3, out3_at, prod_col]
    unfold queries
    refine congrArg (fun i => col _ _ _ _ i * _) (Fin.ext (Nat.zero_add _))
  · obtain ⟨n, j, rfl⟩ := pair x
    have h := ((cfg0.win 3).blk (pt n)).view.emb_mem_set (ix2 (row n) j)
    rw [emb3, tok_pt] at h
    exact ⟨pt n, flush3 _, h⟩

theorem arr4 : (dats m 0 c).arrAt 4 cfg0.N = columns 512 (by decide) (x₀ m c) (n₀ m c) (w₀ m c) := by
  refine (dats m 0 c).arrAt_eq_of_cover 4 (columns 512 (by decide) (x₀ m c) (n₀ m c) (w₀ m c)) (fun t _ => ?_) fun x => ?_
  · funext y
    obtain ⟨r, j, rfl⟩ := pair y
    rw [flushed4]
    show out0_4 (F := Ideal) (iblk m c 0 t) (iblk m c 1 t) (iblk m c 2 t) (ix2 r j) = columns 512 (by decide) (x₀ m c) (n₀ m c) (w₀ m c) (((cfg0.win 4).blk t).view.emb (ix2 r j))
    rw [emb4, out4_at, prod_col]
    rfl
  · obtain ⟨n, j, rfl⟩ := pair x
    have h := ((cfg0.win 4).blk (pt n)).view.emb_mem_set (ix2 (row n) j)
    rw [emb4, tok_pt] at h
    exact ⟨pt n, flush4 _, h⟩

theorem arr5 : (dats m 0 c).arrAt 5 cfg0.N = columns 1024 (by decide) (x₀ m c) (n₀ m c) (w₀ m c) := by
  refine (dats m 0 c).arrAt_eq_of_cover 5 (columns 1024 (by decide) (x₀ m c) (n₀ m c) (w₀ m c)) (fun t _ => ?_) fun x => ?_
  · funext y
    obtain ⟨r, j, rfl⟩ := pair y
    rw [flushed5]
    show out0_5 (F := Ideal) (iblk m c 0 t) (iblk m c 1 t) (iblk m c 2 t) (ix2 r j) = columns 1024 (by decide) (x₀ m c) (n₀ m c) (w₀ m c) (((cfg0.win 5).blk t).view.emb (ix2 r j))
    rw [emb5, out5_at, prod_col]
    rfl
  · obtain ⟨n, j, rfl⟩ := pair x
    have h := ((cfg0.win 5).blk (pt n)).view.emb_mem_set (ix2 (row n) j)
    rw [emb5, tok_pt] at h
    exact ⟨pt n, flush5 _, h⟩

theorem arr6 : (dats m 0 c).arrAt 6 cfg0.N = gated (x₀ m c) (n₀ m c) (w₀ m c) := by
  refine (dats m 0 c).arrAt_eq_of_cover 6 (gated (x₀ m c) (n₀ m c) (w₀ m c)) (fun t _ => ?_) fun x => ?_
  · funext y
    obtain ⟨r, j, rfl⟩ := pair y
    rw [flushed6]
    show out0_6 (F := Ideal) (iblk m c 0 t) (iblk m c 1 t) (iblk m c 2 t) (ix2 r j) = gated _ _ _ (((cfg0.win 6).blk t).view.emb (ix2 r j))
    rw [emb6, out6_at, prod_col, prod_col]
    rfl
  · obtain ⟨n, j, rfl⟩ := pair x
    have h := ((cfg0.win 6).blk (pt n)).view.emb_mem_set (ix2 (row n) j)
    rw [emb6, tok_pt] at h
    exact ⟨pt n, flush6 _, h⟩

theorem arr7 : (dats m 0 c).arrAt 7 cfg0.N = gate 2560 (by decide) (x₀ m c) (n₀ m c) (w₀ m c) := by
  refine (dats m 0 c).arrAt_eq_of_cover 7 (gate 2560 (by decide) (x₀ m c) (n₀ m c) (w₀ m c)) (fun t _ => ?_) fun x => ?_
  · funext y
    obtain ⟨r, j, rfl⟩ := pair y
    rw [flushed7]
    show out0_7 (F := Ideal) (iblk m c 0 t) (iblk m c 1 t) (iblk m c 2 t) (ix2 r j) = gate 2560 (by decide) (x₀ m c) (n₀ m c) (w₀ m c) (((cfg0.win 7).blk t).view.emb (ix2 r j))
    rw [emb7, out7_at, prod_col]
    rfl
  · obtain ⟨n, j, rfl⟩ := pair x
    have h := ((cfg0.win 7).blk (pt n)).view.emb_mem_set (ix2 (row n) j)
    rw [emb7, tok_pt] at h
    exact ⟨pt n, flush7 _, h⟩

theorem arr8 : (dats m 0 c).arrAt 8 cfg0.N = gate 3584 (by decide) (x₀ m c) (n₀ m c) (w₀ m c) := by
  refine (dats m 0 c).arrAt_eq_of_cover 8 (gate 3584 (by decide) (x₀ m c) (n₀ m c) (w₀ m c)) (fun t _ => ?_) fun x => ?_
  · funext y
    obtain ⟨r, j, rfl⟩ := pair y
    rw [flushed8]
    show out0_8 (F := Ideal) (iblk m c 0 t) (iblk m c 1 t) (iblk m c 2 t) (ix2 r j) = gate 3584 (by decide) (x₀ m c) (n₀ m c) (w₀ m c) (((cfg0.win 8).blk t).view.emb (ix2 r j))
    rw [emb8, out8_at, prod_col]
    rfl
  · obtain ⟨n, j, rfl⟩ := pair x
    have h := ((cfg0.win 8).blk (pt n)).view.emb_mem_set (ix2 (row n) j)
    rw [emb8, tok_pt] at h
    exact ⟨pt n, flush8 _, h⟩

end Cert.Proof.ProjIdeal

end
-- ==== Proof.ProjRefIdeal.Value.lean ====
/-
  The projections' reference's six results read at an index.
-/
module

public import proofs.«01_k».proof.Proof.Gen.ProjRefIdeal.Run
public import proofs.«01_k».proof.Proof.Projections

@[expose] public section

set_option maxRecDepth 16384

noncomputable section

namespace Cert.Proof.ProjRefIdeal

open Idealize.ShloMosaic Idealize.ShloMosaic.Pointwise
open Cert.ProjRefIdeal Cert.ProjRefIdeal.Gen Cert.ProjRefIdeal.Value Cert.Experts Cert.Projections

abbrev Toks := FVec Ideal S65536x1024 .f32
abbrev Cols := FVec Ideal S65536x4608 .f32

/-! ## The stages of the reference, named -/

def normed (x : Toks) (n : FVec Ideal S1024 .f32) : Toks :=
  mulf (mulf x (broadcastInDim S65536x1024 ![0, 1] bcast_S65536x1_S65536x1024_0_1
      (Host.rsqrt (addf (Host.divf (broadcastInDim S65536x1 ![0] bcast_S65536_S65536x1_0
            (Host.reduceAdd (mulf x x) (constant S_ .f32 0x00000000#32) reducesTo_S65536x1024_S65536_d1 h_S_))
          (broadcastInDim S65536x1 ![] bcast_S_S65536x1 (constant S_ .f32 0x44800000#32)))
        (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 n))

def projected (x : Toks) (n : FVec Ideal S1024 .f32) (w : FVec Ideal S1024x4608 .f32) : Cols :=
  Host.dotGeneral dot_S65536x1024_S1024x4608_S65536x4608_1_0_0_1_n_n none (normed x n) w

def scaled (u : Cols) : FVec Ideal S65536x512 .bf16 :=
  truncf .bf16 (mulf (extractStridedSlice S65536x512 ![0, 0] u slices_S65536x4608_S65536x512_0_0)
    (broadcastInDim S65536x512 ![] bcast_S_S65536x512 (constant S_ .f32 0x3E000000#32))) bitsLt_bf16_f32

def keys (u : Cols) : FVec Ideal S65536x512 .bf16 := truncf .bf16 (extractStridedSlice S65536x512 ![0, 512] u slices_S65536x4608_S65536x512_0_512) bitsLt_bf16_f32

def values (u : Cols) : FVec Ideal S65536x512 .bf16 := truncf .bf16 (extractStridedSlice S65536x512 ![0, 1024] u slices_S65536x4608_S65536x512_0_1024) bitsLt_bf16_f32

def unit (u : Cols) : FVec Ideal S65536x512 .bf16 :=
  truncf .bf16 (mulf (extractStridedSlice S65536x512 ![0, 1536] u slices_S65536x4608_S65536x512_0_1536)
    (Host.divf (broadcastInDim S65536x512 ![] bcast_S_S65536x512 (constant S_ .f32 0x3F800000#32))
      (addf (broadcastInDim S65536x512 ![] bcast_S_S65536x512 (constant S_ .f32 0x3F800000#32))
        (Host.exp (Host.negf (extractStridedSlice S65536x512 ![0, 2048] u slices_S65536x4608_S65536x512_0_2048)))))) bitsLt_bf16_f32

def squash (z : Toks) : FVec Ideal S65536x1024 .bf16 :=
  truncf .bf16 (Host.divf (broadcastInDim S65536x1024 ![] bcast_S_S65536x1024 (constant S_ .f32 0x3F800000#32))
    (addf (broadcastInDim S65536x1024 ![] bcast_S_S65536x1024 (constant S_ .f32 0x3F800000#32)) (Host.exp (Host.negf z)))) bitsLt_bf16_f32

def gateA (u : Cols) : FVec Ideal S65536x1024 .bf16 := squash (extractStridedSlice S65536x1024 ![0, 2560] u slices_S65536x4608_S65536x1024_0_2560)

def gateB (u : Cols) : FVec Ideal S65536x1024 .bf16 := squash (extractStridedSlice S65536x1024 ![0, 3584] u slices_S65536x4608_S65536x1024_0_3584)

/-! ## Read at an index -/

theorem normed_at (x : Toks) (n : FVec Ideal S1024 .f32) (t : Fin 65536) (k : Fin 1024) :
    normed x n (ix2 t k) = norm (fun i => x (ix2 t i)) (n (ix1 k)) k := by
  pointwise [normed]
  rfl

theorem projected_at (x : Toks) (n : FVec Ideal S1024 .f32) (w : FVec Ideal S1024x4608 .f32) (t : Fin 65536) (j : Fin 4608) :
    projected x n w (ix2 t j) = col x n w t j := by
  have h : projected x n w (ix2 t j) = ∑ k : Fin 1024, normed x n (ix2 t k) * w (ix2 k j) := by pointwise [projected]
  rw [h]
  unfold col Projections.dot
  exact Finset.sum_congr rfl fun k _ => by rw [normed_at]

theorem scaled_at (u : Cols) (t : Fin 65536) (j : Fin 512) :
    scaled u (ix2 t j) = u (ix2 t ⟨j.val, by omega⟩) * Ideal.ofBits .f32 0x3E000000#32 := by
  pointwise [scaled]

theorem keys_at (u : Cols) (t : Fin 65536) (j : Fin 512) : keys u (ix2 t j) = u (ix2 t ⟨512 + j.val, by omega⟩) := by
  pointwise [keys]

theorem values_at (u : Cols) (t : Fin 65536) (j : Fin 512) : values u (ix2 t j) = u (ix2 t ⟨1024 + j.val, by omega⟩) := by
  pointwise [values]

theorem unit_at (u : Cols) (t : Fin 65536) (j : Fin 512) :
    unit u (ix2 t j) = u (ix2 t ⟨1536 + j.val, by omega⟩) * sigm (u (ix2 t ⟨2048 + j.val, by omega⟩)) := by
  pointwise [unit]
  rfl

theorem gateA_at (u : Cols) (t : Fin 65536) (j : Fin 1024) : gateA u (ix2 t j) = sigm (u (ix2 t ⟨2560 + j.val, by omega⟩)) := by
  pointwise [gateA, squash]
  rfl

theorem gateB_at (u : Cols) (t : Fin 65536) (j : Fin 1024) : gateB u (ix2 t j) = sigm (u (ix2 t ⟨3584 + j.val, by omega⟩)) := by
  pointwise [gateB, squash]
  rfl

/-! ## The results -/

theorem ext2 {n k : ℕ} {f g : Mat n k} (h : ∀ a b, f (ix2 a b) = g (ix2 a b)) : f = g := funext fun y => by
  have e : y = ix2 (y 0) (y 1) := by
    funext a
    match a with
    | ⟨0, _⟩ => rfl
    | ⟨1, _⟩ => rfl
  rw [e]
  exact h _ _

variable (x : Toks) (n : FVec Ideal S1024 .f32) (w : FVec Ideal S1024x4608 .f32)

theorem queries_eq : scaled (projected x n w) = queries x n w := ext2 fun t j => by
  rw [scaled_at, projected_at]
  rfl

theorem keys_eq : keys (projected x n w) = columns 512 (by decide) x n w := ext2 fun t j => by
  rw [keys_at, projected_at]
  rfl

theorem values_eq : values (projected x n w) = columns 1024 (by decide) x n w := ext2 fun t j => by
  rw [values_at, projected_at]
  rfl

theorem unit_eq : unit (projected x n w) = gated x n w := ext2 fun t j => by
  rw [unit_at, projected_at, projected_at]
  rfl

theorem gateA_eq : gateA (projected x n w) = gate 2560 (by decide) x n w := ext2 fun t j => by
  rw [gateA_at, projected_at]
  rfl

theorem gateB_eq : gateB (projected x n w) = gate 3584 (by decide) x n w := ext2 fun t j => by
  rw [gateB_at, projected_at]
  rfl

end Cert.Proof.ProjRefIdeal

end
-- ==== Proof.ProjClaims.lean ====
/-
  The projections' claims: the three programs run and leave their arguments alone, nothing was replaced, and the kernel's six
  results are the reference's.
-/
module

public import proofs.«01_k».proof.Defs
public import proofs.«01_k».proof.Proof.Gen.Proj.Frame
public import proofs.«01_k».proof.Proof.ProjIdeal.Result
public import proofs.«01_k».proof.Proof.ProjRefIdeal.Value

@[expose] public section

noncomputable section

namespace Cert.Proof.ProjClaims

open Idealize.ShloMosaic Idealize.ShloMosaic.TcCoe Idealize.SL.Sem Cert.Projections

/-- The projections' kernel runs, its arguments unchanged and its counters back at zero. -/
theorem frame_p : Cert.quiescent_Proj (hProj := Cert.Proj.Gen.facts) := fun m g _ => Cert.Proj.Gen.frame m g

/-- So does its idealization. -/
theorem frame_pi : Cert.quiescent_ProjIdeal (hProjIdeal := Cert.ProjIdeal.Gen.facts) := fun m g _ => Cert.ProjIdeal.Gen.frame m g

/-- So does the reference. -/
theorem frame_ri : Cert.quiescent_ProjRefIdeal (hProjRefIdeal := Cert.ProjRefIdeal.Gen.facts) := fun m g _ =>
  (θ_run _ _ _).mono (fun r h => ⟨fun c => (h.1 c).2.2.2.2.2.2, h.2⟩)
    (θ_run_and (Cert.ProjRefIdeal.Value.run m g) ((θ_run _ _ _).mono (fun r _ => sem_eq_zero_of_no_sems (sig := Cert.ProjRefIdeal.sig) rfl r.2)
      (Cert.ProjRefIdeal.Value.run m g)))

theorem preserves : Cert.preserves_Proj_ProjIdeal := trivial

/-- At exact reals both end with the queries, keys, values, gated unit and gates of the arguments. -/
theorem algebraic : Cert.algebraic_ProjIdeal_ProjRefIdeal (hProjIdeal := Cert.ProjIdeal.Gen.facts)
    (hProjRefIdeal := Cert.ProjRefIdeal.Gen.facts) := fun m g m' g' _ e => by
  refine ⟨fun c => queries (ProjIdeal.x₀ m c) (ProjIdeal.n₀ m c) (ProjIdeal.w₀ m c),
    fun c => columns 512 (by decide) (ProjIdeal.x₀ m c) (ProjIdeal.n₀ m c) (ProjIdeal.w₀ m c),
    fun c => columns 1024 (by decide) (ProjIdeal.x₀ m c) (ProjIdeal.n₀ m c) (ProjIdeal.w₀ m c),
    fun c => gated (ProjIdeal.x₀ m c) (ProjIdeal.n₀ m c) (ProjIdeal.w₀ m c),
    fun c => gate 2560 (by decide) (ProjIdeal.x₀ m c) (ProjIdeal.n₀ m c) (ProjIdeal.w₀ m c),
    fun c => gate 3584 (by decide) (ProjIdeal.x₀ m c) (ProjIdeal.n₀ m c) (ProjIdeal.w₀ m c),
    (θ_run _ _ _).mono (fun _ h c => ?_) (Cert.ProjIdeal.Value.run_blocks m g), (θ_run _ _ _).mono (fun _ h c => ?_) (Cert.ProjRefIdeal.Value.run m' g')⟩
  · obtain ⟨h0, h1, h2, h3, h4, h5, h6⟩ := h c
    exact ⟨h0.trans (ProjIdeal.arr3 m c), h1.trans (ProjIdeal.arr4 m c), h2.trans (ProjIdeal.arr5 m c), h3.trans (ProjIdeal.arr6 m c),
      h4.trans (ProjIdeal.arr7 m c), h5.trans (ProjIdeal.arr8 m c), h6⟩
  · obtain ⟨h0, h1, h2, h3, h4, h5, h6⟩ := h c
    obtain ⟨e0, e1, e2⟩ := e c
    have a0 := h0.trans (ProjRefIdeal.queries_eq _ _ _)
    have a1 := h1.trans (ProjRefIdeal.keys_eq _ _ _)
    have a2 := h2.trans (ProjRefIdeal.values_eq _ _ _)
    have a3 := h3.trans (ProjRefIdeal.unit_eq _ _ _)
    have a4 := h4.trans (ProjRefIdeal.gateA_eq _ _ _)
    have a5 := h5.trans (ProjRefIdeal.gateB_eq _ _ _)
    rw [e0, e1, e2] at a0 a1 a2 a3 a4 a5
    exact ⟨a0, a1, a2, a3, a4, a5, h6⟩

end Cert.Proof.ProjClaims

end
-- ==== Proof.Routing.lean ====
/-
  The router's choice as a function of the logits: the experts' weights by comparing with maxima, as the kernel finds them, and
  by counting who is beaten, as the reference does. Of finite logits the two are the same.
-/
module

public import proofs.«01_k».proof.Proof.Experts
public import Mathlib.Analysis.SpecialFunctions.Exp

@[expose] public section

noncomputable section

namespace Cert.Routing

open Idealize.ShloMosaic

/-! ## The kernel's way -/

/-- The largest of four. -/
def max4 (x : Fin 4 → EReal) : EReal := max (max (max (x 0) (x 1)) (x 2)) (x 3)

/-- The place of the first of four that equals `m`. -/
def pick (x : Fin 4 → EReal) (m : EReal) : EReal := if x 0 = m then 0 else if x 1 = m then 1 else if x 2 = m then 2 else 3

/-- The one of four at place `i`. -/
def sel (v : Fin 4 → EReal) (i : EReal) : EReal := if i = 0 then v 0 else if i = 1 then v 1 else if i = 2 then v 2 else v 3

/-- The four with the one at place `i` taken out. -/
def hide (x : Fin 4 → EReal) (i : EReal) (j : Fin 4) : EReal := if i = (j.val : EReal) then ⊥ else x j

/-- The chosen group's probability. -/
def share (g : Fin 4 → EReal) : EReal :=
  Ideal.div 1 (Ideal.exp (g 0 - max4 g) + Ideal.exp (g 1 - max4 g) + Ideal.exp (g 2 - max4 g) + Ideal.exp (g 3 - max4 g))

/-- Lane `n`'s weight, of the groups' logits `g` and the chosen group's logits `x`. -/
def lane (g x : Fin 4 → EReal) (n : ℕ) : EReal :=
  (if (n : EReal) = pick g (max4 g) * 4 + pick x (max4 x) then Ideal.div (share g) (1 + Ideal.exp (max4 (hide x (pick x (max4 x))) - max4 x)) else 0)
    + (if (n : EReal) = pick g (max4 g) * 4 + pick (hide x (pick x (max4 x))) (max4 (hide x (pick x (max4 x)))) then
        share g - Ideal.div (share g) (1 + Ideal.exp (max4 (hide x (pick x (max4 x))) - max4 x)) else 0)

/-- Lane `n`'s weight, of the groups' logits `g` and the experts' logits `e`. -/
def weight (g : Fin 4 → EReal) (e : Fin 4 → Fin 4 → EReal) (n : ℕ) : EReal := lane g (fun j => sel (fun k => e k j) (pick g (max4 g))) n

/-! ## The reference's way -/

/-- The probability of the one at place `k`. -/
def soft (x : Fin 4 → EReal) (k : Fin 4) : EReal := Ideal.div (Ideal.exp (x k)) (∑ j, Ideal.exp (x j))

/-- `j` beats `i`: it is larger, or as large and earlier. -/
def Beats (p : Fin 4 → EReal) (j i : Fin 4) : Prop := p i < p j ∨ (p j = p i ∧ j < i)

/-- Those of four that fewer than `n` others beat, zeros for the rest. -/
def keep (p : Fin 4 → EReal) (n : EReal) (i : Fin 4) : EReal := by
  classical exact if (∑ j, if Beats p j i then (1 : EReal) else 0) < n then p i else 0

/-- Expert `j` of group `k`'s weight. -/
def choice (g : Fin 4 → EReal) (e : Fin 4 → Fin 4 → EReal) (k j : Fin 4) : EReal :=
  keep (soft g) 1 k * Ideal.div (keep (soft (e k)) 2 j) (∑ i, keep (soft (e k)) 2 i)

/-! ## The place of the largest -/

theorem le_max4 (x : Fin 4 → EReal) (j : Fin 4) : x j ≤ max4 x := by
  unfold max4
  fin_cases j
  · exact le_max_of_le_left (le_max_of_le_left (le_max_left _ _))
  · exact le_max_of_le_left (le_max_of_le_left (le_max_right _ _))
  · exact le_max_of_le_left (le_max_right _ _)
  · exact le_max_right _ _

theorem max4_mem (x : Fin 4 → EReal) : ∃ j, max4 x = x j := by
  unfold max4
  rcases max_choice (max (max (x 0) (x 1)) (x 2)) (x 3) with h | h <;> rw [h]
  · rcases max_choice (max (x 0) (x 1)) (x 2) with h | h <;> rw [h]
    · rcases max_choice (x 0) (x 1) with h | h <;> rw [h]
      · exact ⟨0, rfl⟩
      · exact ⟨1, rfl⟩
    · exact ⟨2, rfl⟩
  · exact ⟨3, rfl⟩

/-- The place that is picked is the one that beats all others. -/
theorem pick_max (x : Fin 4 → EReal) : ∃ k : Fin 4, pick x (max4 x) = (k.val : EReal) ∧ max4 x = x k ∧ ∀ j, j ≠ k → Beats x k j := by
  have key : ∀ k : Fin 4, x k = max4 x → (∀ j, j < k → x j ≠ max4 x) → ∀ j, j ≠ k → Beats x k j := by
    intro k hk hj j hjk
    rcases lt_or_gt_of_ne hjk with h | h
    · exact Or.inl (hk ▸ lt_of_le_of_ne (le_max4 x j) (hj j h))
    · rcases lt_or_eq_of_le (le_max4 x j) with h' | h'
      · exact Or.inl (hk ▸ h')
      · exact Or.inr ⟨hk.trans h'.symm, h⟩
  unfold pick
  by_cases h0 : x 0 = max4 x
  · exact ⟨0, by simp [h0], h0.symm, key 0 h0 fun j h => absurd h (by omega)⟩
  by_cases h1 : x 1 = max4 x
  · refine ⟨1, by simp [h0, h1], h1.symm, key 1 h1 fun j h => ?_⟩
    obtain rfl : j = 0 := by omega
    exact h0
  by_cases h2 : x 2 = max4 x
  · refine ⟨2, by simp [h0, h1, h2], h2.symm, key 2 h2 fun j h => ?_⟩
    obtain rfl | rfl : j = 0 ∨ j = 1 := by omega
    · exact h0
    · exact h1
  obtain ⟨j, hj⟩ := max4_mem x
  have h3 : x 3 = max4 x := by
    obtain rfl | rfl | rfl | rfl : j = 0 ∨ j = 1 ∨ j = 2 ∨ j = 3 := by omega
    · exact absurd hj.symm h0
    · exact absurd hj.symm h1
    · exact absurd hj.symm h2
    · exact hj.symm
  refine ⟨3, by simp [h0, h1, h2], h3.symm, key 3 h3 fun j h => ?_⟩
  obtain rfl | rfl | rfl : j = 0 ∨ j = 1 ∨ j = 2 := by omega
  · exact h0
  · exact h1
  · exact h2

theorem cast_inj {a b : ℕ} : (a : EReal) = (b : EReal) ↔ a = b := by
  constructor
  · intro h
    exact_mod_cast h
  · rintro rfl
    rfl

theorem sel_at (v : Fin 4 → EReal) (k : Fin 4) : sel v (k.val : EReal) = v k := by
  have h0 := @cast_inj k.val 0
  have h1 := @cast_inj k.val 1
  have h2 := @cast_inj k.val 2
  simp only [Nat.cast_zero, Nat.cast_one, Nat.cast_ofNat] at h0 h1 h2
  unfold sel
  simp only [h0, h1, h2]
  fin_cases k <;> rfl

/-! ## The two that are kept -/

theorem count {p : Fin 4 → EReal} (i : Fin 4) (s : Finset (Fin 4)) (h : ∀ j, Beats p j i ↔ j ∈ s) (n : ℕ) :
    keep p n i = if s.card < n then p i else 0 := by
  classical
  unfold keep
  have e : (∑ j, if Beats p j i then (1 : EReal) else 0) = (s.card : EReal) := by
    simp only [h]
    rw [Finset.sum_ite_mem, Finset.univ_inter, Finset.sum_const, nsmul_one]
  rw [e]
  have e' : ((s.card : EReal) < (n : EReal)) ↔ s.card < n := by exact_mod_cast Iff.rfl
  simp only [e']

theorem not_both {p : Fin 4 → EReal} {i j : Fin 4} (h : Beats p i j) : ¬ Beats p j i := by
  rintro (h' | ⟨h', l'⟩) <;> rcases h with h | ⟨h, l⟩
  · exact absurd h (not_lt_of_gt h')
  · exact absurd h'.ne (by rw [h]; simp)
  · exact absurd h.ne (by rw [h']; simp)
  · omega

theorem not_self {p : Fin 4 → EReal} (i : Fin 4) : ¬ Beats p i i := fun h => not_both h h

/-- Of a set that beats the place and one that does not hold it. -/
theorem at_least {p : Fin 4 → EReal} (i : Fin 4) (s : Finset (Fin 4)) (h : ∀ j ∈ s, Beats p j i) (n : ℕ) (hn : n ≤ s.card) : keep p n i = 0 := by
  classical
  refine (count (p := p) i (Finset.univ.filter fun j => Beats p j i) (by simp) n).trans (if_neg ?_)
  have := Finset.card_le_card (s := s) (t := Finset.univ.filter fun j => Beats p j i) fun j hj => by simpa using h j hj
  omega

theorem keep_one {p : Fin 4 → EReal} {k : Fin 4} (h : ∀ j, j ≠ k → Beats p k j) (i : Fin 4) : keep p 1 i = if i = k then p i else 0 := by
  by_cases hi : i = k
  · subst hi
    rw [if_pos rfl]
    have := count (p := p) i ∅ (fun j => ⟨fun hj => absurd hj (by by_cases e : j = i; · exact e ▸ not_self j
                                                                  · exact not_both (h j e)), by simp⟩) 1
    simpa using this
  · rw [if_neg hi]
    have := at_least (p := p) i {k} (by simpa using h i hi) 1 (by simp)
    simpa using this

theorem keep_two {p : Fin 4 → EReal} {k l : Fin 4} (hkl : l ≠ k) (h : ∀ j, j ≠ k → Beats p k j) (h' : ∀ j, j ≠ k → j ≠ l → Beats p l j) (i : Fin 4) :
    keep p 2 i = if i = k ∨ i = l then p i else 0 := by
  by_cases hi : i = k
  · subst hi
    rw [if_pos (Or.inl rfl)]
    have := count (p := p) i ∅ (fun j => ⟨fun hj => absurd hj (by by_cases e : j = i; · exact e ▸ not_self j
                                                                  · exact not_both (h j e)), by simp⟩) 2
    simpa using this
  by_cases hl : i = l
  · subst hl
    rw [if_pos (Or.inr rfl)]
    have := count (p := p) i {k} (fun j => by
      rw [Finset.mem_singleton]
      constructor
      · intro hj
        by_contra e
        by_cases e' : j = i
        · exact not_self i (e' ▸ hj)
        · exact not_both (h' j e e') hj
      · rintro rfl
        exact h i hi) 2
    simpa using this
  · rw [if_neg (by tauto)]
    have := at_least (p := p) i {k, l} (by
      intro j hj
      rw [Finset.mem_insert, Finset.mem_singleton] at hj
      rcases hj with rfl | rfl
      · exact h i hi
      · exact h' i hi hl) 2 (by rw [Finset.card_pair hkl.symm])
    simpa using this

/-! ## Finite logits -/

theorem exp_real (r : ℝ) : Ideal.exp (r : EReal) = (Real.exp r : ℝ) := rfl

theorem div_real (a b : ℝ) (h : b ≠ 0) : Ideal.div (a : EReal) (b : EReal) = ((a / b : ℝ) : EReal) := by
  unfold Ideal.div
  rw [if_neg (by exact_mod_cast h), div_eq_mul_inv, EReal.coe_mul, EReal.coe_inv]

theorem sum_real {ι : Type} (s : Finset ι) (f : ι → ℝ) : (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

/-- The sum of four exponentials. -/
def mass (x : Fin 4 → ℝ) : ℝ := ∑ j, Real.exp (x j)

theorem mass_pos (x : Fin 4 → ℝ) : 0 < mass x := Finset.sum_pos (fun _ _ => Real.exp_pos _) ⟨0, Finset.mem_univ _⟩

theorem soft_real (x : Fin 4 → ℝ) (k : Fin 4) : soft (fun j => (x j : EReal)) k = ((Real.exp (x k) / mass x : ℝ) : EReal) := by
  unfold soft
  simp only [exp_real]
  rw [sum_real]
  exact div_real _ _ (mass_pos x).ne'

theorem soft_beats (x : Fin 4 → ℝ) (j i : Fin 4) : Beats (soft fun j => (x j : EReal)) j i ↔ Beats (fun j => (x j : EReal)) j i := by
  unfold Beats
  simp only [soft_real, EReal.coe_lt_coe_iff, EReal.coe_eq_coe_iff]
  rw [div_lt_div_iff_of_pos_right (mass_pos x), Real.exp_lt_exp, div_left_inj' (mass_pos x).ne', Real.exp_eq_exp]

theorem share_real (g : Fin 4 → ℝ) (k : Fin 4) (hk : max4 (fun j => (g j : EReal)) = g k) :
    share (fun j => (g j : EReal)) = ((Real.exp (g k) / mass g : ℝ) : EReal) := by
  unfold share
  simp only [hk, ← EReal.coe_sub, exp_real, ← EReal.coe_add]
  have h : Real.exp (g 0 - g k) + Real.exp (g 1 - g k) + Real.exp (g 2 - g k) + Real.exp (g 3 - g k) = mass g / Real.exp (g k) := by
    unfold mass
    simp only [Real.exp_sub, Fin.sum_univ_four]
    ring
  rw [h]
  refine (div_real 1 _ (div_ne_zero (mass_pos g).ne' (Real.exp_pos _).ne')).trans ?_
  rw [one_div_div]

/-- What the kernel does with the chosen group's logits: the two it takes and the second one's logit. -/
theorem second (x : Fin 4 → ℝ) (k : Fin 4) :
    ∃ l : Fin 4, l ≠ k ∧ pick (hide (fun j => (x j : EReal)) (k.val : EReal)) (max4 (hide (fun j => (x j : EReal)) (k.val : EReal))) = (l.val : EReal)
      ∧ max4 (hide (fun j => (x j : EReal)) (k.val : EReal)) = x l ∧ ∀ j, j ≠ k → j ≠ l → Beats (fun j => (x j : EReal)) l j := by
  have hid : ∀ j, j ≠ k → hide (fun j => (x j : EReal)) (k.val : EReal) j = x j := fun j hj =>
    if_neg fun e => hj (Fin.ext (cast_inj.1 e).symm)
  have hidk : hide (fun j => (x j : EReal)) (k.val : EReal) k = ⊥ := if_pos rfl
  obtain ⟨l, e, hm, hb⟩ := pick_max (hide (fun j => (x j : EReal)) (k.val : EReal))
  have hl : l ≠ k := by
    rintro rfl
    obtain ⟨j, hj⟩ : ∃ j : Fin 4, j ≠ l := ⟨l + 1, by omega⟩
    rcases hb j hj with h | ⟨h, _⟩
    · rw [hidk] at h
      exact not_lt_bot h
    · rw [hidk, hid j hj] at h
      exact EReal.coe_ne_bot _ h.symm
  refine ⟨l, hl, e, hm.trans (hid l hl), fun j hj hjl => ?_⟩
  have h := hb j hjl
  unfold Beats at h ⊢
  rw [hid l hl, hid j hj] at h
  exact h

theorem place {k l : Fin 4} (n : ℕ) : ((n : EReal) = (k.val : EReal) * 4 + (l.val : EReal)) ↔ n = k.val * 4 + l.val := by
  rw [← cast_inj]
  push_cast
  rfl

/-- The kernel's weights of finite logits. -/
theorem weight_real (g : Fin 4 → ℝ) (e : Fin 4 → Fin 4 → ℝ) : ∃ k k₁ k₂ : Fin 4, k₂ ≠ k₁
    ∧ (∀ j, j ≠ k → Beats (fun j => (g j : EReal)) k j) ∧ (∀ j, j ≠ k₁ → Beats (fun j => (e k j : EReal)) k₁ j)
    ∧ (∀ j, j ≠ k₁ → j ≠ k₂ → Beats (fun j => (e k j : EReal)) k₂ j)
    ∧ ∀ n, weight (fun j => (g j : EReal)) (fun k j => (e k j : EReal)) n
        = (if n = k.val * 4 + k₁.val then ((Real.exp (g k) / mass g / (1 + Real.exp (e k k₂ - e k k₁)) : ℝ) : EReal) else 0)
          + (if n = k.val * 4 + k₂.val then ((Real.exp (g k) / mass g - Real.exp (g k) / mass g / (1 + Real.exp (e k k₂ - e k k₁)) : ℝ) : EReal) else 0) := by
  obtain ⟨k, ek, mk, bk⟩ := pick_max fun j => (g j : EReal)
  obtain ⟨k₁, e₁, m₁, b₁⟩ := pick_max fun j => (e k j : EReal)
  obtain ⟨k₂, hk, e₂, m₂, b₂⟩ := second (e k) k₁
  refine ⟨k, k₁, k₂, hk, bk, b₁, b₂, fun n => ?_⟩
  unfold weight lane
  have hs : (fun j => sel (fun k => (e k j : EReal)) (pick (fun j => (g j : EReal)) (max4 fun j => (g j : EReal)))) = fun j => (e k j : EReal) :=
    funext fun j => by rw [ek, sel_at]
  rw [hs, e₁, e₂, m₁, m₂, ek, share_real g k mk]
  simp only [place]
  rw [← EReal.coe_sub, exp_real]
  have hd : Ideal.div ((Real.exp (g k) / mass g : ℝ) : EReal) (1 + ((Real.exp (e k k₂ - e k k₁) : ℝ) : EReal))
      = ((Real.exp (g k) / mass g / (1 + Real.exp (e k k₂ - e k k₁)) : ℝ) : EReal) :=
    div_real (Real.exp (g k) / mass g) (1 + Real.exp (e k k₂ - e k k₁)) (by positivity)
  rw [hd, ← EReal.coe_sub]

/-- Of finite logits the kernel's weights are the reference's. -/
theorem weight_eq (g : Fin 4 → ℝ) (e : Fin 4 → Fin 4 → ℝ) (i j : Fin 4) :
    weight (fun j => (g j : EReal)) (fun k j => (e k j : EReal)) (i.val * 4 + j.val) = choice (fun j => (g j : EReal)) (fun k j => (e k j : EReal)) i j := by
  obtain ⟨k, k₁, k₂, hk, bk, b₁, b₂, h⟩ := weight_real g e
  rw [h]
  unfold choice
  rw [keep_one (k := k) (fun j hj => (soft_beats g k j).2 (bk j hj))]
  by_cases hi : i = k
  · subst hi
    have hq := keep_two (p := soft fun j => (e i j : EReal)) hk (fun j hj => (soft_beats (e i) k₁ j).2 (b₁ j hj)) (fun j hj hj' => (soft_beats (e i) k₂ j).2 (b₂ j hj hj'))
    have hsum : (∑ j, keep (soft fun j => (e i j : EReal)) 2 j) = ((Real.exp (e i k₁) / mass (e i) + Real.exp (e i k₂) / mass (e i) : ℝ) : EReal) := by
      simp only [hq, soft_real]
      have : ∀ j, (if j = k₁ ∨ j = k₂ then ((Real.exp (e i j) / mass (e i) : ℝ) : EReal) else 0)
          = if j ∈ ({k₁, k₂} : Finset (Fin 4)) then ((Real.exp (e i j) / mass (e i) : ℝ) : EReal) else 0 := fun j => by simp
      simp only [this]
      rw [Finset.sum_ite_mem, Finset.univ_inter, Finset.sum_pair hk.symm, EReal.coe_add]
    have hpos : 0 < Real.exp (e i k₁) / mass (e i) + Real.exp (e i k₂) / mass (e i) := by
      have := mass_pos (e i)
      positivity
    rw [hsum, hq, if_pos rfl, soft_real]
    have M := (mass_pos g).ne'
    have T := (mass_pos (e i)).ne'
    have E₁ := Real.exp_pos (e i k₁)
    have E₂ := Real.exp_pos (e i k₂)
    by_cases h1 : j = k₁
    · subst h1
      rw [if_pos rfl, if_neg (by have : k₂.val ≠ j.val := fun h => hk (Fin.ext h); omega), if_pos (Or.inl rfl), add_zero, soft_real, div_real _ _ hpos.ne', ← EReal.coe_mul]
      refine congrArg _ ?_
      rw [Real.exp_sub]
      field_simp
    by_cases h2 : j = k₂
    · subst h2
      rw [if_neg (by have : j.val ≠ k₁.val := fun h => hk (Fin.ext h); omega), if_pos rfl, if_pos (Or.inr rfl), zero_add, soft_real, div_real _ _ hpos.ne', ← EReal.coe_mul]
      refine congrArg _ ?_
      rw [Real.exp_sub]
      field_simp
      ring
    · rw [if_neg (by have : j.val ≠ k₁.val := fun h => h1 (Fin.ext h); omega), if_neg (by have : j.val ≠ k₂.val := fun h => h2 (Fin.ext h); omega), if_neg (by tauto)]
      have hz : Ideal.div 0 ((Real.exp (e i k₁) / mass (e i) + Real.exp (e i k₂) / mass (e i) : ℝ) : EReal) = 0 := by
        refine (div_real 0 _ hpos.ne').trans ?_
        simp
      rw [hz]
      simp
  · have hik : i.val ≠ k.val := fun h => hi (Fin.ext h)
    rw [if_neg hi, if_neg (by omega), if_neg (by omega)]
    simp

/-- Beyond the sixteen experts' lanes the kernel's weights are zero. -/
theorem weight_beyond (g : Fin 4 → ℝ) (e : Fin 4 → Fin 4 → ℝ) (n : ℕ) (hn : 16 ≤ n) : weight (fun j => (g j : EReal)) (fun k j => (e k j : EReal)) n = 0 := by
  obtain ⟨k, k₁, k₂, _, _, _, _, h⟩ := weight_real g e
  rw [h, if_neg (by omega), if_neg (by omega), add_zero]

end Cert.Routing

end
-- ==== Proof.Mixing.lean ====
/-
  The mixing of the attention's and the convolution's branches as a function of the arrays: what both programs are shown to
  compute.
-/
module

public import proofs.«01_k».proof.Proof.Projections
public import proofs.«01_k».proof.Proof.Routing

@[expose] public section

noncomputable section

namespace Cert.Mixing

open Idealize.ShloMosaic Idealize.ShloMosaic.Pointwise Cert.Experts Cert.Projections

/-- The arrays that the mixing reads. -/
structure Arrays where
  att : Mat 65536 512
  unit : Mat 65536 512
  metaUnit : Mat 16 512
  gateA : Mat 65536 1024
  gateC : Mat 65536 1024
  x : Mat 65536 1024
  wAtt : Mat 512 1024
  wConv : Mat 512 1024
  wOut : Mat 1024 1024
  kernel : Mat 31 512
  bias : Row 512
  gain : Row 512
  shift : Row 512
  gainOut : Row 1024
  wGroup : Mat 1024 4
  bGroup : Row 4
  wExpert : Mat 1024 16
  bExpert : Row 16

variable (a : Arrays)

/-- What the convolution's tap `k` reads at token `t`, channel `j`: the token 30 − `k` before it in its sequence of 8192, the
    sixteen meta tokens standing before the sequence, and zeros before them. -/
def tap (t : Fin 65536) (k : Fin 31) (j : Fin 512) : EReal :=
  if t.val % 8192 + k.val + 2 < 16 then 0
  else if h : t.val % 8192 + k.val + 2 < 32 then a.metaUnit (ix2 ⟨t.val % 8192 + k.val + 2 - 16, by omega⟩ j)
  else a.unit (ix2 ⟨t.val + k.val - 30, by omega⟩ j)

/-- The convolution. -/
def conv (t : Fin 65536) (j : Fin 512) : EReal := a.bias (ix1 j) + ∑ k : Fin 31, a.kernel (ix2 k j) * tap a t k j

/-- The mean of 512 channels. -/
def mean (y : Fin 512 → EReal) : EReal := Ideal.div (∑ k, y k) (Ideal.ofBits .f32 0x44000000#32)

/-- The row `y`, centred, over its deviation, of gain `g` and shift `b`, at channel `j`. -/
def layerNorm (y : Fin 512 → EReal) (g b : EReal) (j : Fin 512) : EReal :=
  (y j - mean y) * Ideal.rsqrt (mean (fun k => (y k - mean y) * (y k - mean y)) + Ideal.ofBits .f32 0x358637BD#32) * g + b

/-- The convolution's branch, before its product. -/
def branch (t : Fin 65536) (j : Fin 512) : EReal := silu (layerNorm (conv a t) (a.gain (ix1 j)) (a.shift (ix1 j)) j)

/-- The two branches' products, each times its gate. -/
def merged (t : Fin 65536) (k : Fin 1024) : EReal :=
  a.gateA (ix2 t k) * (∑ i : Fin 512, a.att (ix2 t i) * a.wAtt (ix2 i k)) + a.gateC (ix2 t k) * ∑ i : Fin 512, branch a t i * a.wConv (ix2 i k)

/-- The residual and the merged branches. -/
def hidden : Mat 65536 1024 := fun y => a.x y + ∑ k : Fin 1024, merged a (y 0) k * a.wOut (ix2 k (y 1))

/-- The normed residual. -/
def normed : Mat 65536 1024 := fun y => norm (fun d => hidden a (ix2 (y 0) d)) (a.gainOut (ix1 (y 1))) (y 1)

/-! ## The router -/

/-- A token's logit for group `k`. -/
def groups (t : Fin 65536) (k : Fin 4) : EReal := (∑ d : Fin 1024, normed a (ix2 t d) * a.wGroup (ix2 d k)) + a.bGroup (ix1 k)

/-- A token's logit for expert `j` of group `k`. -/
def experts (t : Fin 65536) (k j : Fin 4) : EReal :=
  (∑ d : Fin 1024, normed a (ix2 t d) * a.wExpert (ix2 d ⟨k.val * 4 + j.val, by omega⟩)) + a.bExpert (ix1 ⟨k.val * 4 + j.val, by omega⟩)

/-- The experts' weights, in the first sixteen of 128 lanes. -/
def combine : Mat 65536 128 := fun y =>
  if h : (y 1).val < 16 then Routing.choice (groups a (y 0)) (experts a (y 0)) ⟨(y 1).val / 4, by omega⟩ ⟨(y 1).val % 4, by omega⟩ else 0

end Cert.Mixing

end
-- ==== Proof.MixIdeal.Tile.lean ====
/-
  What the mixing's kernel stores at a grid point, read at an index, over the blocks it reads.
-/
module

public import proofs.«01_k».proof.Proof.Gen.MixIdeal.Frame
public import proofs.«01_k».proof.Proof.Mixing
public import Idealize.ShloMosaic.Lib.Pointwise
public import Idealize.ShloMosaic.Lib.Tactic
public import Idealize.ShloMosaic.Lib.Pipeline.Value
public import Idealize.ShloMosaic.Lib.Pipeline.ReadBack
public import Idealize.ShloMosaic.Lib.Pipeline.ValueKit.Tiles

@[expose] public section

set_option maxRecDepth 16384

noncomputable section

namespace Cert.Proof.MixIdeal

open Idealize.ShloMosaic Idealize.ShloMosaic.TcCoe Idealize.ShloMosaic.Tactic Idealize.ShloMosaic.Pointwise
open Cert.MixIdeal Cert.MixIdeal.Gen Cert.Experts Cert.Projections Cert.Mixing

theorem off2 : (![0, 0] : Fin 2 → ℕ) = fun _ => 0 := funext fun a => by fin_cases a <;> rfl

theorem neg_eq_zero_sub (a : EReal) : -a = 0 - a := by rw [sub_eq_add_neg, zero_add]

/-- Stores that are blocks of one function and fill a buffer leave that function. -/
theorem canon_of_pieces {S : Shape} {e : EltTy} (G : S.Idx → Elt Ideal e) (L : List (View.Piece (Elt Ideal) S e)) (h : View.PiecesOf G L)
    (hc : ∀ y : S.Idx, ∃ p ∈ L, y ∈ p.1.set) : View.canon L = G := funext fun y => by
  have e := View.canon_append_of_piecesOf G [] L h y (hc y)
  rwa [List.append_nil] at e

abbrev Lane := FVec Ideal S1x512 .f32
abbrev Slab := FVec Ideal S64x512 .f32

/-! ## The convolution of 64 tokens -/

/-- The first `n` taps' products, on top of the bias. -/
def taps (b : Lane) (w : Fin 31 → Lane) (u : Fin 31 → Slab) : (n : ℕ) → n ≤ 31 → Slab
  | 0, _ => broadcastTo S64x512 (shapeCast S1x512 (shapeCast S1x512 b shapeCasts_S1x512_S1x512) shapeCasts_S1x512_S1x512) broadcasts_S1x512_S64x512
  | n + 1, h => addf (taps b w u n (Nat.le_of_succ_le h)) (mulf (broadcastTo S64x512 (w ⟨n, h⟩) broadcasts_S1x512_S64x512) (u ⟨n, h⟩))

/-- The convolved tokens less their means. -/
def centre (y : Slab) : Slab :=
  subf y (broadcastTo S64x512 (divf (shapeCast S64x1 (multiReduction .add [1] S64 y 0x00000000#32 reduces_S64x512_S64 (.inl rfl) rfl) shapeCasts_S64_S64x1)
    (broadcast S64x1 (Scalar.ofBits .f32 0x44000000#32))) broadcasts_S64x1_S64x512)

/-- The centred tokens over their deviations, of gain `g` and shift `h`. -/
def scale (z : Slab) (g h : Lane) : Slab :=
  addf (mulf (mulf z (broadcastTo S64x512 (rsqrt (addf (divf (shapeCast S64x1 (multiReduction .add [1] S64 (mulf z z) 0x00000000#32 reduces_S64x512_S64 (.inl rfl) rfl) shapeCasts_S64_S64x1)
      (broadcast S64x1 (Scalar.ofBits .f32 0x44000000#32))) (broadcast S64x1 (Scalar.ofBits .f32 0x358637BD#32)))) broadcasts_S64x1_S64x512))
    (broadcastTo S64x512 (shapeCast S1x512 g shapeCasts_S1x512_S1x512) broadcasts_S1x512_S64x512))
    (broadcastTo S64x512 (shapeCast S1x512 h shapeCasts_S1x512_S1x512) broadcasts_S1x512_S64x512)

/-- What is stored of them. -/
def activate (z : Slab) : FVec Ideal S64x512 .bf16 :=
  shapeCast S64x512 (truncf .bf16 (mulf z (divf (broadcast S64x512 (Scalar.ofBits .f32 0x3F800000#32))
    (addf (broadcast S64x512 (Scalar.ofBits .f32 0x3F800000#32)) (exp (subf (broadcast S64x512 (Scalar.ofBits .f32 0x00000000#32)) z))))) bitsLt_bf16_f32) shapeCasts_S64x512_S64x512

def slab (b : Lane) (w : Fin 31 → Lane) (u : Fin 31 → Slab) (g h : Lane) : FVec Ideal S64x512 .bf16 :=
  activate (scale (centre (taps b w u 31 le_rfl)) g h)

theorem taps_at (b : Lane) (w : Fin 31 → Lane) (u : Fin 31 → Slab) (r : Fin 64) (j : Fin 512) (n : ℕ) (hn : n ≤ 31) :
    taps b w u n hn (ix2 r j) = b (ix2 0 j) + ∑ k : Fin n, w (k.castLE hn) (ix2 0 j) * u (k.castLE hn) (ix2 r j) := by
  induction n with
  | zero =>
    pointwise [taps]
    simp
  | succ n ih =>
    have e : taps b w u (n + 1) hn (ix2 r j) = taps b w u n (Nat.le_of_succ_le hn) (ix2 r j) + w ⟨n, hn⟩ (ix2 0 j) * u ⟨n, hn⟩ (ix2 r j) := by
      pointwise [taps]
    rw [e, ih, Fin.sum_univ_castSucc, ← add_assoc]
    rfl

theorem centre_at (y : Slab) (r : Fin 64) (j : Fin 512) : centre y (ix2 r j) = y (ix2 r j) - mean fun k => y (ix2 r k) := by
  pointwise [centre]
  rfl

theorem scale_at (y : Slab) (g h : Lane) (r : Fin 64) (j : Fin 512) :
    scale (centre y) g h (ix2 r j) = layerNorm (fun k => y (ix2 r k)) (g (ix2 0 j)) (h (ix2 0 j)) j := by
  pointwise [scale]
  simp only [centre_at]
  rfl

theorem activate_at (z : Slab) (r : Fin 64) (j : Fin 512) : activate z (ix2 r j) = silu (z (ix2 r j)) := by
  pointwise [activate]
  unfold silu
  rw [neg_eq_zero_sub]

theorem slab_at (b : Lane) (w : Fin 31 → Lane) (u : Fin 31 → Slab) (g h : Lane) (r : Fin 64) (j : Fin 512) :
    slab b w u g h (ix2 r j)
      = silu (layerNorm (fun i => b (ix2 0 i) + ∑ k, w k (ix2 0 i) * u k (ix2 r i)) (g (ix2 0 j)) (h (ix2 0 j)) j) := by
  unfold slab
  rw [activate_at, scale_at]
  refine congrArg (fun y => silu (layerNorm y _ _ j)) (funext fun i => ?_)
  exact taps_at b w u r i 31 le_rfl

/-! ## The buffer that the taps read -/

/-- Whether a point's tile is the first of its sequence, as the kernel asks. -/
def first (i : grid0.Coords) : BitVec 1 :=
  let arg0 : BitVec 32 := BitVec.ofNat 32 (i 0).val
  let v1 : BitVec 32 := Scalar.select (Scalar.cmpi .eq 16#32 0#32) 1#32 16#32
  let v2 : BitVec 32 := Scalar.remsi arg0 v1
  Scalar.cmpi .eq (Scalar.select (Scalar.andi (Scalar.xori (Scalar.cmpi .slt v2 0#32) (Scalar.cmpi .slt v1 0#32)) (Scalar.cmpi .ne v2 0#32)) (Scalar.addi v2 v1) v2) 0#32

theorem first_eq : ∀ t : Fin grid0.N, first (grid0.coords t) = BitVec.ofBool (decide (t.val % 16 = 0)) := by decide +kernel

theorem halo_at (t : Fin grid0.N) (a b : FVec Ideal S32x512 .bf16) (r : Fin 32) (j : Fin 512) :
    k0_pay2 (F := Ideal) (grid0.coords t) a b (ix2 r j) = (if t.val % 16 = 0 then a (ix2 r j) else b (ix2 r j) : EReal) := by
  have e : k0_pay2 (grid0.coords t) a b = shapeCast S32x512 (extf .f32 (Scalar.select (first (grid0.coords t)) (shapeCast S32x512 a shapeCasts_S32x512_S32x512) b : FVec Ideal S32x512 .bf16) bitsLt_bf16_f32) shapeCasts_S32x512_S32x512 := rfl
  rw [e, first_eq]
  by_cases h : t.val % 16 = 0
  · rw [if_pos h, decide_eq_true h]
    show shapeCast S32x512 (extf .f32 (shapeCast S32x512 a shapeCasts_S32x512_S32x512) bitsLt_bf16_f32) shapeCasts_S32x512_S32x512 (ix2 r j) = _
    pointwise []
  · rw [if_neg h, decide_eq_false h]
    show shapeCast S32x512 (extf .f32 b bitsLt_bf16_f32) shapeCasts_S32x512_S32x512 (ix2 r j) = _
    pointwise []

theorem body_at (u : FVec Ideal S512x512 .bf16) (r j : Fin 512) : k0_pay3 (F := Ideal) u (ix2 r j) = (u (ix2 r j) : EReal) := by
  pointwise [k0_pay3]

/-- The 32 rows before a tile, then the tile. -/
def rows (a : FVec Ideal S32x512 .f32) (u : FVec Ideal S512x512 .f32) : FVec Ideal S544x512 .f32 := fun y =>
  if h : (y 0).val < 32 then a (ix2 ⟨(y 0).val, h⟩ (y 1)) else u (ix2 ⟨(y 0).val - 32, by have : (y 0).val < 544 := (y 0).isLt; omega⟩ (y 1))

theorem rows_eq (a : FVec Ideal S32x512 .f32) (u : FVec Ideal S512x512 .f32) :
    View.canon [(⟨Rect.unit (s := S544x512) ![32, 0] ![512, 512] inb_S544x512_S512x512_32_0, u⟩ : View.Piece (Elt Ideal) S544x512 .f32),
      ⟨Rect.unit (s := S544x512) ![0, 0] ![32, 512] inb_S544x512_S32x512_0_0, a⟩] = rows a u := by
  refine canon_of_pieces _ _ ?_ fun y => ?_
  · refine ⟨fun x => ?_, fun x => ?_, trivial⟩
    · have hx : (x 0).val < 512 := (x 0).isLt
      unfold rows
      refine Eq.trans ?_ (dif_neg (show ¬ (32 + 1 * (x 0).val < 32) by omega)).symm
      refine congrArg u (funext fun b => Fin.ext ?_)
      match b with
      | ⟨0, _⟩ => show (x 0).val = 32 + 1 * (x 0).val - 32; omega
      | ⟨1, _⟩ => show (x 1).val = 0 + 1 * (x 1).val; omega
    · have hx : (x 0).val < 32 := (x 0).isLt
      unfold rows
      refine Eq.trans ?_ (dif_pos (show 0 + 1 * (x 0).val < 32 by omega)).symm
      refine congrArg a (funext fun b => Fin.ext ?_)
      match b with
      | ⟨0, _⟩ => show (x 0).val = 0 + 1 * (x 0).val; omega
      | ⟨1, _⟩ => show (x 1).val = 0 + 1 * (x 1).val; omega
  · have h0 : (y 0).val < 544 := (y 0).isLt
    have h1 : (y 1).val < 512 := (y 1).isLt
    by_cases h : (y 0).val < 32
    · refine ⟨_, List.mem_cons_of_mem _ List.mem_cons_self, ?_⟩
      rw [Rect.mem_set_unit]
      intro b
      match b with
      | ⟨0, _⟩ => exact ⟨Nat.zero_le _, show (y 0).val < 0 + 32 by omega⟩
      | ⟨1, _⟩ => exact ⟨Nat.zero_le _, show (y 1).val < 0 + 512 by omega⟩
    · refine ⟨_, List.mem_cons_self, ?_⟩
      rw [Rect.mem_set_unit]
      intro b
      match b with
      | ⟨0, _⟩ => exact ⟨show 32 ≤ (y 0).val by omega, show (y 0).val < 32 + 512 by omega⟩
      | ⟨1, _⟩ => exact ⟨Nat.zero_le _, show (y 1).val < 0 + 512 by omega⟩

/-- The 64 rows that tap `k` reads for the tile's part `q`. -/
def window (X : FVec Ideal S544x512 .f32) (q : Fin 8) (k : Fin 31) : Slab := fun j =>
  X ((Rect.unit (s := S544x512) ![64 * q.val + 2 + k.val, 0] S64x512.size (fun a => by
    match a with
    | ⟨0, _⟩ => show 64 * q.val + 2 + k.val + 64 ≤ 544; omega
    | ⟨1, _⟩ => show 0 + 512 ≤ 512; omega)).toLoadRect.idx j)

/-- Row `k` of the convolution's kernel. -/
def weight (W : FVec Ideal S31x512 .f32) (k : Fin 31) : Lane :=
  View.ld (Val := Elt Ideal) (e' := .f32) W (Rect.unit (s := S31x512) ![k.val, 0] S1x512.size (fun a => by
    match a with
    | ⟨0, _⟩ => show k.val + 1 ≤ 31; omega
    | ⟨1, _⟩ => show 0 + 512 ≤ 512; omega))

/-- The tile's convolved tokens. -/
def convolved (X : FVec Ideal S544x512 .f32) (W : FVec Ideal S31x512 .f32) (b g h : Lane) : FVec Ideal S512x512 .bf16 := fun y =>
  slab b (weight W) (window X ⟨(y 0).val / 64, by have : (y 0).val < 512 := (y 0).isLt; omega⟩) g h (ix2 ⟨(y 0).val % 64, by omega⟩ (y 1))

theorem part (X : FVec Ideal S544x512 .f32) (W : FVec Ideal S31x512 .f32) (b g h : Lane) (q : Fin 8) (inb) (x : S64x512.Idx) :
    slab b (weight W) (window X q) g h x = convolved X W b g h ((Rect.unit (s := S512x512) ![64 * q.val, 0] S64x512.size inb).emb x) := by
  have h0 : (x 0).val < 64 := (x 0).isLt
  have key : ∀ (p : Fin 8) (z : S64x512.Idx), q = p → x = z → slab b (weight W) (window X q) g h x = slab b (weight W) (window X p) g h z := fun _ _ h1 h2 => by rw [h1, h2]
  refine key _ _ (Fin.ext ?_) (funext fun a => Fin.ext ?_)
  · show q.val = (64 * q.val + 1 * (x 0).val) / 64; omega
  · match a with
    | ⟨0, _⟩ => show (x 0).val = (64 * q.val + 1 * (x 0).val) % 64; omega
    | ⟨1, _⟩ => show (x 1).val = 0 + 1 * (x 1).val; omega

/-- The eight stores of 64 convolved tokens fill the tile. -/
theorem stored (X : FVec Ideal S544x512 .f32) (W : FVec Ideal S31x512 .f32) (b g h : Lane) :
    View.canon [(⟨Rect.unit (s := S512x512) ![448, 0] ![64, 512] inb_S512x512_S64x512_448_0, slab b (weight W) (window X 7) g h⟩ : View.Piece (Elt Ideal) S512x512 .bf16),
      ⟨Rect.unit (s := S512x512) ![384, 0] ![64, 512] inb_S512x512_S64x512_384_0, slab b (weight W) (window X 6) g h⟩,
      ⟨Rect.unit (s := S512x512) ![320, 0] ![64, 512] inb_S512x512_S64x512_320_0, slab b (weight W) (window X 5) g h⟩,
      ⟨Rect.unit (s := S512x512) ![256, 0] ![64, 512] inb_S512x512_S64x512_256_0, slab b (weight W) (window X 4) g h⟩,
      ⟨Rect.unit (s := S512x512) ![192, 0] ![64, 512] inb_S512x512_S64x512_192_0, slab b (weight W) (window X 3) g h⟩,
      ⟨Rect.unit (s := S512x512) ![128, 0] ![64, 512] inb_S512x512_S64x512_128_0, slab b (weight W) (window X 2) g h⟩,
      ⟨Rect.unit (s := S512x512) ![64, 0] ![64, 512] inb_S512x512_S64x512_64_0, slab b (weight W) (window X 1) g h⟩,
      ⟨Rect.unit (s := S512x512) ![0, 0] ![64, 512] inb_S512x512_S64x512_0_0, slab b (weight W) (window X 0) g h⟩] = convolved X W b g h := by
  refine canon_of_pieces _ _ ?_ fun y => View.cover_of_tiled_head _ _ _ rfl y
  exact ⟨part X W b g h 7 inb_S512x512_S64x512_448_0, part X W b g h 6 inb_S512x512_S64x512_384_0, part X W b g h 5 inb_S512x512_S64x512_320_0, part X W b g h 4 inb_S512x512_S64x512_256_0, part X W b g h 3 inb_S512x512_S64x512_192_0, part X W b g h 2 inb_S512x512_S64x512_128_0, part X W b g h 1 inb_S512x512_S64x512_64_0, part X W b g h 0 inb_S512x512_S64x512_0_0, trivial⟩

theorem whole_idx (inb) (j : S512x512.Idx) : (Rect.unit (s := S512x512) ![0, 0] ![512, 512] inb).idx j = j := by
  funext a
  refine Fin.ext ?_
  match a with
  | ⟨0, _⟩ => show 0 + 1 * (j 0).val = (j 0).val; omega
  | ⟨1, _⟩ => show 0 + 1 * (j 1).val = (j 1).val; omega

end Cert.Proof.MixIdeal

end
-- ==== Proof.MixIdeal.Outs.lean ====
/-
  The mixing's outputs at a grid point, as what the kernel stores of the blocks it reads.
-/
module

public import proofs.«01_k».proof.Proof.MixIdeal.Tile

@[expose] public section

set_option maxRecDepth 16384

noncomputable section

namespace Cert.Proof.MixIdeal

open Idealize.ShloMosaic Idealize.ShloMosaic.TcCoe Idealize.ShloMosaic.Tactic Idealize.ShloMosaic.Pointwise
open Cert.MixIdeal Cert.MixIdeal.Gen Cert.Experts Cert.Projections Cert.Mixing

variable (m : (ℓ : Loc nD τ sig) → Buf (Elt Ideal) ℓ) (c : Dev nD)

/-- The tile's convolved tokens, of the blocks the point reads. -/
abbrev conv (t : Fin cfg0.N) : FVec Ideal S512x512 .bf16 :=
  convolved (rows (k0_pay2 (grid0.coords t) (iblk m c 3 t) (iblk m c 2 t)) (k0_pay3 (iblk m c 1 t))) (iblk m c 10 t) (iblk m c 11 t) (iblk m c 12 t) (iblk m c 13 t)

/-- The tile's gated merge's halves, of the blocks the point reads. -/
abbrev attended (t : Fin cfg0.N) : FVec Ideal S512x1024 .f32 := k0_pay75 (iblk m c 0 t) (iblk m c 7 t) (iblk m c 4 t)
abbrev convoluted (t : Fin cfg0.N) : FVec Ideal S512x1024 .f32 := k0_pay76 (conv m c t) (iblk m c 8 t) (iblk m c 5 t)

set_option maxHeartbeats 1000000 in
theorem outs_eq (t : Fin cfg0.N) :
    (outsAt0 m c t).1 = k0_pay77 (attended m c t) (convoluted m c t) (iblk m c 6 t) (iblk m c 9 t)
      ∧ (outsAt0 m c t).2.1 = k0_pay78 (attended m c t) (convoluted m c t) (iblk m c 6 t) (iblk m c 9 t) (iblk m c 14 t) := by
  unfold outsAt0
  dsimp only
  unfold out0_A_17 out0_A_18
  rw [View.read_writes_junk_eq_canon, View.read_writes_junk_eq_canon]
  unfold kernelRun0_A
  dsimp only
  sl_unfold_words
  rw [View.canon_unit_zero (S := S512x1024) off2, View.canon_unit_zero (S := S512x1024) off2]
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, (hs0_8 t).read_unread, (hs0_9 t).read_unread, (hs0_10 t).read_unread, (hs0_11 t).read_unread, (hs0_12 t).read_unread,
    (hs0_13 t).read_unread, (hs0_14 t).read_unread, View.ld_unit_zero (S := S512x512) off2, View.ld_unit_zero (S := S32x512) off2, View.ld_unit_zero (S := S512x1024) off2,
    View.ld_unit_zero (S := S1024x1024) off2, View.ld_unit_zero (S := S1x512) off2, View.ld_unit_zero (S := S1x1024) off2, View.readCov_eq_canon', rows_eq]
  have e := stored (rows (k0_pay2 (grid0.coords t) (iblk m c 3 t) (iblk m c 2 t)) (k0_pay3 (iblk m c 1 t))) (iblk m c 10 t) (iblk m c 11 t) (iblk m c 12 t) (iblk m c 13 t)
  unfold attended convoluted conv
  generalize rows _ _ = X at e ⊢
  rw [← e]
  refine ⟨congrArg (fun z => k0_pay77 (k0_pay75 _ _ _) (k0_pay76 z _ _) _ _) (funext fun j => ?_), congrArg (fun z => k0_pay78 (k0_pay75 _ _ _) (k0_pay76 z _ _) _ _ _) (funext fun j => ?_)⟩
  · rw [whole_idx]
    refine congrFun (congrArg View.canon ?_) j
    rfl
  · rw [whole_idx]
    refine congrFun (congrArg View.canon ?_) j
    rfl

/-! ## The two outputs, read -/

theorem attended_at (A : FVec Ideal S512x512 .bf16) (B : FVec Ideal S512x1024 .bf16) (C : FVec Ideal S512x1024 .bf16) (r : Fin 512) (d : Fin 1024) :
    k0_pay75 (F := Ideal) A B C (ix2 r d) = (C (ix2 r d) * ∑ i : Fin 512, A (ix2 r i) * B (ix2 i d) : EReal) := by
  pointwise [k0_pay75]

theorem convoluted_at (A : FVec Ideal S512x512 .bf16) (B : FVec Ideal S512x1024 .bf16) (C : FVec Ideal S512x1024 .bf16) (r : Fin 512) (d : Fin 1024) :
    k0_pay76 (F := Ideal) A B C (ix2 r d) = (C (ix2 r d) * ∑ i : Fin 512, A (ix2 r i) * B (ix2 i d) : EReal) := by
  pointwise [k0_pay76]

theorem hidden_at (P Q X : FVec Ideal S512x1024 .f32) (W : FVec Ideal S1024x1024 .bf16) (r : Fin 512) (d : Fin 1024) :
    k0_pay77 (F := Ideal) P Q X W (ix2 r d) = (X (ix2 r d) + ∑ k : Fin 1024, (P (ix2 r k) + Q (ix2 r k)) * W (ix2 k d) : EReal) := by
  pointwise [k0_pay77]

theorem normed_at (P Q X : FVec Ideal S512x1024 .f32) (W : FVec Ideal S1024x1024 .bf16) (g : FVec Ideal S1x1024 .f32) (r : Fin 512) (d : Fin 1024) :
    k0_pay78 (F := Ideal) P Q X W g (ix2 r d) = norm (fun k => k0_pay77 (F := Ideal) P Q X W (ix2 r k)) (g (ix2 0 d)) d := by
  pointwise [k0_pay78]
  rfl

end Cert.Proof.MixIdeal

end
-- ==== Proof.MixFinite.lean ====
/-
  Of a router of real numbers the logits are real numbers, and so the kernel's weights are the reference's.
-/
module

public import proofs.«01_k».proof.Proof.Mixing

@[expose] public section

noncomputable section

namespace Cert.Mixing

open Idealize.ShloMosaic Idealize.ShloMosaic.Pointwise Cert.Experts Cert.Projections

/-- A real number. -/
def IsReal (x : EReal) : Prop := ∃ r : ℝ, x = (r : EReal)

/-- A nonnegative real number. -/
def IsNonneg (x : EReal) : Prop := ∃ r : ℝ, 0 ≤ r ∧ x = (r : EReal)

namespace IsReal

variable {x y : EReal}

theorem zero : IsReal 0 := ⟨0, rfl⟩

theorem add (hx : IsReal x) (hy : IsReal y) : IsReal (x + y) := by
  obtain ⟨r, rfl⟩ := hx
  obtain ⟨s, rfl⟩ := hy
  exact ⟨r + s, (EReal.coe_add r s).symm⟩

theorem mul (hx : IsReal x) (hy : IsReal y) : IsReal (x * y) := by
  obtain ⟨r, rfl⟩ := hx
  obtain ⟨s, rfl⟩ := hy
  exact ⟨r * s, (EReal.coe_mul r s).symm⟩

theorem square (hx : IsReal x) : IsNonneg (x * x) := by
  obtain ⟨r, rfl⟩ := hx
  exact ⟨r * r, mul_self_nonneg r, (EReal.coe_mul r r).symm⟩

theorem sum {ι : Type} {s : Finset ι} {f : ι → EReal} (h : ∀ i, IsReal (f i)) : IsReal (∑ i ∈ s, f i) := by
  choose g hg using h
  exact ⟨∑ i ∈ s, g i, by rw [← Routing.sum_real]; exact Finset.sum_congr rfl fun i _ => hg i⟩

end IsReal

theorem sum_nonneg {ι : Type} {s : Finset ι} {f : ι → EReal} (h : ∀ i, IsNonneg (f i)) : IsNonneg (∑ i ∈ s, f i) := by
  choose g hg using h
  exact ⟨∑ i ∈ s, g i, Finset.sum_nonneg fun i _ => (hg i).1, by rw [← Routing.sum_real]; exact Finset.sum_congr rfl fun i _ => (hg i).2⟩

/-! ## The constants -/

theorem c1024 : Ideal.ofBits .f32 0x44800000#32 = ((1024 : ℝ) : EReal) := by
  simp [Ideal.ofBits, Ideal.ieee, -EReal.coe_mul]
  norm_num

theorem eps : ∃ r : ℝ, 0 < r ∧ Ideal.ofBits .f32 0x358637BD#32 = (r : EReal) := by
  refine ⟨(8796093 : ℝ) / 2 ^ 43, by positivity, ?_⟩
  simp [Ideal.ofBits, Ideal.ieee, -EReal.coe_mul]
  norm_num

/-- The reciprocal root of a mean of squares and the small constant. -/
theorem root {x : EReal} (hx : IsNonneg x) (n : EReal) (hn : ∃ r : ℝ, 0 < r ∧ n = (r : EReal)) : IsReal (Ideal.rsqrt (Ideal.div x n + Ideal.ofBits .f32 0x358637BD#32)) := by
  obtain ⟨r, hr, rfl⟩ := hx
  obtain ⟨k, hk, rfl⟩ := hn
  obtain ⟨e, he, h⟩ := eps
  rw [h, Routing.div_real _ _ hk.ne', ← EReal.coe_add]
  have hp : 0 < r / k + e := by positivity
  refine ⟨(Real.sqrt (r / k + e))⁻¹, ?_⟩
  show (if r / k + e < 0 then ⊥ else if r / k + e = 0 then ⊤ else (((Real.sqrt (r / k + e))⁻¹ : ℝ) : EReal)) = _
  rw [if_neg (not_lt_of_gt hp), if_neg hp.ne']

/-! ## The norm -/

theorem square_nonneg (x : EReal) : 0 ≤ x * x := by
  induction x using EReal.rec with
  | bot => rw [EReal.bot_mul_bot]; exact le_top
  | coe r => rw [← EReal.coe_mul]; exact_mod_cast mul_self_nonneg r
  | top => rw [EReal.top_mul_top]; exact le_top

/-- The norm is a real number, of infinite numbers too: one of them makes the mean of the squares infinite, and its reciprocal
    root zero. -/
theorem norm_real (y : Fin 1024 → EReal) {s : EReal} (hs : IsReal s) (d : Fin 1024) : IsReal (Experts.norm y s d) := by
  unfold Experts.norm
  by_cases hy : ∀ k, IsReal (y k)
  · refine ((hy d).mul ?_).mul hs
    exact root (sum_nonneg fun k => (hy k).square) _ ⟨1024, by norm_num, c1024⟩
  · obtain ⟨k, hk⟩ := not_forall.mp hy
    have hq : y k * y k = ⊤ := by
      generalize y k = x at hk ⊢
      induction x using EReal.rec with
      | bot => exact EReal.bot_mul_bot
      | coe r => exact absurd ⟨r, rfl⟩ hk
      | top => exact EReal.top_mul_top
    have ht : (∑ k, y k * y k) = ⊤ := top_le_iff.mp (hq ▸ Finset.single_le_sum (f := fun k => y k * y k) (fun i _ => square_nonneg (y i)) (Finset.mem_univ k))
    obtain ⟨e, _, he⟩ := eps
    have hd : Ideal.div ⊤ ((1024 : ℝ) : EReal) = ⊤ := by
      unfold Ideal.div
      rw [if_neg (by norm_num), ← EReal.coe_inv]
      exact EReal.top_mul_coe_of_pos (by norm_num)
    rw [ht, c1024, he, hd, EReal.top_add_coe]
    show IsReal (y d * 0 * s)
    rw [mul_zero, zero_mul]
    exact IsReal.zero

/-! ## The logits -/

/-- A norm's row and a router that are real numbers. -/
structure Finite (a : Arrays) : Prop where
  gainOut : ∀ y, IsReal (a.gainOut y)
  wGroup : ∀ y, IsReal (a.wGroup y)
  bGroup : ∀ y, IsReal (a.bGroup y)
  wExpert : ∀ y, IsReal (a.wExpert y)
  bExpert : ∀ y, IsReal (a.bExpert y)

variable {a : Arrays} (ha : Finite a)

include ha

theorem normed_real (y : (⟨2, ![65536, 1024]⟩ : Shape).Idx) : IsReal (normed a y) := norm_real _ (ha.gainOut _) _

theorem groups_real (t : Fin 65536) (k : Fin 4) : IsReal (groups a t k) := (IsReal.sum fun d => (normed_real ha _).mul (ha.wGroup _)).add (ha.bGroup _)

theorem experts_real (t : Fin 65536) (k j : Fin 4) : IsReal (experts a t k j) := (IsReal.sum fun d => (normed_real ha _).mul (ha.wExpert _)).add (ha.bExpert _)

/-- Of a router of real numbers the kernel's weights are the reference's, in every lane. -/
theorem weight_combine (t : Fin 65536) (n : Fin 128) : Routing.weight (groups a t) (experts a t) n.val = combine a (ix2 t n) := by
  choose g hg using groups_real ha t
  choose e he using fun k j => experts_real ha t k j
  have hG : groups a t = fun j => (g j : EReal) := funext hg
  have hE : experts a t = fun k j => (e k j : EReal) := funext fun k => funext fun j => he k j
  show _ = (if h : n.val < 16 then Routing.choice (groups a t) (experts a t) ⟨n.val / 4, by omega⟩ ⟨n.val % 4, by omega⟩ else 0)
  rw [hG, hE]
  by_cases hn : n.val < 16
  · rw [dif_pos hn]
    refine Eq.trans ?_ (Routing.weight_eq g e ⟨n.val / 4, by omega⟩ ⟨n.val % 4, by omega⟩)
    exact congrArg _ (by show n.val = n.val / 4 * 4 + n.val % 4; omega)
  · rw [dif_neg hn]
    exact Routing.weight_beyond g e n.val (by omega)

end Cert.Mixing

end
-- ==== Proof.MixIdeal.Combine.lean ====
/-
  The mixing's third output at a grid point: the routing logits of a token, and the lanes' weights of the logits.
-/
module

public import proofs.«01_k».proof.Proof.MixIdeal.Outs
public import proofs.«01_k».proof.Proof.MixFinite

@[expose] public section

set_option maxRecDepth 16384

noncomputable section

namespace Cert.Proof.MixIdeal

open Idealize.ShloMosaic Idealize.ShloMosaic.TcCoe Idealize.ShloMosaic.Tactic Idealize.ShloMosaic.Pointwise
open Cert.MixIdeal Cert.MixIdeal.Gen Cert.Experts Cert.Projections Cert.Mixing

/-- One number per token of the tile. -/
abbrev Tokens := FVec Ideal S1x512 .f32

/-! ## The constants -/

theorem two : Ideal.ofBits .f32 0x40000000#32 = 2 := by
  simp [Ideal.ofBits, Ideal.ieee, -EReal.coe_mul]
  norm_num
  rfl
theorem three : Ideal.ofBits .f32 0x40400000#32 = 3 := by
  simp [Ideal.ofBits, Ideal.ieee, -EReal.coe_mul]
  norm_num
  rfl
theorem four : Ideal.ofBits .f32 0x40800000#32 = 4 := by
  simp [Ideal.ofBits, Ideal.ieee, -EReal.coe_mul]
  norm_num
  rfl
theorem lowest : Ideal.ofBits .f32 0xFF800000#32 = ⊥ := by
  simp [Ideal.ofBits, Ideal.ieee, -EReal.coe_mul]

/-- A lane's number. -/
theorem lane_number (n : Fin 128) : (FloatOps.sitofp .f32 (BitVec.ofNat 32 n.val) : Ideal .f32) = ((n.val : ℕ) : EReal) := by
  have h : (BitVec.ofNat 32 n.val).toInt = (n.val : ℤ) := by
    rw [BitVec.toInt_eq_toNat_of_lt (by simp; omega)]
    simp
    omega
  show (((BitVec.ofNat 32 n.val).toInt : ℝ) : EReal) = _
  rw [h]
  simp

/-! ## The logits -/

theorem logits_at (P Q X : FVec Ideal S512x1024 .f32) (W : FVec Ideal S1024x1024 .bf16) (g : FVec Ideal S1x1024 .f32) (R : FVec Ideal S32x1024 .bf16)
    (b : FVec Ideal S32x1 .f32) (i : Fin 32) (r : Fin 512) :
    k0_pay79 (F := Ideal) P Q X W g R b (ix2 i r) = ((∑ d : Fin 1024, R (ix2 i d) * k0_pay78 (F := Ideal) P Q X W g (ix2 r d)) + b (ix2 i 0) : EReal) := by
  pointwise [k0_pay79]

/-! ## A token's choice -/

variable (r : Fin 512)

/-- A token's four numbers. -/
def quad (a b c d : Tokens) : Fin 4 → EReal := ![a (ix2 0 r), b (ix2 0 r), c (ix2 0 r), d (ix2 0 r)]

/-- A token's logits for the experts, by group. -/
def byGroup (L : FVec Ideal S32x512 .f32) (k j : Fin 4) : EReal := L (ix2 ⟨k.val * 4 + j.val, by omega⟩ r)

theorem pick_at (a b c d M : Tokens) : k0_pay87 (F := Ideal) a b c M (ix2 0 r) = Routing.pick (quad r a b c d) (M (ix2 0 r)) := by
  pointwise [k0_pay87]
  rw [two, three]
  rfl

theorem share_at (a b c d M s : Tokens) (hM : M (ix2 0 r) = Routing.max4 (quad r a b c d)) (hs : s (ix2 0 r) = (a (ix2 0 r) - M (ix2 0 r) : EReal)) :
    k0_pay86 (F := Ideal) b c d M s (ix2 0 r) = Routing.share (quad r a b c d) := by
  pointwise [k0_pay86]
  rw [hs, hM]
  rfl

theorem first_at (L : FVec Ideal S32x512 .f32) (a b c M : Tokens) :
    k0_pay88 (F := Ideal) L a b c M (ix2 0 r) = Routing.sel (fun k => byGroup r L k 0) (k0_pay87 (F := Ideal) a b c M (ix2 0 r)) := by
  pointwise [k0_pay88]
  rw [two]
  rfl

theorem second_at (L : FVec Ideal S32x512 .f32) (a b c M : Tokens) :
    k0_pay89 (F := Ideal) L a b c M (ix2 0 r) = Routing.sel (fun k => byGroup r L k 1) (k0_pay87 (F := Ideal) a b c M (ix2 0 r)) := by
  pointwise [k0_pay89]
  rw [two]
  rfl

theorem third_at (L : FVec Ideal S32x512 .f32) (p : Tokens) :
    k0_pay91 (F := Ideal) L p (k0_pay90 (F := Ideal) L) (ix2 0 r) = Routing.sel (fun k => byGroup r L k 2) (p (ix2 0 r)) := by
  pointwise [k0_pay91, k0_pay90]
  rw [two]
  rfl

theorem fourth_at (L : FVec Ideal S32x512 .f32) (p : Tokens) : k0_pay92 (F := Ideal) L p (ix2 0 r) = Routing.sel (fun k => byGroup r L k 3) (p (ix2 0 r)) := by
  pointwise [k0_pay92]
  rw [two]
  rfl

section chosen
variable (L : FVec Ideal S32x512 .f32) (p a b s : Tokens)

theorem largest_at : k0_pay93 (F := Ideal) L p a b s (ix2 0 r) = Routing.max4 (quad r a b (k0_pay91 (F := Ideal) L p s) (k0_pay92 (F := Ideal) L p)) := by
  pointwise [k0_pay93]
  rfl

theorem place_at : k0_pay94 (F := Ideal) L p a b s (ix2 0 r)
    = Routing.pick (quad r a b (k0_pay91 (F := Ideal) L p s) (k0_pay92 (F := Ideal) L p)) (k0_pay93 (F := Ideal) L p a b s (ix2 0 r)) := by
  pointwise [k0_pay94]
  rw [two, three]
  rfl

theorem hide_first (c d : Tokens) :
    k0_pay95 (F := Ideal) L p a b s (ix2 0 r) = Routing.hide (quad r a b c d) (k0_pay94 (F := Ideal) L p a b s (ix2 0 r)) 0 := by
  pointwise [k0_pay95]
  rw [lowest]
  simp [Routing.hide, quad]

theorem hide_second (c d : Tokens) :
    k0_pay96 (F := Ideal) L p a b s (ix2 0 r) = Routing.hide (quad r a b c d) (k0_pay94 (F := Ideal) L p a b s (ix2 0 r)) 1 := by
  pointwise [k0_pay96]
  rw [lowest]
  simp [Routing.hide, quad]
end chosen

/-- The lanes' weights, of the groups' logits and the chosen group's. -/
theorem lanes_at (n : Fin 128) (g x : Fin 4 → EReal) (a b c d e f u v : Tokens) (ha : a (ix2 0 r) = Routing.share g) (hb : b (ix2 0 r) = Routing.pick g (Routing.max4 g))
    (hc : c (ix2 0 r) = x 2) (hd : d (ix2 0 r) = x 3) (he : e (ix2 0 r) = Routing.max4 x) (hf : f (ix2 0 r) = Routing.pick x (Routing.max4 x))
    (hu : u (ix2 0 r) = Routing.hide x (Routing.pick x (Routing.max4 x)) 0) (hv : v (ix2 0 r) = Routing.hide x (Routing.pick x (Routing.max4 x)) 1) :
    k0_pay1 (F := Ideal) (k0_pay101 a b c d e f u v) (k0_pay102 a b c d e f u v) (ix2 r n) = Routing.lane g x n.val := by
  have h2 : (if Routing.pick x (Routing.max4 x) = 2 then ⊥ else x 2) = Routing.hide x (Routing.pick x (Routing.max4 x)) 2 := by simp [Routing.hide]
  have h3 : (if Routing.pick x (Routing.max4 x) = 3 then ⊥ else x 3) = Routing.hide x (Routing.pick x (Routing.max4 x)) 3 := by simp [Routing.hide]
  pointwise [k0_pay1, k0_pay101, k0_pay102, k0_pay100, k0_pay99, k0_pay98, k0_pay97]
  simp only [two, three, four, lowest, lane_number, ha, hb, hc, hd, he, hf, hu, hv]
  rw [h2, h3]
  rfl

/-- What is stored of a token, of all its logits. -/
theorem weights_at (n : Fin 128) (L : FVec Ideal S32x512 .f32) (a b c d M s : Tokens) (hM : M (ix2 0 r) = Routing.max4 (quad r a b c d))
    (hs : s (ix2 0 r) = (a (ix2 0 r) - M (ix2 0 r) : EReal)) :
    let p := k0_pay87 (F := Ideal) a b c M
    let x := k0_pay88 (F := Ideal) L a b c M
    let y := k0_pay89 (F := Ideal) L a b c M
    let z := k0_pay90 (F := Ideal) L
    k0_pay1 (F := Ideal)
        (k0_pay101 (k0_pay86 b c d M s) p (k0_pay91 L p z) (k0_pay92 L p) (k0_pay93 L p x y z) (k0_pay94 L p x y z) (k0_pay95 L p x y z) (k0_pay96 L p x y z))
        (k0_pay102 (k0_pay86 b c d M s) p (k0_pay91 L p z) (k0_pay92 L p) (k0_pay93 L p x y z) (k0_pay94 L p x y z) (k0_pay95 L p x y z) (k0_pay96 L p x y z)) (ix2 r n)
      = Routing.weight (quad r a b c d) (byGroup r L) n.val := by
  intro p x y z
  have hp : p (ix2 0 r) = Routing.pick (quad r a b c d) (Routing.max4 (quad r a b c d)) := hM ▸ pick_at r a b c d M
  have hx : quad r x y (k0_pay91 (F := Ideal) L p z) (k0_pay92 (F := Ideal) L p)
      = fun j => Routing.sel (fun k => byGroup r L k j) (Routing.pick (quad r a b c d) (Routing.max4 (quad r a b c d))) := by
    rw [← hp]
    funext j
    match j with
    | ⟨0, _⟩ => exact first_at r L a b c M
    | ⟨1, _⟩ => exact second_at r L a b c M
    | ⟨2, _⟩ => exact third_at r L p
    | ⟨3, _⟩ => exact fourth_at r L p
  unfold Routing.weight
  rw [← hx]
  have hm := largest_at r L p x y z
  have hi := place_at r L p x y z
  rw [hm] at hi
  exact lanes_at r n _ _ _ _ _ _ _ _ _ _ (share_at r a b c d M s hM hs) hp rfl rfl hm hi (hi ▸ hide_first r L p x y z _ _) (hi ▸ hide_second r L p x y z _ _)

/-! ## The third output -/

variable (m : (ℓ : Loc nD τ sig) → Buf (Elt Ideal) ℓ) (c : Dev nD)

/-- A tile's routing logits, of the blocks the point reads. -/
abbrev logits (t : Fin cfg0.N) : FVec Ideal S32x512 .f32 :=
  k0_pay79 (attended m c t) (convoluted m c t) (iblk m c 6 t) (iblk m c 9 t) (iblk m c 14 t) (iblk m c 15 t) (iblk m c 16 t)

/-- One of a tile's groups' logits, and the largest of them. -/
abbrev group0 (t : Fin cfg0.N) : Tokens := k0_pay80 (attended m c t) (convoluted m c t) (iblk m c 6 t) (iblk m c 9 t) (iblk m c 14 t) (iblk m c 15 t) (iblk m c 16 t)
abbrev group1 (t : Fin cfg0.N) : Tokens := k0_pay81 (attended m c t) (convoluted m c t) (iblk m c 6 t) (iblk m c 9 t) (iblk m c 14 t) (iblk m c 15 t) (iblk m c 16 t)
abbrev group2 (t : Fin cfg0.N) : Tokens := k0_pay82 (attended m c t) (convoluted m c t) (iblk m c 6 t) (iblk m c 9 t) (iblk m c 14 t) (iblk m c 15 t) (iblk m c 16 t)
abbrev group3 (t : Fin cfg0.N) : Tokens := k0_pay83 (attended m c t) (convoluted m c t) (iblk m c 6 t) (iblk m c 9 t) (iblk m c 14 t) (iblk m c 15 t) (iblk m c 16 t)

theorem groups_at (t : Fin cfg0.N) (k : Fin 4) :
    quad r (group0 m c t) (group1 m c t) (group2 m c t) (group3 m c t) k = logits m c t (ix2 ⟨16 + k.val, by omega⟩ r) := by
  have h0 : group0 m c t (ix2 0 r) = logits m c t (ix2 16 r) := by pointwise [k0_pay80]
  have h1 : group1 m c t (ix2 0 r) = logits m c t (ix2 17 r) := by pointwise [k0_pay81]
  have h2 : group2 m c t (ix2 0 r) = logits m c t (ix2 18 r) := by pointwise [k0_pay82]
  have h3 : group3 m c t (ix2 0 r) = logits m c t (ix2 19 r) := by pointwise [k0_pay83]
  match k with
  | ⟨0, _⟩ => exact h0
  | ⟨1, _⟩ => exact h1
  | ⟨2, _⟩ => exact h2
  | ⟨3, _⟩ => exact h3

/-- What the kernel stores, of the groups' logits, the largest of them, the first less the largest, and all logits. -/
abbrev stores (L : FVec Ideal S32x512 .f32) (a b c d M s : Tokens) : FVec Ideal S512x128 .f32 :=
  k0_pay1
    (k0_pay101 (k0_pay86 b c d M s) (k0_pay87 a b c M) (k0_pay91 L (k0_pay87 a b c M) (k0_pay90 L)) (k0_pay92 L (k0_pay87 a b c M))
      (k0_pay93 L (k0_pay87 a b c M) (k0_pay88 L a b c M) (k0_pay89 L a b c M) (k0_pay90 L)) (k0_pay94 L (k0_pay87 a b c M) (k0_pay88 L a b c M) (k0_pay89 L a b c M) (k0_pay90 L))
      (k0_pay95 L (k0_pay87 a b c M) (k0_pay88 L a b c M) (k0_pay89 L a b c M) (k0_pay90 L)) (k0_pay96 L (k0_pay87 a b c M) (k0_pay88 L a b c M) (k0_pay89 L a b c M) (k0_pay90 L)))
    (k0_pay102 (k0_pay86 b c d M s) (k0_pay87 a b c M) (k0_pay91 L (k0_pay87 a b c M) (k0_pay90 L)) (k0_pay92 L (k0_pay87 a b c M))
      (k0_pay93 L (k0_pay87 a b c M) (k0_pay88 L a b c M) (k0_pay89 L a b c M) (k0_pay90 L)) (k0_pay94 L (k0_pay87 a b c M) (k0_pay88 L a b c M) (k0_pay89 L a b c M) (k0_pay90 L))
      (k0_pay95 L (k0_pay87 a b c M) (k0_pay88 L a b c M) (k0_pay89 L a b c M) (k0_pay90 L)) (k0_pay96 L (k0_pay87 a b c M) (k0_pay88 L a b c M) (k0_pay89 L a b c M) (k0_pay90 L)))

/-- The largest of a tile's groups' logits, and the first less the largest. -/
abbrev top (t : Fin cfg0.N) : Tokens := k0_pay84 (attended m c t) (convoluted m c t) (iblk m c 6 t) (iblk m c 9 t) (iblk m c 14 t) (iblk m c 15 t) (iblk m c 16 t)
abbrev below (t : Fin cfg0.N) : Tokens := k0_pay85 (attended m c t) (convoluted m c t) (iblk m c 6 t) (iblk m c 9 t) (iblk m c 14 t) (iblk m c 15 t) (iblk m c 16 t)

/-- What the kernel stores, of the gated merge's halves and the blocks. -/
abbrev storesOf (P Q X : FVec Ideal S512x1024 .f32) (W : FVec Ideal S1024x1024 .bf16) (g : FVec Ideal S1x1024 .f32) (R : FVec Ideal S32x1024 .bf16) (b : FVec Ideal S32x1 .f32) :
    FVec Ideal S512x128 .f32 :=
  stores (k0_pay79 P Q X W g R b) (k0_pay80 P Q X W g R b) (k0_pay81 P Q X W g R b) (k0_pay82 P Q X W g R b) (k0_pay83 P Q X W g R b) (k0_pay84 P Q X W g R b)
    (k0_pay85 P Q X W g R b)

set_option maxHeartbeats 1000000 in
theorem out_eq (t : Fin cfg0.N) :
    (outsAt0 m c t).2.2 = stores (logits m c t) (group0 m c t) (group1 m c t) (group2 m c t) (group3 m c t) (top m c t) (below m c t) := by
  unfold outsAt0
  dsimp only
  unfold out0_A_19
  rw [View.read_writes_junk_eq_canon]
  unfold kernelRun0_A
  dsimp only
  sl_unfold_words
  rw [View.canon_unit_zero (S := S512x128) off2]
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, (hs0_8 t).read_unread, (hs0_9 t).read_unread, (hs0_10 t).read_unread, (hs0_11 t).read_unread, (hs0_12 t).read_unread,
    (hs0_13 t).read_unread, (hs0_14 t).read_unread, (hs0_15 t).read_unread, (hs0_16 t).read_unread, View.ld_unit_zero (S := S512x512) off2, View.ld_unit_zero (S := S32x512) off2,
    View.ld_unit_zero (S := S512x1024) off2, View.ld_unit_zero (S := S32x1024) off2, View.ld_unit_zero (S := S32x1) off2,
    View.ld_unit_zero (S := S1024x1024) off2, View.ld_unit_zero (S := S1x512) off2, View.ld_unit_zero (S := S1x1024) off2, View.readCov_eq_canon', rows_eq]
  have e := stored (rows (k0_pay2 (grid0.coords t) (iblk m c 3 t) (iblk m c 2 t)) (k0_pay3 (iblk m c 1 t))) (iblk m c 10 t) (iblk m c 11 t) (iblk m c 12 t) (iblk m c 13 t)
  unfold logits group0 group1 group2 group3 top below attended convoluted conv
  generalize rows _ _ = X at e ⊢
  rw [← e]
  refine congrArg (fun z => storesOf (k0_pay75 (iblk m c 0 t) (iblk m c 7 t) (iblk m c 4 t)) (k0_pay76 z (iblk m c 8 t) (iblk m c 5 t)) (iblk m c 6 t) (iblk m c 9 t)
    (iblk m c 14 t) (iblk m c 15 t) (iblk m c 16 t)) (funext fun j => ?_)
  rw [whole_idx]
  refine congrFun (congrArg View.canon ?_) j
  rfl

theorem out_weights (t : Fin cfg0.N) (n : Fin 128) :
    (outsAt0 m c t).2.2 (ix2 r n) = Routing.weight (fun k => logits m c t (ix2 ⟨16 + k.val, by omega⟩ r)) (byGroup r (logits m c t)) n.val := by
  rw [out_eq]
  have hM : top m c t (ix2 0 r) = Routing.max4 (quad r (group0 m c t) (group1 m c t) (group2 m c t) (group3 m c t)) := by
    pointwise [k0_pay84]
    rfl
  have hs : below m c t (ix2 0 r) = (group0 m c t (ix2 0 r) - top m c t (ix2 0 r) : EReal) := by pointwise [k0_pay85]
  refine (weights_at r n (logits m c t) (group0 m c t) (group1 m c t) (group2 m c t) (group3 m c t) (top m c t) (below m c t) hM hs).trans ?_
  exact congrArg (fun g => Routing.weight g (byGroup r (logits m c t)) n.val) (funext fun k => groups_at r m c t k)

end Cert.Proof.MixIdeal

end
-- ==== Proof.MixIdeal.Result.lean ====
/-
  The mixing's kernel's result arrays.
-/
module

public import proofs.«01_k».proof.Proof.MixIdeal.Combine
public import proofs.«01_k».proof.Proof.Gen.MixIdeal.Value
public import Idealize.ShloMosaic.Lib.StableHlo.ReadAt
public import Idealize.ShloMosaic.Lib.KernelVsHost

@[expose] public section

set_option maxRecDepth 16384

noncomputable section

namespace Cert.Proof.MixIdeal

open Idealize.ShloMosaic Idealize.ShloMosaic.TcCoe Idealize.ShloMosaic.Pointwise
open Cert.MixIdeal Cert.MixIdeal.Gen Cert.MixIdeal.Value Cert.Experts Cert.Projections Cert.Mixing

variable (m : (ℓ : Loc nD τ sig) → Buf (Elt Ideal) ℓ) (c : Dev nD)

/-- The arguments. -/
def arrays : Arrays where
  att := m ((c : Thread nD τ).loc main_arg0)
  unit := m ((c : Thread nD τ).loc main_arg1)
  metaUnit := m ((c : Thread nD τ).loc main_arg2)
  gateA := m ((c : Thread nD τ).loc main_arg3)
  gateC := m ((c : Thread nD τ).loc main_arg4)
  x := m ((c : Thread nD τ).loc main_arg5)
  wAtt := m ((c : Thread nD τ).loc main_arg6)
  wConv := m ((c : Thread nD τ).loc main_arg7)
  wOut := m ((c : Thread nD τ).loc main_arg8)
  kernel := m ((c : Thread nD τ).loc main_arg9)
  bias := m ((c : Thread nD τ).loc main_arg10)
  gain := m ((c : Thread nD τ).loc main_arg11)
  shift := m ((c : Thread nD τ).loc main_arg12)
  gainOut := m ((c : Thread nD τ).loc main_arg13)
  wGroup := m ((c : Thread nD τ).loc main_arg14)
  bGroup := m ((c : Thread nD τ).loc main_arg15)
  wExpert := m ((c : Thread nD τ).loc main_arg16)
  bExpert := m ((c : Thread nD τ).loc main_arg17)

/-! ## What the host hands over -/

theorem V_halo (p : Fin 32) (j : Fin 512) :
    V m c main_v0 (ix2 p j) = if h : p.val < 16 then 0 else (arrays m c).metaUnit (ix2 ⟨p.val - 16, by omega⟩ j) := by
  unfold V hostOps0 hostOps0_1 hostOps0_2 hostOps0_3 hostOps0_4 hostOps0_5 hostOps0_6
  after_reads_at
  by_cases h : p.val < 16
  · refine (dif_neg (by omega)).trans (Eq.trans ?_ (dif_pos h).symm)
    show (((0#32 : BitVec 32).toInt : ℝ) : EReal) = 0
    simp
  · refine (dif_pos ⟨by omega, by omega⟩).trans (Eq.trans ?_ (dif_neg h).symm)
    rfl

theorem V_wAtt (i : Fin 512) (k : Fin 1024) : V m c main_v8 (ix2 i k) = (arrays m c).wAtt (ix2 i k) := by
  unfold V hostOps0 hostOps0_1 hostOps0_2 hostOps0_3 hostOps0_4 hostOps0_5 hostOps0_6
  after_reads_at
  rfl

theorem V_wConv (i : Fin 512) (k : Fin 1024) : V m c main_v9 (ix2 i k) = (arrays m c).wConv (ix2 i k) := by
  unfold V hostOps0 hostOps0_1 hostOps0_2 hostOps0_3 hostOps0_4 hostOps0_5 hostOps0_6
  after_reads_at
  rfl

theorem V_wOut (i k : Fin 1024) : V m c main_v10 (ix2 i k) = (arrays m c).wOut (ix2 i k) := by
  unfold V hostOps0 hostOps0_1 hostOps0_2 hostOps0_3 hostOps0_4 hostOps0_5 hostOps0_6
  after_reads_at
  rfl

theorem V_bias (j : Fin 512) : V m c main_v11 (ix2 0 j) = (arrays m c).bias (ix1 j) := by
  unfold V hostOps0 hostOps0_1 hostOps0_2 hostOps0_3 hostOps0_4 hostOps0_5 hostOps0_6
  after_reads_at
  rfl

theorem V_gain (j : Fin 512) : V m c main_v12 (ix2 0 j) = (arrays m c).gain (ix1 j) := by
  unfold V hostOps0 hostOps0_1 hostOps0_2 hostOps0_3 hostOps0_4 hostOps0_5 hostOps0_6
  after_reads_at
  rfl

theorem V_shift (j : Fin 512) : V m c main_v13 (ix2 0 j) = (arrays m c).shift (ix1 j) := by
  unfold V hostOps0 hostOps0_1 hostOps0_2 hostOps0_3 hostOps0_4 hostOps0_5 hostOps0_6
  after_reads_at
  rfl

theorem V_gainOut (j : Fin 1024) : V m c main_v14 (ix2 0 j) = (arrays m c).gainOut (ix1 j) := by
  unfold V hostOps0 hostOps0_1 hostOps0_2 hostOps0_3 hostOps0_4 hostOps0_5 hostOps0_6
  after_reads_at
  rfl

/-- The routers' weights and shifts as the kernel is given them. -/
abbrev router : Mat 32 1024 := V m c main_v4
abbrev routerBias : Mat 32 1 := V m c main_v7

/-- The routers' weights: the experts', the groups', and rows of padding. -/
theorem V_router (i : Fin 32) (d : Fin 1024) (h : i.val < 20) : router m c (ix2 i d)
    = if h' : i.val < 16 then (arrays m c).wExpert (ix2 d ⟨i.val, h'⟩) else (arrays m c).wGroup (ix2 d ⟨i.val - 16, by omega⟩) := by
  unfold router V hostOps0 hostOps0_1 hostOps0_2 hostOps0_3 hostOps0_4 hostOps0_5 hostOps0_6
  after_reads_at
  refine (dif_pos (by omega)).trans ?_
  by_cases h' : i.val < 16
  · refine (dif_pos h').trans (Eq.trans ?_ (dif_pos h').symm)
    rfl
  · refine (dif_neg h').trans (Eq.trans ?_ (dif_neg h').symm)
    rfl

theorem V_routerBias (i : Fin 32) (h : i.val < 20) : routerBias m c (ix2 i 0)
    = if h' : i.val < 16 then (arrays m c).bExpert (ix1 ⟨i.val, h'⟩) else (arrays m c).bGroup (ix1 ⟨i.val - 16, by omega⟩) := by
  unfold routerBias V hostOps0 hostOps0_1 hostOps0_2 hostOps0_3 hostOps0_4 hostOps0_5 hostOps0_6
  after_reads_at
  refine (dif_pos (by omega)).trans ?_
  by_cases h' : i.val < 16
  · refine (dif_pos h').trans (Eq.trans ?_ (dif_pos h').symm)
    rfl
  · refine (dif_neg h').trans (Eq.trans ?_ (dif_neg h').symm)
    rfl

/-! ## The blocks of a grid point -/

theorem at2 {n k : ℕ} {x : (⟨2, ![n, k]⟩ : Shape).Idx} {a : Fin n} {b : Fin k} (h0 : (x 0).val = a.val) (h1 : (x 1).val = b.val) : x = ix2 a b := by
  funext i
  match i with
  | ⟨0, _⟩ => exact Fin.ext h0
  | ⟨1, _⟩ => exact Fin.ext h1

theorem lt_N (t : Fin cfg0.N) : t.val < 128 := t.isLt

/-- The token in row `r` of a point's block. -/
abbrev tok (t : Fin cfg0.N) (r : Fin 512) : Fin 65536 := ⟨512 * t.val + r.val, by have := lt_N t; omega⟩

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index17 : ∀ t : Fin grid0.N, win0_17.index t 0 = t.val ∧ win0_17.index t 1 = 0 := by decide +kernel
theorem index18 : ∀ t : Fin grid0.N, win0_18.index t 0 = t.val ∧ win0_18.index t 1 = 0 := by decide +kernel
theorem index2 : ∀ t : Fin grid0.N, win0_2.index t 0 = 16 * t.val - 1 ∧ win0_2.index t 1 = 0 := by decide +kernel
theorem index3 : ∀ t : Fin grid0.N, win0_3.index t 0 = 0 ∧ win0_3.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel
theorem index10 : ∀ t : Fin grid0.N, win0_10.index t 0 = 0 ∧ win0_10.index t 1 = 0 := by decide +kernel
theorem index11 : ∀ t : Fin grid0.N, win0_11.index t 0 = 0 ∧ win0_11.index t 1 = 0 := by decide +kernel
theorem index12 : ∀ t : Fin grid0.N, win0_12.index t 0 = 0 ∧ win0_12.index t 1 = 0 := by decide +kernel
theorem index13 : ∀ t : Fin grid0.N, win0_13.index t 0 = 0 ∧ win0_13.index t 1 = 0 := by decide +kernel
theorem index14 : ∀ t : Fin grid0.N, win0_14.index t 0 = 0 ∧ win0_14.index t 1 = 0 := by decide +kernel

theorem index15 : ∀ t : Fin grid0.N, win0_15.index t 0 = 0 ∧ win0_15.index t 1 = 0 := by decide +kernel
theorem index16 : ∀ t : Fin grid0.N, win0_16.index t 0 = 0 ∧ win0_16.index t 1 = 0 := by decide +kernel
theorem index19 : ∀ t : Fin grid0.N, win0_19.index t 0 = t.val ∧ win0_19.index t 1 = 0 := by decide +kernel

theorem blk0 (t : Fin cfg0.N) (r : Fin 512) (j : Fin 512) : iblk m c 0 t (ix2 r j) = (arrays m c).att (ix2 (tok t r) j) := by
  obtain ⟨e0, e1⟩ := index0 t
  show V m c main_arg0 (((cfg0.win 0).blk t).view.emb (ix2 r j)) = _
  rw [V_main_arg0]
  exact congrArg (arrays m c).att (at2 (show win0_0.index t (0 : Fin 2) * 512 + 1 * r.val = 512 * t.val + r.val by omega)
    (show win0_0.index t (1 : Fin 2) * 512 + 1 * j.val = j.val by omega))

theorem blk1 (t : Fin cfg0.N) (r : Fin 512) (j : Fin 512) : iblk m c 1 t (ix2 r j) = (arrays m c).unit (ix2 (tok t r) j) := by
  obtain ⟨e0, e1⟩ := index1 t
  show V m c main_arg1 (((cfg0.win 1).blk t).view.emb (ix2 r j)) = _
  rw [V_main_arg1]
  exact congrArg (arrays m c).unit (at2 (show win0_1.index t (0 : Fin 2) * 512 + 1 * r.val = 512 * t.val + r.val by omega)
    (show win0_1.index t (1 : Fin 2) * 512 + 1 * j.val = j.val by omega))

theorem blk4 (t : Fin cfg0.N) (r : Fin 512) (j : Fin 1024) : iblk m c 4 t (ix2 r j) = (arrays m c).gateA (ix2 (tok t r) j) := by
  obtain ⟨e0, e1⟩ := index4 t
  show V m c main_arg3 (((cfg0.win 4).blk t).view.emb (ix2 r j)) = _
  rw [V_main_arg3]
  exact congrArg (arrays m c).gateA (at2 (show win0_4.index t (0 : Fin 2) * 512 + 1 * r.val = 512 * t.val + r.val by omega)
    (show win0_4.index t (1 : Fin 2) * 1024 + 1 * j.val = j.val by omega))

theorem blk5 (t : Fin cfg0.N) (r : Fin 512) (j : Fin 1024) : iblk m c 5 t (ix2 r j) = (arrays m c).gateC (ix2 (tok t r) j) := by
  obtain ⟨e0, e1⟩ := index5 t
  show V m c main_arg4 (((cfg0.win 5).blk t).view.emb (ix2 r j)) = _
  rw [V_main_arg4]
  exact congrArg (arrays m c).gateC (at2 (show win0_5.index t (0 : Fin 2) * 512 + 1 * r.val = 512 * t.val + r.val by omega)
    (show win0_5.index t (1 : Fin 2) * 1024 + 1 * j.val = j.val by omega))

theorem blk6 (t : Fin cfg0.N) (r : Fin 512) (j : Fin 1024) : iblk m c 6 t (ix2 r j) = (arrays m c).x (ix2 (tok t r) j) := by
  obtain ⟨e0, e1⟩ := index6 t
  show V m c main_arg5 (((cfg0.win 6).blk t).view.emb (ix2 r j)) = _
  rw [V_main_arg5]
  exact congrArg (arrays m c).x (at2 (show win0_6.index t (0 : Fin 2) * 512 + 1 * r.val = 512 * t.val + r.val by omega)
    (show win0_6.index t (1 : Fin 2) * 1024 + 1 * j.val = j.val by omega))

/-- The 32 rows before the tile, but for the first. -/
theorem blk2 (t : Fin cfg0.N) (ht : 0 < t.val) (r : Fin 32) (j : Fin 512) :
    iblk m c 2 t (ix2 r j) = (arrays m c).unit (ix2 ⟨512 * t.val + r.val - 32, by have := lt_N t; omega⟩ j) := by
  obtain ⟨e0, e1⟩ := index2 t
  show V m c main_arg1 (((cfg0.win 2).blk t).view.emb (ix2 r j)) = _
  rw [V_main_arg1]
  exact congrArg (arrays m c).unit (at2 (show win0_2.index t (0 : Fin 2) * 32 + 1 * r.val = 512 * t.val + r.val - 32 by omega)
    (show win0_2.index t (1 : Fin 2) * 512 + 1 * j.val = j.val by omega))

theorem blk3 (t : Fin cfg0.N) (r : Fin 32) (j : Fin 512) :
    iblk m c 3 t (ix2 r j) = if h : r.val < 16 then 0 else (arrays m c).metaUnit (ix2 ⟨r.val - 16, by omega⟩ j) := by
  obtain ⟨e0, e1⟩ := index3 t
  refine Eq.trans ?_ (V_halo m c r j)
  exact congrArg (V m c main_v0) (at2 (show win0_3.index t (0 : Fin 2) * 32 + 1 * r.val = r.val by omega)
    (show win0_3.index t (1 : Fin 2) * 512 + 1 * j.val = j.val by omega))

theorem blk10 (t : Fin cfg0.N) (k : Fin 31) (j : Fin 512) : iblk m c 10 t (ix2 k j) = (arrays m c).kernel (ix2 k j) := by
  obtain ⟨e0, e1⟩ := index10 t
  show V m c main_arg9 (((cfg0.win 10).blk t).view.emb (ix2 k j)) = _
  rw [V_main_arg9]
  exact congrArg (arrays m c).kernel (at2 (show win0_10.index t (0 : Fin 2) * 31 + 1 * k.val = k.val by omega)
    (show win0_10.index t (1 : Fin 2) * 512 + 1 * j.val = j.val by omega))

theorem blk7 (t : Fin cfg0.N) (i : Fin 512) (j : Fin 1024) : iblk m c 7 t (ix2 i j) = (arrays m c).wAtt (ix2 i j) := by
  obtain ⟨e0, e1⟩ := index7 t
  refine Eq.trans ?_ (V_wAtt m c i j)
  exact congrArg (V m c main_v8) (at2 (show win0_7.index t (0 : Fin 2) * 512 + 1 * i.val = i.val by omega)
    (show win0_7.index t (1 : Fin 2) * 1024 + 1 * j.val = j.val by omega))

theorem blk8 (t : Fin cfg0.N) (i : Fin 512) (j : Fin 1024) : iblk m c 8 t (ix2 i j) = (arrays m c).wConv (ix2 i j) := by
  obtain ⟨e0, e1⟩ := index8 t
  refine Eq.trans ?_ (V_wConv m c i j)
  exact congrArg (V m c main_v9) (at2 (show win0_8.index t (0 : Fin 2) * 512 + 1 * i.val = i.val by omega)
    (show win0_8.index t (1 : Fin 2) * 1024 + 1 * j.val = j.val by omega))

theorem blk9 (t : Fin cfg0.N) (i : Fin 1024) (j : Fin 1024) : iblk m c 9 t (ix2 i j) = (arrays m c).wOut (ix2 i j) := by
  obtain ⟨e0, e1⟩ := index9 t
  refine Eq.trans ?_ (V_wOut m c i j)
  exact congrArg (V m c main_v10) (at2 (show win0_9.index t (0 : Fin 2) * 1024 + 1 * i.val = i.val by omega)
    (show win0_9.index t (1 : Fin 2) * 1024 + 1 * j.val = j.val by omega))

theorem blk11 (t : Fin cfg0.N) (j : Fin 512) : iblk m c 11 t (ix2 0 j) = (arrays m c).bias (ix1 j) := by
  obtain ⟨e0, e1⟩ := index11 t
  refine Eq.trans ?_ (V_bias m c j)
  exact congrArg (V m c main_v11) (at2 (show win0_11.index t (0 : Fin 2) * 1 + 1 * 0 = 0 by omega)
    (show win0_11.index t (1 : Fin 2) * 512 + 1 * j.val = j.val by omega))

theorem blk12 (t : Fin cfg0.N) (j : Fin 512) : iblk m c 12 t (ix2 0 j) = (arrays m c).gain (ix1 j) := by
  obtain ⟨e0, e1⟩ := index12 t
  refine Eq.trans ?_ (V_gain m c j)
  exact congrArg (V m c main_v12) (at2 (show win0_12.index t (0 : Fin 2) * 1 + 1 * 0 = 0 by omega)
    (show win0_12.index t (1 : Fin 2) * 512 + 1 * j.val = j.val by omega))

theorem blk13 (t : Fin cfg0.N) (j : Fin 512) : iblk m c 13 t (ix2 0 j) = (arrays m c).shift (ix1 j) := by
  obtain ⟨e0, e1⟩ := index13 t
  refine Eq.trans ?_ (V_shift m c j)
  exact congrArg (V m c main_v13) (at2 (show win0_13.index t (0 : Fin 2) * 1 + 1 * 0 = 0 by omega)
    (show win0_13.index t (1 : Fin 2) * 512 + 1 * j.val = j.val by omega))

theorem blk14 (t : Fin cfg0.N) (j : Fin 1024) : iblk m c 14 t (ix2 0 j) = (arrays m c).gainOut (ix1 j) := by
  obtain ⟨e0, e1⟩ := index14 t
  refine Eq.trans ?_ (V_gainOut m c j)
  exact congrArg (V m c main_v14) (at2 (show win0_14.index t (0 : Fin 2) * 1 + 1 * 0 = 0 by omega)
    (show win0_14.index t (1 : Fin 2) * 1024 + 1 * j.val = j.val by omega))

theorem blk15 (t : Fin cfg0.N) (i : Fin 32) (d : Fin 1024) : iblk m c 15 t (ix2 i d) = router m c (ix2 i d) := by
  obtain ⟨e0, e1⟩ := index15 t
  exact congrArg (router m c) (at2 (show win0_15.index t (0 : Fin 2) * 32 + 1 * i.val = i.val by omega)
    (show win0_15.index t (1 : Fin 2) * 1024 + 1 * d.val = d.val by omega))

theorem blk16 (t : Fin cfg0.N) (i : Fin 32) : iblk m c 16 t (ix2 i 0) = routerBias m c (ix2 i 0) := by
  obtain ⟨e0, e1⟩ := index16 t
  exact congrArg (routerBias m c) (at2 (show win0_16.index t (0 : Fin 2) * 32 + 1 * i.val = i.val by omega)
    (show win0_16.index t (1 : Fin 2) * 1 + 1 * 0 = 0 by omega))

/-! ## The convolution -/

/-- Row `r + 2 + k` of the buffer is what tap `k` reads at row `r` of the tile. -/
theorem rows_tap (t : Fin cfg0.N) (r : Fin 512) (k : Fin 31) (j : Fin 512) :
    rows (k0_pay2 (grid0.coords t) (iblk m c 3 t) (iblk m c 2 t)) (k0_pay3 (iblk m c 1 t)) (ix2 ⟨r.val + 2 + k.val, by omega⟩ j)
      = tap (arrays m c) (tok t r) k j := by
  have ht := lt_N t
  have hs : (tok t r).val % 8192 = 512 * (t.val % 16) + r.val := by show (512 * t.val + r.val) % 8192 = _; omega
  unfold rows tap
  by_cases h : r.val + 2 + k.val < 32
  · refine (dif_pos h).trans ((halo_at t _ _ ⟨r.val + 2 + k.val, h⟩ j).trans ?_)
    by_cases hf : t.val % 16 = 0
    · refine (if_pos hf).trans ((blk3 m c t _ j).trans ?_)
      by_cases hz : r.val + 2 + k.val < 16
      · exact (dif_pos hz).trans (if_pos (by omega)).symm
      · refine (dif_neg hz).trans (Eq.trans ?_ ((if_neg (by omega)).trans (dif_pos (by omega))).symm)
        refine congrArg (fun i => (arrays m c).metaUnit (ix2 i j)) (Fin.ext ?_)
        show r.val + 2 + k.val - 16 = (tok t r).val % 8192 + k.val + 2 - 16
        omega
    · refine (if_neg hf).trans ((blk2 m c t (by omega) _ j).trans (Eq.trans ?_ ((if_neg (by omega)).trans (dif_neg (by omega))).symm))
      refine congrArg (fun i => (arrays m c).unit (ix2 i j)) (Fin.ext ?_)
      show 512 * t.val + (r.val + 2 + k.val) - 32 = 512 * t.val + r.val + k.val - 30
      omega
  · refine (dif_neg h).trans ((body_at _ _ j).trans ((blk1 m c t _ j).trans (Eq.trans ?_ ((if_neg (by omega)).trans (dif_neg (by omega))).symm)))
    refine congrArg (fun i => (arrays m c).unit (ix2 i j)) (Fin.ext ?_)
    show 512 * t.val + (r.val + 2 + k.val - 32) = 512 * t.val + r.val + k.val - 30
    omega

theorem weight_at (W : FVec Ideal S31x512 .f32) (k : Fin 31) (j : Fin 512) : weight W k (ix2 0 j) = W (ix2 k j) :=
  congrArg W (at2 (show k.val + 1 * 0 = k.val by omega) (show 0 + 1 * j.val = j.val by omega))

theorem window_at (X : FVec Ideal S544x512 .f32) (q : Fin 8) (k : Fin 31) (s : Fin 64) (r : Fin 512) (hr : r.val = 64 * q.val + s.val) (j : Fin 512) :
    window X q k (ix2 s j) = X (ix2 ⟨r.val + 2 + k.val, by omega⟩ j) :=
  congrArg X (at2 (show 64 * q.val + 2 + k.val + 1 * s.val = r.val + 2 + k.val by omega) (show 0 + 1 * j.val = j.val by omega))

/-- Convolved tokens, of a buffer and parameters that are the arrays'. -/
theorem conv_of (A : Arrays) (X : FVec Ideal S544x512 .f32) (W : FVec Ideal S31x512 .f32) (b g h : Lane) (n : Fin 65536) (r : Fin 512)
    (hX : ∀ (k : Fin 31) (i : Fin 512), X (ix2 ⟨r.val + 2 + k.val, by omega⟩ i) = tap A n k i) (hW : ∀ (k : Fin 31) (i : Fin 512), W (ix2 k i) = A.kernel (ix2 k i))
    (hb : ∀ i : Fin 512, b (ix2 0 i) = A.bias (ix1 i)) (hg : ∀ i : Fin 512, g (ix2 0 i) = A.gain (ix1 i)) (hh : ∀ i : Fin 512, h (ix2 0 i) = A.shift (ix1 i))
    (j : Fin 512) : convolved X W b g h (ix2 r j) = branch A n j := by
  unfold convolved
  refine (slab_at _ _ _ _ _ _ j).trans ?_
  unfold branch
  rw [← hg, ← hh]
  refine congrArg (fun y => silu (layerNorm y _ _ j)) (funext fun i => ?_)
  unfold Mixing.conv
  refine congrArg₂ (fun a b : EReal => a + b) (hb i) (Finset.sum_congr rfl fun k _ => congrArg₂ (fun a b : EReal => a * b) ?_ ?_)
  · exact (weight_at W k i).trans (hW k i)
  · exact (window_at X _ k _ r (by show r.val = 64 * (r.val / 64) + r.val % 64; omega) i).trans (hX k i)

theorem conv_at (t : Fin cfg0.N) (r : Fin 512) (j : Fin 512) : conv m c t (ix2 r j) = branch (arrays m c) (tok t r) j :=
  conv_of (arrays m c) _ _ _ _ _ (tok t r) r (rows_tap m c t r) (blk10 m c t) (blk11 m c t) (blk12 m c t) (blk13 m c t) j

/-! ## The two outputs at a token -/

theorem merged_at (t : Fin cfg0.N) (r : Fin 512) (k : Fin 1024) :
    (attended m c t (ix2 r k) + convoluted m c t (ix2 r k) : EReal) = merged (arrays m c) (tok t r) k := by
  unfold merged
  refine congrArg₂ (fun a b : EReal => a + b) ((attended_at _ _ _ r k).trans ?_) ((convoluted_at _ _ _ r k).trans ?_)
  · exact congrArg₂ (fun a b : EReal => a * b) (blk4 m c t r k) (Finset.sum_congr rfl fun i _ => congrArg₂ (fun a b : EReal => a * b) (blk0 m c t r i) (blk7 m c t i k))
  · exact congrArg₂ (fun a b : EReal => a * b) (blk5 m c t r k) (Finset.sum_congr rfl fun i _ => congrArg₂ (fun a b : EReal => a * b) (conv_at m c t r i) (blk8 m c t i k))

theorem out_hidden (t : Fin cfg0.N) (r : Fin 512) (d : Fin 1024) :
    k0_pay77 (F := Ideal) (attended m c t) (convoluted m c t) (iblk m c 6 t) (iblk m c 9 t) (ix2 r d) = hidden (arrays m c) (ix2 (tok t r) d) := by
  refine (hidden_at _ _ _ _ r d).trans ?_
  exact congrArg₂ (fun a b : EReal => a + b) (blk6 m c t r d)
    (Finset.sum_congr rfl fun k _ => congrArg₂ (fun a b : EReal => a * b) (merged_at m c t r k) (blk9 m c t k d))

theorem out_normed (t : Fin cfg0.N) (r : Fin 512) (d : Fin 1024) :
    k0_pay78 (F := Ideal) (attended m c t) (convoluted m c t) (iblk m c 6 t) (iblk m c 9 t) (iblk m c 14 t) (ix2 r d) = normed (arrays m c) (ix2 (tok t r) d) := by
  refine (normed_at _ _ _ _ _ r d).trans ?_
  have hy : (fun k => k0_pay77 (F := Ideal) (attended m c t) (convoluted m c t) (iblk m c 6 t) (iblk m c 9 t) (ix2 r k)) = fun k => hidden (arrays m c) (ix2 (tok t r) k) :=
    funext fun k => out_hidden m c t r k
  exact congrArg₂ (fun y s => norm y s d) hy (blk14 m c t d)

theorem logit_at (t : Fin cfg0.N) (i : Fin 32) (r : Fin 512) : logits m c t (ix2 i r)
    = ((∑ d : Fin 1024, router m c (ix2 i d) * normed (arrays m c) (ix2 (tok t r) d)) + routerBias m c (ix2 i 0) : EReal) := by
  refine (logits_at _ _ _ _ _ _ _ i r).trans ?_
  exact congrArg₂ (fun a b : EReal => a + b) (Finset.sum_congr rfl fun d _ => congrArg₂ (fun a b : EReal => a * b) (blk15 m c t i d) (out_normed m c t r d)) (blk16 m c t i)

theorem group_at (t : Fin cfg0.N) (r : Fin 512) (k : Fin 4) : logits m c t (ix2 ⟨16 + k.val, by omega⟩ r) = groups (arrays m c) (tok t r) k := by
  refine (logit_at m c t _ r).trans ?_
  have hk : (⟨16 + k.val - 16, by omega⟩ : Fin 4) = k := Fin.ext (by show 16 + k.val - 16 = k.val; omega)
  have hw : ∀ d, router m c (ix2 ⟨16 + k.val, by omega⟩ d) = (arrays m c).wGroup (ix2 d k) := fun d => by
    rw [V_router m c _ d (show 16 + k.val < 20 by omega), dif_neg (show ¬ 16 + k.val < 16 by omega)]
    exact congrArg (fun i => (arrays m c).wGroup (ix2 d i)) hk
  have hb : routerBias m c (ix2 ⟨16 + k.val, by omega⟩ 0) = (arrays m c).bGroup (ix1 k) := by
    rw [V_routerBias m c _ (show 16 + k.val < 20 by omega), dif_neg (show ¬ 16 + k.val < 16 by omega)]
    exact congrArg (fun i => (arrays m c).bGroup (ix1 i)) hk
  unfold groups
  rw [hb]
  exact congrArg (fun s : EReal => s + _) (Finset.sum_congr rfl fun d _ => (congrArg (fun w : EReal => w * _) (hw d)).trans (mul_comm _ _))

theorem expert_at (t : Fin cfg0.N) (r : Fin 512) (k j : Fin 4) : byGroup r (logits m c t) k j = experts (arrays m c) (tok t r) k j := by
  refine (logit_at m c t _ r).trans ?_
  have hw : ∀ d, router m c (ix2 ⟨k.val * 4 + j.val, by omega⟩ d) = (arrays m c).wExpert (ix2 d ⟨k.val * 4 + j.val, by omega⟩) := fun d => by
    rw [V_router m c _ d (show k.val * 4 + j.val < 20 by omega), dif_pos (show k.val * 4 + j.val < 16 by omega)]
  have hb : routerBias m c (ix2 ⟨k.val * 4 + j.val, by omega⟩ 0) = (arrays m c).bExpert (ix1 ⟨k.val * 4 + j.val, by omega⟩) := by
    rw [V_routerBias m c _ (show k.val * 4 + j.val < 20 by omega), dif_pos (show k.val * 4 + j.val < 16 by omega)]
  unfold experts
  rw [hb]
  exact congrArg (fun s : EReal => s + _) (Finset.sum_congr rfl fun d _ => (congrArg (fun w : EReal => w * _) (hw d)).trans (mul_comm _ _))

theorem out_combine (ha : Finite (arrays m c)) (t : Fin cfg0.N) (r : Fin 512) (n : Fin 128) : (outsAt0 m c t).2.2 (ix2 r n) = combine (arrays m c) (ix2 (tok t r) n) := by
  refine (out_weights r m c t n).trans (Eq.trans ?_ (weight_combine ha (tok t r) n))
  exact congrArg₂ (fun g e => Routing.weight g e n.val) (funext fun k => group_at m c t r k) (funext fun k => funext fun j => expert_at m c t r k j)

/-! ## The result arrays -/

/-- The point at which a token's rows are stored, and its row there. -/
abbrev pt (n : Fin 65536) : Fin cfg0.N := ⟨n.val / 512, by show _ < 128; omega⟩
abbrev row (n : Fin 65536) : Fin 512 := ⟨n.val % 512, by omega⟩

theorem tok_pt (n : Fin 65536) : tok (pt n) (row n) = n := Fin.ext (by show 512 * (n.val / 512) + n.val % 512 = n.val; omega)

theorem pair {n k : ℕ} (x : (⟨2, ![n, k]⟩ : Shape).Idx) : ∃ (a : Fin n) (b : Fin k), x = ix2 a b := ⟨x 0, x 1, at2 rfl rfl⟩

theorem flush17 : ∀ t : Fin grid0.N, win0_17.flush t = true := by decide +kernel

theorem emb17 (t : Fin cfg0.N) (r : Fin 512) (d : Fin 1024) : ((cfg0.win 17).blk t).view.emb (ix2 r d) = ix2 (tok t r) d := by
  obtain ⟨e0, e1⟩ := index17 t
  exact at2 (show win0_17.index t (0 : Fin 2) * 512 + 1 * r.val = 512 * t.val + r.val by omega) (show win0_17.index t (1 : Fin 2) * 1024 + 1 * d.val = d.val by omega)

theorem arr17 : (dats m 0 c).arrAt 17 cfg0.N = hidden (arrays m c) := by
  refine (dats m 0 c).arrAt_eq_of_cover 17 (hidden (arrays m c)) (fun t _ => ?_) fun x => ?_
  · funext y
    obtain ⟨r, d, rfl⟩ := pair y
    rw [flushed17, (outs_eq m c t).1]
    show k0_pay77 (F := Ideal) (attended m c t) (convoluted m c t) (iblk m c 6 t) (iblk m c 9 t) (ix2 r d) = hidden (arrays m c) (((cfg0.win 17).blk t).view.emb (ix2 r d))
    rw [emb17, out_hidden]
  · obtain ⟨n, d, rfl⟩ := pair x
    have h := ((cfg0.win 17).blk (pt n)).view.emb_mem_set (ix2 (row n) d)
    rw [emb17, tok_pt] at h
    exact ⟨pt n, flush17 _, h⟩

theorem flush18 : ∀ t : Fin grid0.N, win0_18.flush t = true := by decide +kernel

theorem emb18 (t : Fin cfg0.N) (r : Fin 512) (d : Fin 1024) : ((cfg0.win 18).blk t).view.emb (ix2 r d) = ix2 (tok t r) d := by
  obtain ⟨e0, e1⟩ := index18 t
  exact at2 (show win0_18.index t (0 : Fin 2) * 512 + 1 * r.val = 512 * t.val + r.val by omega) (show win0_18.index t (1 : Fin 2) * 1024 + 1 * d.val = d.val by omega)

theorem arr18 : (dats m 0 c).arrAt 18 cfg0.N = normed (arrays m c) := by
  refine (dats m 0 c).arrAt_eq_of_cover 18 (normed (arrays m c)) (fun t _ => ?_) fun x => ?_
  · funext y
    obtain ⟨r, d, rfl⟩ := pair y
    rw [flushed18, (outs_eq m c t).2]
    show k0_pay78 (F := Ideal) (attended m c t) (convoluted m c t) (iblk m c 6 t) (iblk m c 9 t) (iblk m c 14 t) (ix2 r d) = normed (arrays m c) (((cfg0.win 18).blk t).view.emb (ix2 r d))
    rw [emb18, out_normed]
  · obtain ⟨n, d, rfl⟩ := pair x
    have h := ((cfg0.win 18).blk (pt n)).view.emb_mem_set (ix2 (row n) d)
    rw [emb18, tok_pt] at h
    exact ⟨pt n, flush18 _, h⟩

theorem flush19 : ∀ t : Fin grid0.N, win0_19.flush t = true := by decide +kernel

theorem emb19 (t : Fin cfg0.N) (r : Fin 512) (n : Fin 128) : ((cfg0.win 19).blk t).view.emb (ix2 r n) = ix2 (tok t r) n := by
  obtain ⟨e0, e1⟩ := index19 t
  exact at2 (show win0_19.index t (0 : Fin 2) * 512 + 1 * r.val = 512 * t.val + r.val by omega) (show win0_19.index t (1 : Fin 2) * 128 + 1 * n.val = n.val by omega)

theorem arr19 (ha : Finite (arrays m c)) : (dats m 0 c).arrAt 19 cfg0.N = combine (arrays m c) := by
  refine (dats m 0 c).arrAt_eq_of_cover 19 (combine (arrays m c)) (fun t _ => ?_) fun x => ?_
  · funext y
    obtain ⟨r, n, rfl⟩ := pair y
    rw [flushed19]
    show (outsAt0 m c t).2.2 (ix2 r n) = combine (arrays m c) (((cfg0.win 19).blk t).view.emb (ix2 r n))
    rw [emb19, out_combine m c ha]
  · obtain ⟨k, n, rfl⟩ := pair x
    have h := ((cfg0.win 19).blk (pt k)).view.emb_mem_set (ix2 (row k) n)
    rw [emb19, tok_pt] at h
    exact ⟨pt k, flush19 _, h⟩

end Cert.Proof.MixIdeal

end
-- ==== Proof.MixRefIdeal.Value.lean ====
/-
  The mixing's reference read at an index.
-/
module

public import proofs.«01_k».proof.Proof.Gen.MixRefIdeal.Run
public import proofs.«01_k».proof.Proof.Mixing

@[expose] public section

set_option maxRecDepth 16384

noncomputable section

namespace Cert.Proof.MixRefIdeal

open Idealize.ShloMosaic Idealize.ShloMosaic.Pointwise
open Cert.MixRefIdeal Cert.MixRefIdeal.Gen Cert.MixRefIdeal.Value Cert.Experts Cert.Projections Cert.Mixing

variable (V : Valuation τ sig (Elt Ideal))

/-- The arguments. -/
def arrays : Arrays where
  att := V (Proc.devRef .tc main_arg0)
  unit := V (Proc.devRef .tc main_arg1)
  metaUnit := V (Proc.devRef .tc main_arg2)
  gateA := V (Proc.devRef .tc main_arg3)
  gateC := V (Proc.devRef .tc main_arg4)
  x := V (Proc.devRef .tc main_arg5)
  wAtt := V (Proc.devRef .tc main_arg6)
  wConv := V (Proc.devRef .tc main_arg7)
  wOut := V (Proc.devRef .tc main_arg8)
  kernel := V (Proc.devRef .tc main_arg9)
  bias := V (Proc.devRef .tc main_arg10)
  gain := V (Proc.devRef .tc main_arg11)
  shift := V (Proc.devRef .tc main_arg12)
  gainOut := V (Proc.devRef .tc main_arg13)
  wGroup := V (Proc.devRef .tc main_arg14)
  bGroup := V (Proc.devRef .tc main_arg15)
  wExpert := V (Proc.devRef .tc main_arg16)
  bExpert := V (Proc.devRef .tc main_arg17)

/-- Token `s` of sequence `b`. -/
abbrev tok (b : Fin 8) (s : Fin 8192) : Fin 65536 := ⟨b.val * 8192 + s.val, by omega⟩

/-- The sequences behind their meta tokens and the 30 rows of padding. -/
theorem padded_at (b : Fin 8) (s : Fin 8192) (k : Fin 31) (j : Fin 512) :
    res_main_v6 V (ix3 b ⟨16 + k.val + s.val, by omega⟩ j) = tap (arrays V) (tok b s) k j := by
  have hs : (tok b s).val % 8192 = s.val := by show (b.val * 8192 + s.val) % 8192 = s.val; omega
  pointwise [res_main_v6]
  unfold tap
  by_cases h1 : s.val + k.val + 2 < 16
  · refine (dif_neg (by omega)).trans (Eq.trans ?_ (if_pos (by omega)).symm)
    show (((0#32 : BitVec 32).toInt : ℝ) : EReal) = 0
    simp
  · refine (dif_pos ⟨by omega, by omega⟩).trans (Eq.trans ?_ (if_neg (by omega)).symm)
    by_cases h2 : s.val + k.val + 2 < 32
    · refine (dif_pos (by omega)).trans (Eq.trans ?_ (dif_pos (by omega)).symm)
      refine congrArg (fun i => V (Proc.devRef .tc main_arg2) (ix2 i j)) (Fin.ext ?_)
      show 16 + k.val + s.val - 30 = (tok b s).val % 8192 + k.val + 2 - 16
      omega
    · refine (dif_neg (by omega)).trans (Eq.trans ?_ (dif_neg (by omega)).symm)
      refine congrArg (fun i => V (Proc.devRef .tc main_arg1) (ix2 i j)) (Fin.ext ?_)
      show b.val * 8192 + (16 + k.val + s.val - 30 - 16) = b.val * 8192 + s.val + k.val - 30
      omega

/-- One of the convolution's products. -/
def product (b : Fin 8) (s : Fin 8192) (j : Fin 512) (k : Fin 31) : EReal :=
  (arrays V).kernel (ix2 k j) * res_main_v6 V (ix3 b ⟨16 + k.val + s.val, by omega⟩ j)

theorem products (b : Fin 8) (s : Fin 8192) (j : Fin 512) :
    res_main_v227 V (ix3 b s j) = (∑ k, product V b s j k) + V (Proc.devRef .tc main_arg10) (ix1 j) := by
  simp only [Fin.sum_univ_castSucc, Fin.sum_univ_zero]
  pointwise [res_main_v227, res_main_v161, res_main_v84]
  rfl

theorem conv_at (b : Fin 8) (s : Fin 8192) (j : Fin 512) : res_main_v227 V (ix3 b s j) = conv (arrays V) (tok b s) j := by
  refine (products V b s j).trans ((add_comm (G := EReal) _ _).trans ?_)
  unfold conv
  refine congrArg ((arrays V).bias (ix1 j) + ·) (Finset.sum_congr rfl fun k _ => ?_)
  unfold product
  rw [padded_at]

theorem centred_at (b : Fin 8) (s : Fin 8192) (j : Fin 512) :
    res_main_v233 V (ix3 b s j) = conv (arrays V) (tok b s) j - mean (conv (arrays V) (tok b s)) := by
  pointwise [res_main_v233]
  simp only [conv_at]
  rfl

theorem norm_at (b : Fin 8) (s : Fin 8192) (j : Fin 512) :
    res_main_v249 V (ix3 b s j) = layerNorm (conv (arrays V) (tok b s)) ((arrays V).gain (ix1 j)) ((arrays V).shift (ix1 j)) j := by
  pointwise [res_main_v249]
  simp only [centred_at]
  rfl

theorem tok_split (t : Fin 65536) : tok ⟨t.val / 8192, by omega⟩ ⟨t.val % 8192, by omega⟩ = t := Fin.ext (by show t.val / 8192 * 8192 + t.val % 8192 = t.val; omega)

theorem hidden_at (t : Fin 65536) (d : Fin 1024) : res_main_v261 V (ix2 t d) = hidden (arrays V) (ix2 t d) := by
  pointwise [res_main_v261]
  simp only [norm_at, tok_split]
  rfl

/-! ## The two results -/

theorem split {n k : ℕ} (y : (⟨2, ![n, k]⟩ : Shape).Idx) : y = ix2 (y 0) (y 1) := by
  funext a
  match a with
  | ⟨0, _⟩ => rfl
  | ⟨1, _⟩ => rfl

theorem hidden_eq : res_main_v261 V = hidden (arrays V) := by
  funext y
  rw [split y]
  exact hidden_at V (y 0) (y 1)

/-- The second norm of the first result. -/
def second (x : FVec Ideal S65536x1024 .f32) (g : FVec Ideal S1024 .f32) : FVec Ideal S65536x1024 .bf16 :=
  truncf .bf16 (mulf (mulf x (broadcastInDim S65536x1024 ![0, 1] bcast_S65536x1_S65536x1024_0_1 (Host.rsqrt (addf (Host.divf (broadcastInDim S65536x1 ![0] bcast_S65536_S65536x1_0
    (Host.reduceAdd (mulf x x) (constant S_ .f32 0x00000000#32) reducesTo_S65536x1024_S65536_d1 h_S_)) (broadcastInDim S65536x1 ![] bcast_S_S65536x1 (constant S_ .f32 0x44800000#32)))
    (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))) bitsLt_bf16_f32

theorem second_at (x : FVec Ideal S65536x1024 .f32) (g : FVec Ideal S1024 .f32) (t : Fin 65536) (d : Fin 1024) :
    second x g (ix2 t d) = norm (fun k => x (ix2 t k)) (g (ix1 d)) d := by
  pointwise [second]
  rfl

theorem normed_eq : second (res_main_v261 V) (V (Proc.devRef .tc main_arg13)) = normed (arrays V) := by
  rw [hidden_eq]
  funext y
  rw [split y]
  exact second_at _ _ (y 0) (y 1)

/-! ## The experts' weights -/

/-- The groups that are kept. -/
def keptGroups (p : FVec Ideal S65536x4x1 .f32) (q : FVec Ideal S65536x1x4 .f32) (s : FVec Ideal S65536x4 .f32) : FVec Ideal S65536x4 .f32 :=
  select (cmpf .olt (Host.reduceAdd (id (α := FVec Ideal S65536x4x4 .f32) (select (ori (cmpf .ogt (broadcastInDim S65536x4x4 ![0, 1, 2] bcast_S65536x1x4_S65536x4x4_0_1_2 q) (broadcastInDim S65536x4x4 ![0, 1, 2] bcast_S65536x4x1_S65536x4x4_0_1_2 p)) (andi (cmpf .oeq (broadcastInDim S65536x4x4 ![0, 1, 2] bcast_S65536x1x4_S65536x4x4_0_1_2 q) (broadcastInDim S65536x4x4 ![0, 1, 2] bcast_S65536x4x1_S65536x4x4_0_1_2 p)) (broadcastInDim S65536x4x4 ![0, 1, 2] bcast_S1x4x4_S65536x4x4_0_1_2 (broadcastInDim S1x4x4 ![1, 2] bcast_S4x4_S1x4x4_1_2 (cmpi .slt (broadcastInDim S4x4 ![0, 1] bcast_S1x4_S4x4_0_1 (broadcastInDim S1x4 ![1] bcast_S4_S1x4_1 (iotaInDim S4 32 0))) (broadcastInDim S4x4 ![0, 1] bcast_S4x1_S4x4_0_1 (broadcastInDim S4x1 ![0] bcast_S4_S4x1_0 (iotaInDim S4 32 0)))))))) (broadcastInDim S65536x4x4 ![] bcast_S_S65536x4x4 (constant S_ .f32 0x3F800000#32)) (broadcastInDim S65536x4x4 ![] bcast_S_S65536x4x4 (constant S_ .f32 0x00000000#32)))) (constant S_ .f32 0x00000000#32) reducesTo_S65536x4x4_S65536x4_d2 h_S_) (broadcastInDim S65536x4 ![] bcast_S_S65536x4 (constant S_ .f32 0x3F800000#32))) s (broadcastInDim S65536x4 ![] bcast_S_S65536x4 (id (α := FVec Ideal S_ .f32) (constant S_ .f32 0x00000000#32)))

/-- The experts' weights, of the groups' probabilities and the experts that are kept. -/
def third (p : FVec Ideal S65536x4x1 .f32) (q : FVec Ideal S65536x1x4 .f32) (s : FVec Ideal S65536x4 .f32) (e : FVec Ideal S65536x4x4 .f32) : FVec Ideal S65536x128 .f32 :=
  pad S65536x128 ![0, 0] ![0, 112] ![0, 0] (shapeCast _ (mulf (broadcastInDim S65536x4x4 ![0, 1, 2] bcast_S65536x4x1_S65536x4x4_0_1_2 (broadcastInDim S65536x4x1 ![0, 1] bcast_S65536x4_S65536x4x1_0_1 (keptGroups p q s))) (Host.divf e (broadcastInDim S65536x4x4 ![0, 1, 2] bcast_S65536x4x1_S65536x4x4_0_1_2 (broadcastInDim S65536x4x1 ![0, 1] bcast_S65536x4_S65536x4x1_0_1 (Host.reduceAdd e (constant S_ .f32 0x00000000#32) reducesTo_S65536x4x4_S65536x4_d2 h_S_))))) shapeCasts_S65536x4x4_S65536x16) (sitofp .f32 (constantI S_ 32 0#32)) pads_S65536x16_S65536x128_000_01120 h_S_

theorem normed_at (t : Fin 65536) (d : Fin 1024) : res_main_v274 V (ix2 t d) = normed (arrays V) (ix2 t d) :=
  congrFun (normed_eq V) (ix2 t d)

theorem soft_group (t : Fin 65536) (k : Fin 4) : res_main_v283 V (ix2 t k) = Routing.soft (groups (arrays V) t) k := by
  pointwise [res_main_v283, res_main_v279]
  simp only [normed_at]
  rfl

theorem soft_expert (t : Fin 65536) (k j : Fin 4) : res_main_v318 V (ix3 t k j) = Routing.soft (experts (arrays V) t k) j := by
  pointwise [res_main_v318, res_main_v314]
  simp only [normed_at]
  rfl

theorem earlier : ∀ j i : Fin 4, IntOp.cmpi .slt (BitVec.ofNat 32 j.val) (BitVec.ofNat 32 i.val) = BitVec.ofBool (decide (j < i)) := by decide

/-- A one for each that beats. -/
theorem beats (p : Fin 4 → EReal) (j i : Fin 4) [Decidable (p i < p j)] [Decidable (p j = p i)] [Decidable (Routing.Beats p j i)] :
    Scalar.select (IntOp.ori (BitVec.ofBool (decide (p i < p j)))
      (IntOp.andi (BitVec.ofBool (decide (p j = p i))) (IntOp.cmpi .slt (BitVec.ofNat 32 j.val) (BitVec.ofNat 32 i.val)))) (1 : EReal) 0
      = if Routing.Beats p j i then 1 else 0 := by
  rw [earlier]
  have e : Routing.Beats p j i ↔ (p i < p j ∨ (p j = p i ∧ j < i)) := Iff.rfl
  by_cases h1 : p i < p j <;> by_cases h2 : p j = p i <;> by_cases h3 : j < i <;>
    simp [e, h1, h2, h3, Scalar.select, IntOp.ori, IntOp.andi]

theorem keep_group (t : Fin 65536) (k : Fin 4) : keptGroups (res_main_v284 V) (res_main_v285 V) (res_main_v283 V) (ix2 t k) = Routing.keep (Routing.soft (groups (arrays V) t)) 1 k := by
  classical
  unfold keptGroups res_main_v284 res_main_v285
  simp only [id_eq]
  pointwise
  simp only [soft_group]
  unfold Routing.keep
  simp only [beats]

theorem two : Ideal.ofBits .f32 0x40000000#32 = 2 := by
  simp [Ideal.ofBits, Ideal.ieee, -EReal.coe_mul]
  norm_num
  rfl

theorem keep_expert (t : Fin 65536) (k j : Fin 4) : res_main_v343 V (ix3 t k j) = Routing.keep (Routing.soft (experts (arrays V) t k)) 2 j := by
  classical
  unfold res_main_v343 res_main_v319 res_main_v320
  simp only [id_eq]
  pointwise
  simp only [soft_expert]
  unfold Routing.keep
  simp only [beats, two]

theorem third_at (t : Fin 65536) (n : Fin 128) (p : FVec Ideal S65536x4x1 .f32) (q : FVec Ideal S65536x1x4 .f32) (s : FVec Ideal S65536x4 .f32) (e : FVec Ideal S65536x4x4 .f32) :
    third p q s e (ix2 t n) = if h : n.val < 16 then keptGroups p q s (ix2 t ⟨n.val / 4, by omega⟩) * Ideal.div (e (ix3 t ⟨n.val / 4, by omega⟩ ⟨n.val % 4, by omega⟩))
      (∑ i, e (ix3 t ⟨n.val / 4, by omega⟩ i)) else 0 := by
  pointwise [third]
  have h0 : (FloatOps.sitofp .f32 0#32 : Ideal .f32) = (0 : EReal) := by
    show (((0#32 : BitVec 32).toInt : ℝ) : EReal) = 0
    simp
  rw [h0]

theorem choice_at (t : Fin 65536) (k j : Fin 4) :
    (keptGroups (res_main_v284 V) (res_main_v285 V) (res_main_v283 V) (ix2 t k) * Ideal.div (res_main_v343 V (ix3 t k j)) (∑ i : Fin 4, (res_main_v343 V : FVec Ideal S65536x4x4 .f32) (ix3 t k i)) : EReal)
      = Routing.choice (groups (arrays V) t) (experts (arrays V) t) k j := by
  unfold Routing.choice
  simp only [keep_group, keep_expert]

theorem combine_at (t : Fin 65536) (n : Fin 128) :
    third (res_main_v284 V) (res_main_v285 V) (res_main_v283 V) (res_main_v343 V) (ix2 t n) = combine (arrays V) (ix2 t n) := by
  rw [third_at]
  show _ = if h : n.val < 16 then Routing.choice (groups (arrays V) t) (experts (arrays V) t) ⟨n.val / 4, by omega⟩ ⟨n.val % 4, by omega⟩ else 0
  by_cases h : n.val < 16
  · rw [dif_pos h, dif_pos h]
    exact choice_at V t _ _
  · rw [dif_neg h, dif_neg h]

theorem combine_eq : third (res_main_v284 V) (res_main_v285 V) (res_main_v283 V) (res_main_v343 V) = combine (arrays V) := by
  funext y
  rw [split y]
  exact combine_at V (y 0) (y 1)

end Cert.Proof.MixRefIdeal

end
-- ==== Proof.MixClaims.lean ====
/-
  The mixing's claims: the three programs run and leave their arguments alone, nothing was replaced, the kernel's first two
  results are the reference's, and where the last norm's row and the router are finite so is the third.
-/
module

public import proofs.«01_k».proof.Defs
public import proofs.«01_k».proof.Proof.Gen.Mix.Frame
public import proofs.«01_k».proof.Proof.MixIdeal.Result
public import proofs.«01_k».proof.Proof.MixRefIdeal.Value

@[expose] public section

noncomputable section

namespace Cert.Proof.MixClaims

open Idealize.ShloMosaic Idealize.ShloMosaic.TcCoe Idealize.ShloMosaic.Pointwise Idealize.SL.Sem Cert.Mixing

/-- What the precondition's operations ask of their shapes, and the mask's. -/
theorem pre_facts : Cert.Pre_finite_router.Facts := ⟨by decide, by decide, by decide, by decide, by decide⟩
theorem on_facts : Cert.On_residual_and_norm.Facts := ⟨by decide, by decide⟩

/-- The mixing's kernel runs, its arguments unchanged and its counters back at zero. -/
theorem frame_p : Cert.quiescent_Mix (hMix := Cert.Mix.Gen.facts) := fun m g _ => Cert.Mix.Gen.frame m g

/-- So does its idealization. -/
theorem frame_pi : Cert.quiescent_MixIdeal (hMixIdeal := Cert.MixIdeal.Gen.facts) := fun m g _ => Cert.MixIdeal.Gen.frame m g

theorem frame_pi_pre : Cert.quiescent_MixIdeal_pre_finite_router (hMixIdeal := Cert.MixIdeal.Gen.facts)
    (hPre_finite_router := pre_facts) := fun m g _ => Cert.MixIdeal.Gen.frame m g

/-- So does the reference. -/
theorem frame_ri : Cert.quiescent_MixRefIdeal (hMixRefIdeal := Cert.MixRefIdeal.Gen.facts) := fun m g _ =>
  (θ_run _ _ _).mono (fun r h => ⟨fun c => (h.1 c).2.2.2, h.2⟩)
    (θ_run_and (Cert.MixRefIdeal.Value.run m g) ((θ_run _ _ _).mono (fun r _ => sem_eq_zero_of_no_sems (sig := Cert.MixRefIdeal.sig) rfl r.2)
      (Cert.MixRefIdeal.Value.run m g)))

theorem preserves : Cert.preserves_Mix_MixIdeal := trivial

theorem frame_ri_pre : Cert.quiescent_MixRefIdeal_pre_finite_router (hMixRefIdeal := Cert.MixRefIdeal.Gen.facts)
    (hPre_finite_router := pre_facts) := fun m g _ => frame_ri m g trivial

/-- A place that the mask leaves out. -/
theorem off : ¬ (0#1 : BitVec 1) = 1#1 := by decide

/-- At exact reals both end with the residual and its norm, of the arguments. -/
theorem algebraic : Cert.algebraic_MixIdeal_MixRefIdeal_on_residual_and_norm (hMixIdeal := Cert.MixIdeal.Gen.facts)
    (hMixRefIdeal := Cert.MixRefIdeal.Gen.facts) (hOn_residual_and_norm := on_facts) := fun m g m' g' _ e => by
  refine ⟨fun c => Mixing.hidden (MixIdeal.arrays m c), fun c => normed (MixIdeal.arrays m c), fun c => combine (MixIdeal.arrays m c),
    (θ_run _ _ _).mono (fun r h c => ?_) (Cert.MixIdeal.Value.run_blocks m g),
    (θ_run _ _ _).mono (fun r h c => ?_) (Cert.MixRefIdeal.Value.run m' g')⟩
  · obtain ⟨h0, h1, _, h2⟩ := h c
    exact ⟨fun i _ => congrFun (h0.trans (MixIdeal.arr17 m c)) i, fun i _ => congrFun (h1.trans (MixIdeal.arr18 m c)) i,
      fun i hi => absurd hi off, h2⟩
  · obtain ⟨h0, h1, _, h2⟩ := h c
    obtain ⟨e0, e1, e2, e3, e4, e5, e6, e7, e8, e9, e10, e11, e12, e13, e14, e15, e16, e17⟩ := e c
    have ea : MixRefIdeal.arrays (Idealize.ShloMosaic.StableHlo.launchContents m' c) = MixIdeal.arrays m c := by
      rw [MixIdeal.arrays, ← e0, ← e1, ← e2, ← e3, ← e4, ← e5, ← e6, ← e7, ← e8, ← e9, ← e10, ← e11, ← e12, ← e13, ← e14, ← e15, ← e16, ← e17]
      rfl
    exact ⟨fun i _ => congrFun (h0.trans ((MixRefIdeal.hidden_eq _).trans (congrArg Mixing.hidden ea))) i,
      fun i _ => congrFun (h1.trans ((MixRefIdeal.normed_eq _).trans (congrArg normed ea))) i, fun i hi => absurd hi off, h2⟩

/-! ## A finite router -/

/-- An array whose numbers' absolute values are all below infinity is one of real numbers. -/
theorem real_of {S : Shape} (a : FVec Ideal S .f32) (hb : (⟨0, ![]⟩ : Shape).BroadcastsInDim S (![] : Fin 0 → Fin S.rank))
    (h : cmpf .olt (Host.absf a) (broadcastInDim S ![] hb (constant ⟨0, ![]⟩ .f32 0x7F800000#32)) = fun _ => 1#1) (y : S.Idx) : IsReal (a y) := by
  have h' : BitVec.ofBool (decide (max (a y) (-(a y)) < Ideal.ofBits .f32 0x7F800000#32)) = 1#1 := congrFun h y
  have top : Ideal.ofBits .f32 0x7F800000#32 = ⊤ := by simp [Ideal.ofBits, Ideal.ieee, -EReal.coe_mul]
  rw [top] at h'
  have hd : decide (max (a y) (-(a y) : EReal) < ⊤) = true := by
    cases hc : decide (max (a y) (-(a y) : EReal) < ⊤)
    · rw [hc] at h'
      exact absurd h' (by decide)
    · rfl
  have hl := of_decide_eq_true hd
  have h1 : (a y : EReal) ≠ ⊤ := ((le_max_left _ _).trans_lt hl).ne
  have h2 : (a y : EReal) ≠ ⊥ := by
    intro hbot
    have := (le_max_right (a y : EReal) (-(a y))).trans_lt hl
    rw [hbot, EReal.neg_bot] at this
    exact absurd this (lt_irrefl _)
  exact ⟨EReal.toReal (a y), (EReal.coe_toReal h1 h2).symm⟩

/-- The precondition's arrays are of real numbers. -/
theorem finite (m : (ℓ : Loc Cert.MixIdeal.nD Cert.MixIdeal.τ Cert.MixIdeal.sig) → Buf (Elt Ideal) ℓ)
    (h : Cert.Pre_MixIdeal_finite_router (hPre_finite_router := pre_facts) m) (c : Dev Cert.MixIdeal.nD) : Finite (MixIdeal.arrays m c) := by
  obtain ⟨h0, h1, h2, h3, h4⟩ := h c
  exact ⟨real_of (S := ⟨1, ![1024]⟩) _ _ h0, real_of (S := ⟨2, ![1024, 4]⟩) _ _ h1, real_of (S := ⟨1, ![4]⟩) _ _ h2,
    real_of (S := ⟨2, ![1024, 16]⟩) _ _ h3, real_of (S := ⟨1, ![16]⟩) _ _ h4⟩

/-- At exact reals and with a finite router both end with the residual, its norm and the experts' weights. -/
theorem algebraic_pre : Cert.algebraic_MixIdeal_MixRefIdeal_pre_finite_router (hMixIdeal := Cert.MixIdeal.Gen.facts)
    (hMixRefIdeal := Cert.MixRefIdeal.Gen.facts) (hPre_finite_router := pre_facts) := fun m g m' g' p e => by
  refine ⟨fun c => Mixing.hidden (MixIdeal.arrays m c), fun c => normed (MixIdeal.arrays m c), fun c => combine (MixIdeal.arrays m c),
    (θ_run _ _ _).mono (fun r h c => ?_) (Cert.MixIdeal.Value.run_blocks m g),
    (θ_run _ _ _).mono (fun r h c => ?_) (Cert.MixRefIdeal.Value.run m' g')⟩
  · obtain ⟨h0, h1, h2, h3⟩ := h c
    exact ⟨h0.trans (MixIdeal.arr17 m c), h1.trans (MixIdeal.arr18 m c), h2.trans (MixIdeal.arr19 m c (finite m p c)), h3⟩
  · obtain ⟨h0, h1, h2, h3⟩ := h c
    obtain ⟨e0, e1, e2, e3, e4, e5, e6, e7, e8, e9, e10, e11, e12, e13, e14, e15, e16, e17⟩ := e c
    have ea : MixRefIdeal.arrays (Idealize.ShloMosaic.StableHlo.launchContents m' c) = MixIdeal.arrays m c := by
      rw [MixIdeal.arrays, ← e0, ← e1, ← e2, ← e3, ← e4, ← e5, ← e6, ← e7, ← e8, ← e9, ← e10, ← e11, ← e12, ← e13, ← e14, ← e15, ← e16, ← e17]
      rfl
    exact ⟨h0.trans ((MixRefIdeal.hidden_eq _).trans (congrArg Mixing.hidden ea)), h1.trans ((MixRefIdeal.normed_eq _).trans (congrArg normed ea)),
      h2.trans ((MixRefIdeal.combine_eq _).trans (congrArg combine ea)), h3⟩

end Cert.Proof.MixClaims

end
-- ==== Proof.lean ====
/-
  The claims about the attention, the experts, the projections and the mixing, each proved in a module of its own, put together.
-/
module

public import proofs.«01_k».proof.Defs
public import proofs.«01_k».proof.Proof.AttnClaims
public import proofs.«01_k».proof.Proof.MoeClaims
public import proofs.«01_k».proof.Proof.ProjClaims
public import proofs.«01_k».proof.Proof.MixClaims
public import proofs.«01_k».proof.Proof.Gen.Moe.Frame
public import proofs.«01_k».proof.Proof.Gen.MoeIdeal.Frame
public import proofs.«01_k».proof.Proof.Gen.MoeIdeal.Value
public import proofs.«01_k».proof.Proof.Gen.MoeRefIdeal.Run
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnRefIdeal.Run
public import proofs.«01_k».proof.Proof.Gen.AttnRefIdeal
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts,
  Cert.Moe.Gen.facts, Cert.MoeIdeal.Gen.facts, Cert.MoeRefIdeal.Gen.facts,
  Cert.Proj.Gen.facts, Cert.ProjIdeal.Gen.facts, Cert.ProjRefIdeal.Gen.facts,
  Cert.Mix.Gen.facts, Cert.MixIdeal.Gen.facts, Cert.MixRefIdeal.Gen.facts, MoeClaims.pre_facts, MixClaims.pre_facts, MixClaims.on_facts,
  AttnClaims.frame_p, AttnClaims.frame_pi, AttnClaims.frame_ri,
  MoeClaims.frame_p, MoeClaims.frame_pi, MoeClaims.frame_pi_pre, MoeClaims.frame_ri, MoeClaims.frame_ri_pre,
  ProjClaims.frame_p, ProjClaims.frame_pi, ProjClaims.frame_ri,
  MixClaims.frame_p, MixClaims.frame_pi, MixClaims.frame_pi_pre, MixClaims.frame_ri, MixClaims.frame_ri_pre,
  AttnClaims.preserves, AttnClaims.algebraic, MoeClaims.preserves, MoeClaims.algebraic, ProjClaims.preserves, ProjClaims.algebraic,
  MixClaims.preserves, MixClaims.algebraic, MixClaims.algebraic_pre⟩

end Cert.Proof

end
